-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_scores [hPre_finite_scores : Cert.Pre_finite_scores.Facts] (m : (ℓ : Loc Cert.FoxIdeal.nD Cert.FoxIdeal.τ Cert.FoxIdeal.sig) → Buf (Elt Ideal) ℓ) : Prop :=
  ∀ c : Dev Cert.FoxIdeal.nD,
    (Cert.Pre_finite_scores.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).1 = (fun _ => 1#1)
    ∧ (Cert.Pre_finite_scores.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).2.1 = (fun _ => 1#1)
    ∧ (Cert.Pre_finite_scores.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite_scores [hPre_finite_scores : Cert.Pre_finite_scores.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite_scores.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).1 = (fun _ => 1#1)
    ∧ (Cert.Pre_finite_scores.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).2.1 = (fun _ => 1#1)
    ∧ (Cert.Pre_finite_scores.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Pab (m : (ℓ : Loc Cert.Pab.nD Cert.Pab.τ Cert.Pab.sig) → Buf (Elt Bits) ℓ) : Prop :=
  True

def Pre_PabIdeal (m : (ℓ : Loc Cert.PabIdeal.nD Cert.PabIdeal.τ Cert.PabIdeal.sig) → Buf (Elt Ideal) ℓ) : Prop :=
  True

def Pre_PabRefIdeal (m : (ℓ : Loc Cert.PabRefIdeal.nD Cert.PabRefIdeal.τ Cert.PabRefIdeal.sig) → Buf (Elt Ideal) ℓ) : Prop :=
  True

def Pre_Pcd (m : (ℓ : Loc Cert.Pcd.nD Cert.Pcd.τ Cert.Pcd.sig) → Buf (Elt Bits) ℓ) : Prop :=
  True

def Pre_PcdIdeal (m : (ℓ : Loc Cert.PcdIdeal.nD Cert.PcdIdeal.τ Cert.PcdIdeal.sig) → Buf (Elt Ideal) ℓ) : Prop :=
  True

def Pre_PcdRefIdeal (m : (ℓ : Loc Cert.PcdRefIdeal.nD Cert.PcdRefIdeal.τ Cert.PcdRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdIdeal_decaying [hPre_decaying : Cert.Pre_decaying.Facts] (m : (ℓ : Loc Cert.SsdIdeal.nD Cert.SsdIdeal.τ Cert.SsdIdeal.sig) → Buf (Elt Ideal) ℓ) : Prop :=
  ∀ c : Dev Cert.SsdIdeal.nD,
    (Cert.Pre_decaying.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6)) (m ((c.tc : Thread Cert.SsdIdeal.nD Cert.SsdIdeal.τ).loc Cert.SsdIdeal.main_arg7))) = (fun _ => 1#1)

def Pre_SsdRefIdeal (m : (ℓ : Loc Cert.SsdRefIdeal.nD Cert.SsdRefIdeal.τ Cert.SsdRefIdeal.sig) → Buf (Elt Ideal) ℓ) : Prop :=
  True

def Pre_SsdRefIdeal_decaying [hPre_decaying : Cert.Pre_decaying.Facts] (m : (ℓ : Loc Cert.SsdRefIdeal.nD Cert.SsdRefIdeal.τ Cert.SsdRefIdeal.sig) → Buf (Elt Ideal) ℓ) : Prop :=
  ∀ c : Dev Cert.SsdRefIdeal.nD,
    (Cert.Pre_decaying.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6)) (m ((c.tc : Thread Cert.SsdRefIdeal.nD Cert.SsdRefIdeal.τ).loc Cert.SsdRefIdeal.main_arg7))) = (fun _ => 1#1)

def Pre_Mcd (m : (ℓ : Loc Cert.Mcd.nD Cert.Mcd.τ Cert.Mcd.sig) → Buf (Elt Bits) ℓ) : Prop :=
  True

def Pre_McdIdeal (m : (ℓ : Loc Cert.McdIdeal.nD Cert.McdIdeal.τ Cert.McdIdeal.sig) → Buf (Elt Ideal) ℓ) : Prop :=
  True

def Pre_McdRefIdeal (m : (ℓ : Loc Cert.McdRefIdeal.nD Cert.McdRefIdeal.τ Cert.McdRefIdeal.sig) → Buf (Elt Ideal) ℓ) : Prop :=
  True

def Pre_Mab (m : (ℓ : Loc Cert.Mab.nD Cert.Mab.τ Cert.Mab.sig) → Buf (Elt Bits) ℓ) : Prop :=
  True

def Pre_MabIdeal (m : (ℓ : Loc Cert.MabIdeal.nD Cert.MabIdeal.τ Cert.MabIdeal.sig) → Buf (Elt Ideal) ℓ) : Prop :=
  True

def Pre_MabRefIdeal (m : (ℓ : Loc Cert.MabRefIdeal.nD Cert.MabRefIdeal.τ Cert.MabRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_finite_scores [hFoxIdeal : Cert.FoxIdeal.Facts] [hPre_finite_scores : Cert.Pre_finite_scores.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_scores m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FoxRefIdeal_pre_finite_scores [hFoxRefIdeal : Cert.FoxRefIdeal.Facts] [hPre_finite_scores : Cert.Pre_finite_scores.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite_scores m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Pab [hPab : Cert.Pab.Facts] : Prop :=
  ∀ (m : (ℓ : Loc Cert.Pab.nD Cert.Pab.τ Cert.Pab.sig) → Buf (Elt Bits) ℓ) (g : Dev Cert.Pab.nD → PrngReg), Pre_Pab m →
    θ_run (Cert.Pab.defs (F := Bits)) (onTc (τ := Cert.Pab.τ) (Cert.Pab.main (F := Bits))) ⟨m, fun _ => 0, g⟩ (fun r => (∀ c : Dev Cert.Pab.nD,
      r.2.mem ((c.tc : Thread Cert.Pab.nD Cert.Pab.τ).loc Cert.Pab.main_arg0) = m ((c.tc : Thread Cert.Pab.nD Cert.Pab.τ).loc Cert.Pab.main_arg0)
      ∧ r.2.mem ((c.tc : Thread Cert.Pab.nD Cert.Pab.τ).loc Cert.Pab.main_arg1) = m ((c.tc : Thread Cert.Pab.nD Cert.Pab.τ).loc Cert.Pab.main_arg1)
      ∧ r.2.mem ((c.tc : Thread Cert.Pab.nD Cert.Pab.τ).loc Cert.Pab.main_arg2) = m ((c.tc : Thread Cert.Pab.nD Cert.Pab.τ).loc Cert.Pab.main_arg2)
      ∧ r.2.mem ((c.tc : Thread Cert.Pab.nD Cert.Pab.τ).loc Cert.Pab.main_arg3) = m ((c.tc : Thread Cert.Pab.nD Cert.Pab.τ).loc Cert.Pab.main_arg3))
      ∧ r.2.sem = fun _ => 0)

def quiescent_PabIdeal [hPabIdeal : Cert.PabIdeal.Facts] : Prop :=
  ∀ (m : (ℓ : Loc Cert.PabIdeal.nD Cert.PabIdeal.τ Cert.PabIdeal.sig) → Buf (Elt Ideal) ℓ) (g : Dev Cert.PabIdeal.nD → PrngReg), Pre_PabIdeal m →
    θ_run (Cert.PabIdeal.defs (F := Ideal)) (onTc (τ := Cert.PabIdeal.τ) (Cert.PabIdeal.main (F := Ideal))) ⟨m, fun _ => 0, g⟩ (fun r => (∀ c : Dev Cert.PabIdeal.nD,
      r.2.mem ((c.tc : Thread Cert.PabIdeal.nD Cert.PabIdeal.τ).loc Cert.PabIdeal.main_arg0) = m ((c.tc : Thread Cert.PabIdeal.nD Cert.PabIdeal.τ).loc Cert.PabIdeal.main_arg0)
      ∧ r.2.mem ((c.tc : Thread Cert.PabIdeal.nD Cert.PabIdeal.τ).loc Cert.PabIdeal.main_arg1) = m ((c.tc : Thread Cert.PabIdeal.nD Cert.PabIdeal.τ).loc Cert.PabIdeal.main_arg1)
      ∧ r.2.mem ((c.tc : Thread Cert.PabIdeal.nD Cert.PabIdeal.τ).loc Cert.PabIdeal.main_arg2) = m ((c.tc : Thread Cert.PabIdeal.nD Cert.PabIdeal.τ).loc Cert.PabIdeal.main_arg2)
      ∧ r.2.mem ((c.tc : Thread Cert.PabIdeal.nD Cert.PabIdeal.τ).loc Cert.PabIdeal.main_arg3) = m ((c.tc : Thread Cert.PabIdeal.nD Cert.PabIdeal.τ).loc Cert.PabIdeal.main_arg3))
      ∧ r.2.sem = fun _ => 0)

def quiescent_PabRefIdeal [hPabRefIdeal : Cert.PabRefIdeal.Facts] : Prop :=
  ∀ (m : (ℓ : Loc Cert.PabRefIdeal.nD Cert.PabRefIdeal.τ Cert.PabRefIdeal.sig) → Buf (Elt Ideal) ℓ) (g : Dev Cert.PabRefIdeal.nD → PrngReg), Pre_PabRefIdeal m →
    θ_run (Cert.PabRefIdeal.defs (F := Ideal)) (onTc (τ := Cert.PabRefIdeal.τ) (Cert.PabRefIdeal.main (F := Ideal))) ⟨m, fun _ => 0, g⟩ (fun r => (∀ c : Dev Cert.PabRefIdeal.nD,
      r.2.mem ((c.tc : Thread Cert.PabRefIdeal.nD Cert.PabRefIdeal.τ).loc Cert.PabRefIdeal.main_arg0) = m ((c.tc : Thread Cert.PabRefIdeal.nD Cert.PabRefIdeal.τ).loc Cert.PabRefIdeal.main_arg0)
      ∧ r.2.mem ((c.tc : Thread Cert.PabRefIdeal.nD Cert.PabRefIdeal.τ).loc Cert.PabRefIdeal.main_arg1) = m ((c.tc : Thread Cert.PabRefIdeal.nD Cert.PabRefIdeal.τ).loc Cert.PabRefIdeal.main_arg1)
      ∧ r.2.mem ((c.tc : Thread Cert.PabRefIdeal.nD Cert.PabRefIdeal.τ).loc Cert.PabRefIdeal.main_arg2) = m ((c.tc : Thread Cert.PabRefIdeal.nD Cert.PabRefIdeal.τ).loc Cert.PabRefIdeal.main_arg2)
      ∧ r.2.mem ((c.tc : Thread Cert.PabRefIdeal.nD Cert.PabRefIdeal.τ).loc Cert.PabRefIdeal.main_arg3) = m ((c.tc : Thread Cert.PabRefIdeal.nD Cert.PabRefIdeal.τ).loc Cert.PabRefIdeal.main_arg3))
      ∧ r.2.sem = fun _ => 0)

def quiescent_Pcd [hPcd : Cert.Pcd.Facts] : Prop :=
  ∀ (m : (ℓ : Loc Cert.Pcd.nD Cert.Pcd.τ Cert.Pcd.sig) → Buf (Elt Bits) ℓ) (g : Dev Cert.Pcd.nD → PrngReg), Pre_Pcd m →
    θ_run (Cert.Pcd.defs (F := Bits)) (onTc (τ := Cert.Pcd.τ) (Cert.Pcd.main (F := Bits))) ⟨m, fun _ => 0, g⟩ (fun r => (∀ c : Dev Cert.Pcd.nD,
      r.2.mem ((c.tc : Thread Cert.Pcd.nD Cert.Pcd.τ).loc Cert.Pcd.main_arg0) = m ((c.tc : Thread Cert.Pcd.nD Cert.Pcd.τ).loc Cert.Pcd.main_arg0)
      ∧ r.2.mem ((c.tc : Thread Cert.Pcd.nD Cert.Pcd.τ).loc Cert.Pcd.main_arg1) = m ((c.tc : Thread Cert.Pcd.nD Cert.Pcd.τ).loc Cert.Pcd.main_arg1)
      ∧ r.2.mem ((c.tc : Thread Cert.Pcd.nD Cert.Pcd.τ).loc Cert.Pcd.main_arg2) = m ((c.tc : Thread Cert.Pcd.nD Cert.Pcd.τ).loc Cert.Pcd.main_arg2)
      ∧ r.2.mem ((c.tc : Thread Cert.Pcd.nD Cert.Pcd.τ).loc Cert.Pcd.main_arg3) = m ((c.tc : Thread Cert.Pcd.nD Cert.Pcd.τ).loc Cert.Pcd.main_arg3))
      ∧ r.2.sem = fun _ => 0)

def quiescent_PcdIdeal [hPcdIdeal : Cert.PcdIdeal.Facts] : Prop :=
  ∀ (m : (ℓ : Loc Cert.PcdIdeal.nD Cert.PcdIdeal.τ Cert.PcdIdeal.sig) → Buf (Elt Ideal) ℓ) (g : Dev Cert.PcdIdeal.nD → PrngReg), Pre_PcdIdeal m →
    θ_run (Cert.PcdIdeal.defs (F := Ideal)) (onTc (τ := Cert.PcdIdeal.τ) (Cert.PcdIdeal.main (F := Ideal))) ⟨m, fun _ => 0, g⟩ (fun r => (∀ c : Dev Cert.PcdIdeal.nD,
      r.2.mem ((c.tc : Thread Cert.PcdIdeal.nD Cert.PcdIdeal.τ).loc Cert.PcdIdeal.main_arg0) = m ((c.tc : Thread Cert.PcdIdeal.nD Cert.PcdIdeal.τ).loc Cert.PcdIdeal.main_arg0)
      ∧ r.2.mem ((c.tc : Thread Cert.PcdIdeal.nD Cert.PcdIdeal.τ).loc Cert.PcdIdeal.main_arg1) = m ((c.tc : Thread Cert.PcdIdeal.nD Cert.PcdIdeal.τ).loc Cert.PcdIdeal.main_arg1)
      ∧ r.2.mem ((c.tc : Thread Cert.PcdIdeal.nD Cert.PcdIdeal.τ).loc Cert.PcdIdeal.main_arg2) = m ((c.tc : Thread Cert.PcdIdeal.nD Cert.PcdIdeal.τ).loc Cert.PcdIdeal.main_arg2)
      ∧ r.2.mem ((c.tc : Thread Cert.PcdIdeal.nD Cert.PcdIdeal.τ).loc Cert.PcdIdeal.main_arg3) = m ((c.tc : Thread Cert.PcdIdeal.nD Cert.PcdIdeal.τ).loc Cert.PcdIdeal.main_arg3))
      ∧ r.2.sem = fun _ => 0)

def quiescent_PcdRefIdeal [hPcdRefIdeal : Cert.PcdRefIdeal.Facts] : Prop :=
  ∀ (m : (ℓ : Loc Cert.PcdRefIdeal.nD Cert.PcdRefIdeal.τ Cert.PcdRefIdeal.sig) → Buf (Elt Ideal) ℓ) (g : Dev Cert.PcdRefIdeal.nD → PrngReg), Pre_PcdRefIdeal m →
    θ_run (Cert.PcdRefIdeal.defs (F := Ideal)) (onTc (τ := Cert.PcdRefIdeal.τ) (Cert.PcdRefIdeal.main (F := Ideal))) ⟨m, fun _ => 0, g⟩ (fun r => (∀ c : Dev Cert.PcdRefIdeal.nD,
      r.2.mem ((c.tc : Thread Cert.PcdRefIdeal.nD Cert.PcdRefIdeal.τ).loc Cert.PcdRefIdeal.main_arg0) = m ((c.tc : Thread Cert.PcdRefIdeal.nD Cert.PcdRefIdeal.τ).loc Cert.PcdRefIdeal.main_arg0)
      ∧ r.2.mem ((c.tc : Thread Cert.PcdRefIdeal.nD Cert.PcdRefIdeal.τ).loc Cert.PcdRefIdeal.main_arg1) = m ((c.tc : Thread Cert.PcdRefIdeal.nD Cert.PcdRefIdeal.τ).loc Cert.PcdRefIdeal.main_arg1)
      ∧ r.2.mem ((c.tc : Thread Cert.PcdRefIdeal.nD Cert.PcdRefIdeal.τ).loc Cert.PcdRefIdeal.main_arg2) = m ((c.tc : Thread Cert.PcdRefIdeal.nD Cert.PcdRefIdeal.τ).loc Cert.PcdRefIdeal.main_arg2)
      ∧ r.2.mem ((c.tc : Thread Cert.PcdRefIdeal.nD Cert.PcdRefIdeal.τ).loc Cert.PcdRefIdeal.main_arg3) = m ((c.tc : Thread Cert.PcdRefIdeal.nD Cert.PcdRefIdeal.τ).loc Cert.PcdRefIdeal.main_arg3))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7))
      ∧ r.2.sem = fun _ => 0)

def quiescent_SsdIdeal_pre_decaying [hSsdIdeal : Cert.SsdIdeal.Facts] [hPre_decaying : Cert.Pre_decaying.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal_decaying m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7))
      ∧ r.2.sem = fun _ => 0)

def quiescent_SsdRefIdeal_pre_decaying [hSsdRefIdeal : Cert.SsdRefIdeal.Facts] [hPre_decaying : Cert.Pre_decaying.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal_decaying m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7))
      ∧ r.2.sem = fun _ => 0)

def quiescent_Mcd [hMcd : Cert.Mcd.Facts] : Prop :=
  ∀ (m : (ℓ : Loc Cert.Mcd.nD Cert.Mcd.τ Cert.Mcd.sig) → Buf (Elt Bits) ℓ) (g : Dev Cert.Mcd.nD → PrngReg), Pre_Mcd m →
    θ_run (Cert.Mcd.defs (F := Bits)) (onTc (τ := Cert.Mcd.τ) (Cert.Mcd.main (F := Bits))) ⟨m, fun _ => 0, g⟩ (fun r => (∀ c : Dev Cert.Mcd.nD,
      r.2.mem ((c.tc : Thread Cert.Mcd.nD Cert.Mcd.τ).loc Cert.Mcd.main_arg0) = m ((c.tc : Thread Cert.Mcd.nD Cert.Mcd.τ).loc Cert.Mcd.main_arg0)
      ∧ r.2.mem ((c.tc : Thread Cert.Mcd.nD Cert.Mcd.τ).loc Cert.Mcd.main_arg1) = m ((c.tc : Thread Cert.Mcd.nD Cert.Mcd.τ).loc Cert.Mcd.main_arg1)
      ∧ r.2.mem ((c.tc : Thread Cert.Mcd.nD Cert.Mcd.τ).loc Cert.Mcd.main_arg2) = m ((c.tc : Thread Cert.Mcd.nD Cert.Mcd.τ).loc Cert.Mcd.main_arg2)
      ∧ r.2.mem ((c.tc : Thread Cert.Mcd.nD Cert.Mcd.τ).loc Cert.Mcd.main_arg3) = m ((c.tc : Thread Cert.Mcd.nD Cert.Mcd.τ).loc Cert.Mcd.main_arg3)
      ∧ r.2.mem ((c.tc : Thread Cert.Mcd.nD Cert.Mcd.τ).loc Cert.Mcd.main_arg4) = m ((c.tc : Thread Cert.Mcd.nD Cert.Mcd.τ).loc Cert.Mcd.main_arg4)
      ∧ r.2.mem ((c.tc : Thread Cert.Mcd.nD Cert.Mcd.τ).loc Cert.Mcd.main_arg5) = m ((c.tc : Thread Cert.Mcd.nD Cert.Mcd.τ).loc Cert.Mcd.main_arg5)
      ∧ r.2.mem ((c.tc : Thread Cert.Mcd.nD Cert.Mcd.τ).loc Cert.Mcd.main_arg6) = m ((c.tc : Thread Cert.Mcd.nD Cert.Mcd.τ).loc Cert.Mcd.main_arg6))
      ∧ r.2.sem = fun _ => 0)

def quiescent_McdIdeal [hMcdIdeal : Cert.McdIdeal.Facts] : Prop :=
  ∀ (m : (ℓ : Loc Cert.McdIdeal.nD Cert.McdIdeal.τ Cert.McdIdeal.sig) → Buf (Elt Ideal) ℓ) (g : Dev Cert.McdIdeal.nD → PrngReg), Pre_McdIdeal m →
    θ_run (Cert.McdIdeal.defs (F := Ideal)) (onTc (τ := Cert.McdIdeal.τ) (Cert.McdIdeal.main (F := Ideal))) ⟨m, fun _ => 0, g⟩ (fun r => (∀ c : Dev Cert.McdIdeal.nD,
      r.2.mem ((c.tc : Thread Cert.McdIdeal.nD Cert.McdIdeal.τ).loc Cert.McdIdeal.main_arg0) = m ((c.tc : Thread Cert.McdIdeal.nD Cert.McdIdeal.τ).loc Cert.McdIdeal.main_arg0)
      ∧ r.2.mem ((c.tc : Thread Cert.McdIdeal.nD Cert.McdIdeal.τ).loc Cert.McdIdeal.main_arg1) = m ((c.tc : Thread Cert.McdIdeal.nD Cert.McdIdeal.τ).loc Cert.McdIdeal.main_arg1)
      ∧ r.2.mem ((c.tc : Thread Cert.McdIdeal.nD Cert.McdIdeal.τ).loc Cert.McdIdeal.main_arg2) = m ((c.tc : Thread Cert.McdIdeal.nD Cert.McdIdeal.τ).loc Cert.McdIdeal.main_arg2)
      ∧ r.2.mem ((c.tc : Thread Cert.McdIdeal.nD Cert.McdIdeal.τ).loc Cert.McdIdeal.main_arg3) = m ((c.tc : Thread Cert.McdIdeal.nD Cert.McdIdeal.τ).loc Cert.McdIdeal.main_arg3)
      ∧ r.2.mem ((c.tc : Thread Cert.McdIdeal.nD Cert.McdIdeal.τ).loc Cert.McdIdeal.main_arg4) = m ((c.tc : Thread Cert.McdIdeal.nD Cert.McdIdeal.τ).loc Cert.McdIdeal.main_arg4)
      ∧ r.2.mem ((c.tc : Thread Cert.McdIdeal.nD Cert.McdIdeal.τ).loc Cert.McdIdeal.main_arg5) = m ((c.tc : Thread Cert.McdIdeal.nD Cert.McdIdeal.τ).loc Cert.McdIdeal.main_arg5)
      ∧ r.2.mem ((c.tc : Thread Cert.McdIdeal.nD Cert.McdIdeal.τ).loc Cert.McdIdeal.main_arg6) = m ((c.tc : Thread Cert.McdIdeal.nD Cert.McdIdeal.τ).loc Cert.McdIdeal.main_arg6))
      ∧ r.2.sem = fun _ => 0)

def quiescent_McdRefIdeal [hMcdRefIdeal : Cert.McdRefIdeal.Facts] : Prop :=
  ∀ (m : (ℓ : Loc Cert.McdRefIdeal.nD Cert.McdRefIdeal.τ Cert.McdRefIdeal.sig) → Buf (Elt Ideal) ℓ) (g : Dev Cert.McdRefIdeal.nD → PrngReg), Pre_McdRefIdeal m →
    θ_run (Cert.McdRefIdeal.defs (F := Ideal)) (onTc (τ := Cert.McdRefIdeal.τ) (Cert.McdRefIdeal.main (F := Ideal))) ⟨m, fun _ => 0, g⟩ (fun r => (∀ c : Dev Cert.McdRefIdeal.nD,
      r.2.mem ((c.tc : Thread Cert.McdRefIdeal.nD Cert.McdRefIdeal.τ).loc Cert.McdRefIdeal.main_arg0) = m ((c.tc : Thread Cert.McdRefIdeal.nD Cert.McdRefIdeal.τ).loc Cert.McdRefIdeal.main_arg0)
      ∧ r.2.mem ((c.tc : Thread Cert.McdRefIdeal.nD Cert.McdRefIdeal.τ).loc Cert.McdRefIdeal.main_arg1) = m ((c.tc : Thread Cert.McdRefIdeal.nD Cert.McdRefIdeal.τ).loc Cert.McdRefIdeal.main_arg1)
      ∧ r.2.mem ((c.tc : Thread Cert.McdRefIdeal.nD Cert.McdRefIdeal.τ).loc Cert.McdRefIdeal.main_arg2) = m ((c.tc : Thread Cert.McdRefIdeal.nD Cert.McdRefIdeal.τ).loc Cert.McdRefIdeal.main_arg2)
      ∧ r.2.mem ((c.tc : Thread Cert.McdRefIdeal.nD Cert.McdRefIdeal.τ).loc Cert.McdRefIdeal.main_arg3) = m ((c.tc : Thread Cert.McdRefIdeal.nD Cert.McdRefIdeal.τ).loc Cert.McdRefIdeal.main_arg3)
      ∧ r.2.mem ((c.tc : Thread Cert.McdRefIdeal.nD Cert.McdRefIdeal.τ).loc Cert.McdRefIdeal.main_arg4) = m ((c.tc : Thread Cert.McdRefIdeal.nD Cert.McdRefIdeal.τ).loc Cert.McdRefIdeal.main_arg4)
      ∧ r.2.mem ((c.tc : Thread Cert.McdRefIdeal.nD Cert.McdRefIdeal.τ).loc Cert.McdRefIdeal.main_arg5) = m ((c.tc : Thread Cert.McdRefIdeal.nD Cert.McdRefIdeal.τ).loc Cert.McdRefIdeal.main_arg5)
      ∧ r.2.mem ((c.tc : Thread Cert.McdRefIdeal.nD Cert.McdRefIdeal.τ).loc Cert.McdRefIdeal.main_arg6) = m ((c.tc : Thread Cert.McdRefIdeal.nD Cert.McdRefIdeal.τ).loc Cert.McdRefIdeal.main_arg6))
      ∧ r.2.sem = fun _ => 0)

def quiescent_Mab [hMab : Cert.Mab.Facts] : Prop :=
  ∀ (m : (ℓ : Loc Cert.Mab.nD Cert.Mab.τ Cert.Mab.sig) → Buf (Elt Bits) ℓ) (g : Dev Cert.Mab.nD → PrngReg), Pre_Mab m →
    θ_run (Cert.Mab.defs (F := Bits)) (onTc (τ := Cert.Mab.τ) (Cert.Mab.main (F := Bits))) ⟨m, fun _ => 0, g⟩ (fun r => (∀ c : Dev Cert.Mab.nD,
      r.2.mem ((c.tc : Thread Cert.Mab.nD Cert.Mab.τ).loc Cert.Mab.main_arg0) = m ((c.tc : Thread Cert.Mab.nD Cert.Mab.τ).loc Cert.Mab.main_arg0)
      ∧ r.2.mem ((c.tc : Thread Cert.Mab.nD Cert.Mab.τ).loc Cert.Mab.main_arg1) = m ((c.tc : Thread Cert.Mab.nD Cert.Mab.τ).loc Cert.Mab.main_arg1)
      ∧ r.2.mem ((c.tc : Thread Cert.Mab.nD Cert.Mab.τ).loc Cert.Mab.main_arg2) = m ((c.tc : Thread Cert.Mab.nD Cert.Mab.τ).loc Cert.Mab.main_arg2)
      ∧ r.2.mem ((c.tc : Thread Cert.Mab.nD Cert.Mab.τ).loc Cert.Mab.main_arg3) = m ((c.tc : Thread Cert.Mab.nD Cert.Mab.τ).loc Cert.Mab.main_arg3)
      ∧ r.2.mem ((c.tc : Thread Cert.Mab.nD Cert.Mab.τ).loc Cert.Mab.main_arg4) = m ((c.tc : Thread Cert.Mab.nD Cert.Mab.τ).loc Cert.Mab.main_arg4)
      ∧ r.2.mem ((c.tc : Thread Cert.Mab.nD Cert.Mab.τ).loc Cert.Mab.main_arg5) = m ((c.tc : Thread Cert.Mab.nD Cert.Mab.τ).loc Cert.Mab.main_arg5)
      ∧ r.2.mem ((c.tc : Thread Cert.Mab.nD Cert.Mab.τ).loc Cert.Mab.main_arg6) = m ((c.tc : Thread Cert.Mab.nD Cert.Mab.τ).loc Cert.Mab.main_arg6)
      ∧ r.2.mem ((c.tc : Thread Cert.Mab.nD Cert.Mab.τ).loc Cert.Mab.main_arg7) = m ((c.tc : Thread Cert.Mab.nD Cert.Mab.τ).loc Cert.Mab.main_arg7)
      ∧ r.2.mem ((c.tc : Thread Cert.Mab.nD Cert.Mab.τ).loc Cert.Mab.main_arg8) = m ((c.tc : Thread Cert.Mab.nD Cert.Mab.τ).loc Cert.Mab.main_arg8)
      ∧ r.2.mem ((c.tc : Thread Cert.Mab.nD Cert.Mab.τ).loc Cert.Mab.main_arg9) = m ((c.tc : Thread Cert.Mab.nD Cert.Mab.τ).loc Cert.Mab.main_arg9)
      ∧ r.2.mem ((c.tc : Thread Cert.Mab.nD Cert.Mab.τ).loc Cert.Mab.main_arg10) = m ((c.tc : Thread Cert.Mab.nD Cert.Mab.τ).loc Cert.Mab.main_arg10))
      ∧ r.2.sem = fun _ => 0)

def quiescent_MabIdeal [hMabIdeal : Cert.MabIdeal.Facts] : Prop :=
  ∀ (m : (ℓ : Loc Cert.MabIdeal.nD Cert.MabIdeal.τ Cert.MabIdeal.sig) → Buf (Elt Ideal) ℓ) (g : Dev Cert.MabIdeal.nD → PrngReg), Pre_MabIdeal m →
    θ_run (Cert.MabIdeal.defs (F := Ideal)) (onTc (τ := Cert.MabIdeal.τ) (Cert.MabIdeal.main (F := Ideal))) ⟨m, fun _ => 0, g⟩ (fun r => (∀ c : Dev Cert.MabIdeal.nD,
      r.2.mem ((c.tc : Thread Cert.MabIdeal.nD Cert.MabIdeal.τ).loc Cert.MabIdeal.main_arg0) = m ((c.tc : Thread Cert.MabIdeal.nD Cert.MabIdeal.τ).loc Cert.MabIdeal.main_arg0)
      ∧ r.2.mem ((c.tc : Thread Cert.MabIdeal.nD Cert.MabIdeal.τ).loc Cert.MabIdeal.main_arg1) = m ((c.tc : Thread Cert.MabIdeal.nD Cert.MabIdeal.τ).loc Cert.MabIdeal.main_arg1)
      ∧ r.2.mem ((c.tc : Thread Cert.MabIdeal.nD Cert.MabIdeal.τ).loc Cert.MabIdeal.main_arg2) = m ((c.tc : Thread Cert.MabIdeal.nD Cert.MabIdeal.τ).loc Cert.MabIdeal.main_arg2)
      ∧ r.2.mem ((c.tc : Thread Cert.MabIdeal.nD Cert.MabIdeal.τ).loc Cert.MabIdeal.main_arg3) = m ((c.tc : Thread Cert.MabIdeal.nD Cert.MabIdeal.τ).loc Cert.MabIdeal.main_arg3)
      ∧ r.2.mem ((c.tc : Thread Cert.MabIdeal.nD Cert.MabIdeal.τ).loc Cert.MabIdeal.main_arg4) = m ((c.tc : Thread Cert.MabIdeal.nD Cert.MabIdeal.τ).loc Cert.MabIdeal.main_arg4)
      ∧ r.2.mem ((c.tc : Thread Cert.MabIdeal.nD Cert.MabIdeal.τ).loc Cert.MabIdeal.main_arg5) = m ((c.tc : Thread Cert.MabIdeal.nD Cert.MabIdeal.τ).loc Cert.MabIdeal.main_arg5)
      ∧ r.2.mem ((c.tc : Thread Cert.MabIdeal.nD Cert.MabIdeal.τ).loc Cert.MabIdeal.main_arg6) = m ((c.tc : Thread Cert.MabIdeal.nD Cert.MabIdeal.τ).loc Cert.MabIdeal.main_arg6)
      ∧ r.2.mem ((c.tc : Thread Cert.MabIdeal.nD Cert.MabIdeal.τ).loc Cert.MabIdeal.main_arg7) = m ((c.tc : Thread Cert.MabIdeal.nD Cert.MabIdeal.τ).loc Cert.MabIdeal.main_arg7)
      ∧ r.2.mem ((c.tc : Thread Cert.MabIdeal.nD Cert.MabIdeal.τ).loc Cert.MabIdeal.main_arg8) = m ((c.tc : Thread Cert.MabIdeal.nD Cert.MabIdeal.τ).loc Cert.MabIdeal.main_arg8)
      ∧ r.2.mem ((c.tc : Thread Cert.MabIdeal.nD Cert.MabIdeal.τ).loc Cert.MabIdeal.main_arg9) = m ((c.tc : Thread Cert.MabIdeal.nD Cert.MabIdeal.τ).loc Cert.MabIdeal.main_arg9)
      ∧ r.2.mem ((c.tc : Thread Cert.MabIdeal.nD Cert.MabIdeal.τ).loc Cert.MabIdeal.main_arg10) = m ((c.tc : Thread Cert.MabIdeal.nD Cert.MabIdeal.τ).loc Cert.MabIdeal.main_arg10))
      ∧ r.2.sem = fun _ => 0)

def quiescent_MabRefIdeal [hMabRefIdeal : Cert.MabRefIdeal.Facts] : Prop :=
  ∀ (m : (ℓ : Loc Cert.MabRefIdeal.nD Cert.MabRefIdeal.τ Cert.MabRefIdeal.sig) → Buf (Elt Ideal) ℓ) (g : Dev Cert.MabRefIdeal.nD → PrngReg), Pre_MabRefIdeal m →
    θ_run (Cert.MabRefIdeal.defs (F := Ideal)) (onTc (τ := Cert.MabRefIdeal.τ) (Cert.MabRefIdeal.main (F := Ideal))) ⟨m, fun _ => 0, g⟩ (fun r => (∀ c : Dev Cert.MabRefIdeal.nD,
      r.2.mem ((c.tc : Thread Cert.MabRefIdeal.nD Cert.MabRefIdeal.τ).loc Cert.MabRefIdeal.main_arg0) = m ((c.tc : Thread Cert.MabRefIdeal.nD Cert.MabRefIdeal.τ).loc Cert.MabRefIdeal.main_arg0)
      ∧ r.2.mem ((c.tc : Thread Cert.MabRefIdeal.nD Cert.MabRefIdeal.τ).loc Cert.MabRefIdeal.main_arg1) = m ((c.tc : Thread Cert.MabRefIdeal.nD Cert.MabRefIdeal.τ).loc Cert.MabRefIdeal.main_arg1)
      ∧ r.2.mem ((c.tc : Thread Cert.MabRefIdeal.nD Cert.MabRefIdeal.τ).loc Cert.MabRefIdeal.main_arg2) = m ((c.tc : Thread Cert.MabRefIdeal.nD Cert.MabRefIdeal.τ).loc Cert.MabRefIdeal.main_arg2)
      ∧ r.2.mem ((c.tc : Thread Cert.MabRefIdeal.nD Cert.MabRefIdeal.τ).loc Cert.MabRefIdeal.main_arg3) = m ((c.tc : Thread Cert.MabRefIdeal.nD Cert.MabRefIdeal.τ).loc Cert.MabRefIdeal.main_arg3)
      ∧ r.2.mem ((c.tc : Thread Cert.MabRefIdeal.nD Cert.MabRefIdeal.τ).loc Cert.MabRefIdeal.main_arg4) = m ((c.tc : Thread Cert.MabRefIdeal.nD Cert.MabRefIdeal.τ).loc Cert.MabRefIdeal.main_arg4)
      ∧ r.2.mem ((c.tc : Thread Cert.MabRefIdeal.nD Cert.MabRefIdeal.τ).loc Cert.MabRefIdeal.main_arg5) = m ((c.tc : Thread Cert.MabRefIdeal.nD Cert.MabRefIdeal.τ).loc Cert.MabRefIdeal.main_arg5)
      ∧ r.2.mem ((c.tc : Thread Cert.MabRefIdeal.nD Cert.MabRefIdeal.τ).loc Cert.MabRefIdeal.main_arg6) = m ((c.tc : Thread Cert.MabRefIdeal.nD Cert.MabRefIdeal.τ).loc Cert.MabRefIdeal.main_arg6)
      ∧ r.2.mem ((c.tc : Thread Cert.MabRefIdeal.nD Cert.MabRefIdeal.τ).loc Cert.MabRefIdeal.main_arg7) = m ((c.tc : Thread Cert.MabRefIdeal.nD Cert.MabRefIdeal.τ).loc Cert.MabRefIdeal.main_arg7)
      ∧ r.2.mem ((c.tc : Thread Cert.MabRefIdeal.nD Cert.MabRefIdeal.τ).loc Cert.MabRefIdeal.main_arg8) = m ((c.tc : Thread Cert.MabRefIdeal.nD Cert.MabRefIdeal.τ).loc Cert.MabRefIdeal.main_arg8)
      ∧ r.2.mem ((c.tc : Thread Cert.MabRefIdeal.nD Cert.MabRefIdeal.τ).loc Cert.MabRefIdeal.main_arg9) = m ((c.tc : Thread Cert.MabRefIdeal.nD Cert.MabRefIdeal.τ).loc Cert.MabRefIdeal.main_arg9)
      ∧ r.2.mem ((c.tc : Thread Cert.MabRefIdeal.nD Cert.MabRefIdeal.τ).loc Cert.MabRefIdeal.main_arg10) = m ((c.tc : Thread Cert.MabRefIdeal.nD Cert.MabRefIdeal.τ).loc Cert.MabRefIdeal.main_arg10))
      ∧ r.2.sem = fun _ => 0)

def preserves_Fox_FoxIdeal : Prop :=
  True

def algebraic_FoxIdeal_FoxRefIdeal_pre_finite_scores [hFoxIdeal : Cert.FoxIdeal.Facts] [hFoxRefIdeal : Cert.FoxRefIdeal.Facts] [hPre_finite_scores : Cert.Pre_finite_scores.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite_scores m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v7)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v7) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v47) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v43) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Pab_PabIdeal : Prop :=
  True

def algebraic_PabIdeal_PabRefIdeal [hPabIdeal : Cert.PabIdeal.Facts] [hPabRefIdeal : Cert.PabRefIdeal.Facts] : Prop :=
  ∀ (m : (ℓ : Loc Cert.PabIdeal.nD Cert.PabIdeal.τ Cert.PabIdeal.sig) → Buf (Elt Ideal) ℓ) (g : Dev Cert.PabIdeal.nD → PrngReg)
    (m' : (ℓ : Loc Cert.PabRefIdeal.nD Cert.PabRefIdeal.τ Cert.PabRefIdeal.sig) → Buf (Elt Ideal) ℓ) (g' : Dev Cert.PabRefIdeal.nD → PrngReg), Pre_PabIdeal m →
    (∀ c : Dev Cert.PabIdeal.nD,
      m' ((c.tc : Thread Cert.PabRefIdeal.nD Cert.PabRefIdeal.τ).loc Cert.PabRefIdeal.main_arg0) = m ((c.tc : Thread Cert.PabIdeal.nD Cert.PabIdeal.τ).loc Cert.PabIdeal.main_arg0)
      ∧ m' ((c.tc : Thread Cert.PabRefIdeal.nD Cert.PabRefIdeal.τ).loc Cert.PabRefIdeal.main_arg1) = m ((c.tc : Thread Cert.PabIdeal.nD Cert.PabIdeal.τ).loc Cert.PabIdeal.main_arg1)
      ∧ m' ((c.tc : Thread Cert.PabRefIdeal.nD Cert.PabRefIdeal.τ).loc Cert.PabRefIdeal.main_arg2) = m ((c.tc : Thread Cert.PabIdeal.nD Cert.PabIdeal.τ).loc Cert.PabIdeal.main_arg2)
      ∧ m' ((c.tc : Thread Cert.PabRefIdeal.nD Cert.PabRefIdeal.τ).loc Cert.PabRefIdeal.main_arg3) = m ((c.tc : Thread Cert.PabIdeal.nD Cert.PabIdeal.τ).loc Cert.PabIdeal.main_arg3)) →
    ∃ (v0 : (c : Dev Cert.PabIdeal.nD) → Buf (Elt Ideal) ((c.tc : Thread Cert.PabIdeal.nD Cert.PabIdeal.τ).loc Cert.PabIdeal.main_v10_0)) (v1 : (c : Dev Cert.PabIdeal.nD) → Buf (Elt Ideal) ((c.tc : Thread Cert.PabIdeal.nD Cert.PabIdeal.τ).loc Cert.PabIdeal.main_v10_1)),
      θ_run (Cert.PabIdeal.defs (F := Ideal)) (onTc (τ := Cert.PabIdeal.τ) (Cert.PabIdeal.main (F := Ideal))) ⟨m, fun _ => 0, g⟩ (fun r => ∀ c : Dev Cert.PabIdeal.nD,
          r.2.mem ((c.tc : Thread Cert.PabIdeal.nD Cert.PabIdeal.τ).loc Cert.PabIdeal.main_v10_0) = v0 c
          ∧ r.2.mem ((c.tc : Thread Cert.PabIdeal.nD Cert.PabIdeal.τ).loc Cert.PabIdeal.main_v10_1) = v1 c
          ∧ r.2.mem ((c.tc : Thread Cert.PabIdeal.nD Cert.PabIdeal.τ).loc Cert.PabIdeal.main_arg0) = m ((c.tc : Thread Cert.PabIdeal.nD Cert.PabIdeal.τ).loc Cert.PabIdeal.main_arg0)
          ∧ r.2.mem ((c.tc : Thread Cert.PabIdeal.nD Cert.PabIdeal.τ).loc Cert.PabIdeal.main_arg1) = m ((c.tc : Thread Cert.PabIdeal.nD Cert.PabIdeal.τ).loc Cert.PabIdeal.main_arg1)
          ∧ r.2.mem ((c.tc : Thread Cert.PabIdeal.nD Cert.PabIdeal.τ).loc Cert.PabIdeal.main_arg2) = m ((c.tc : Thread Cert.PabIdeal.nD Cert.PabIdeal.τ).loc Cert.PabIdeal.main_arg2)
          ∧ r.2.mem ((c.tc : Thread Cert.PabIdeal.nD Cert.PabIdeal.τ).loc Cert.PabIdeal.main_arg3) = m ((c.tc : Thread Cert.PabIdeal.nD Cert.PabIdeal.τ).loc Cert.PabIdeal.main_arg3))
      ∧ θ_run (Cert.PabRefIdeal.defs (F := Ideal)) (onTc (τ := Cert.PabRefIdeal.τ) (Cert.PabRefIdeal.main (F := Ideal))) ⟨m', fun _ => 0, g'⟩ (fun r => ∀ c : Dev Cert.PabRefIdeal.nD,
          r.2.mem ((c.tc : Thread Cert.PabRefIdeal.nD Cert.PabRefIdeal.τ).loc Cert.PabRefIdeal.main_v25) = v0 c
          ∧ r.2.mem ((c.tc : Thread Cert.PabRefIdeal.nD Cert.PabRefIdeal.τ).loc Cert.PabRefIdeal.main_v26) = v1 c
          ∧ r.2.mem ((c.tc : Thread Cert.PabRefIdeal.nD Cert.PabRefIdeal.τ).loc Cert.PabRefIdeal.main_arg0) = m' ((c.tc : Thread Cert.PabRefIdeal.nD Cert.PabRefIdeal.τ).loc Cert.PabRefIdeal.main_arg0)
          ∧ r.2.mem ((c.tc : Thread Cert.PabRefIdeal.nD Cert.PabRefIdeal.τ).loc Cert.PabRefIdeal.main_arg1) = m' ((c.tc : Thread Cert.PabRefIdeal.nD Cert.PabRefIdeal.τ).loc Cert.PabRefIdeal.main_arg1)
          ∧ r.2.mem ((c.tc : Thread Cert.PabRefIdeal.nD Cert.PabRefIdeal.τ).loc Cert.PabRefIdeal.main_arg2) = m' ((c.tc : Thread Cert.PabRefIdeal.nD Cert.PabRefIdeal.τ).loc Cert.PabRefIdeal.main_arg2)
          ∧ r.2.mem ((c.tc : Thread Cert.PabRefIdeal.nD Cert.PabRefIdeal.τ).loc Cert.PabRefIdeal.main_arg3) = m' ((c.tc : Thread Cert.PabRefIdeal.nD Cert.PabRefIdeal.τ).loc Cert.PabRefIdeal.main_arg3))

def preserves_Pcd_PcdIdeal : Prop :=
  True

def algebraic_PcdIdeal_PcdRefIdeal [hPcdIdeal : Cert.PcdIdeal.Facts] [hPcdRefIdeal : Cert.PcdRefIdeal.Facts] : Prop :=
  ∀ (m : (ℓ : Loc Cert.PcdIdeal.nD Cert.PcdIdeal.τ Cert.PcdIdeal.sig) → Buf (Elt Ideal) ℓ) (g : Dev Cert.PcdIdeal.nD → PrngReg)
    (m' : (ℓ : Loc Cert.PcdRefIdeal.nD Cert.PcdRefIdeal.τ Cert.PcdRefIdeal.sig) → Buf (Elt Ideal) ℓ) (g' : Dev Cert.PcdRefIdeal.nD → PrngReg), Pre_PcdIdeal m →
    (∀ c : Dev Cert.PcdIdeal.nD,
      m' ((c.tc : Thread Cert.PcdRefIdeal.nD Cert.PcdRefIdeal.τ).loc Cert.PcdRefIdeal.main_arg0) = m ((c.tc : Thread Cert.PcdIdeal.nD Cert.PcdIdeal.τ).loc Cert.PcdIdeal.main_arg0)
      ∧ m' ((c.tc : Thread Cert.PcdRefIdeal.nD Cert.PcdRefIdeal.τ).loc Cert.PcdRefIdeal.main_arg1) = m ((c.tc : Thread Cert.PcdIdeal.nD Cert.PcdIdeal.τ).loc Cert.PcdIdeal.main_arg1)
      ∧ m' ((c.tc : Thread Cert.PcdRefIdeal.nD Cert.PcdRefIdeal.τ).loc Cert.PcdRefIdeal.main_arg2) = m ((c.tc : Thread Cert.PcdIdeal.nD Cert.PcdIdeal.τ).loc Cert.PcdIdeal.main_arg2)
      ∧ m' ((c.tc : Thread Cert.PcdRefIdeal.nD Cert.PcdRefIdeal.τ).loc Cert.PcdRefIdeal.main_arg3) = m ((c.tc : Thread Cert.PcdIdeal.nD Cert.PcdIdeal.τ).loc Cert.PcdIdeal.main_arg3)) →
    ∃ (v0 : (c : Dev Cert.PcdIdeal.nD) → Buf (Elt Ideal) ((c.tc : Thread Cert.PcdIdeal.nD Cert.PcdIdeal.τ).loc Cert.PcdIdeal.main_v15_0)) (v1 : (c : Dev Cert.PcdIdeal.nD) → Buf (Elt Ideal) ((c.tc : Thread Cert.PcdIdeal.nD Cert.PcdIdeal.τ).loc Cert.PcdIdeal.main_v15_1)),
      θ_run (Cert.PcdIdeal.defs (F := Ideal)) (onTc (τ := Cert.PcdIdeal.τ) (Cert.PcdIdeal.main (F := Ideal))) ⟨m, fun _ => 0, g⟩ (fun r => ∀ c : Dev Cert.PcdIdeal.nD,
          r.2.mem ((c.tc : Thread Cert.PcdIdeal.nD Cert.PcdIdeal.τ).loc Cert.PcdIdeal.main_v15_0) = v0 c
          ∧ r.2.mem ((c.tc : Thread Cert.PcdIdeal.nD Cert.PcdIdeal.τ).loc Cert.PcdIdeal.main_v15_1) = v1 c
          ∧ r.2.mem ((c.tc : Thread Cert.PcdIdeal.nD Cert.PcdIdeal.τ).loc Cert.PcdIdeal.main_arg0) = m ((c.tc : Thread Cert.PcdIdeal.nD Cert.PcdIdeal.τ).loc Cert.PcdIdeal.main_arg0)
          ∧ r.2.mem ((c.tc : Thread Cert.PcdIdeal.nD Cert.PcdIdeal.τ).loc Cert.PcdIdeal.main_arg1) = m ((c.tc : Thread Cert.PcdIdeal.nD Cert.PcdIdeal.τ).loc Cert.PcdIdeal.main_arg1)
          ∧ r.2.mem ((c.tc : Thread Cert.PcdIdeal.nD Cert.PcdIdeal.τ).loc Cert.PcdIdeal.main_arg2) = m ((c.tc : Thread Cert.PcdIdeal.nD Cert.PcdIdeal.τ).loc Cert.PcdIdeal.main_arg2)
          ∧ r.2.mem ((c.tc : Thread Cert.PcdIdeal.nD Cert.PcdIdeal.τ).loc Cert.PcdIdeal.main_arg3) = m ((c.tc : Thread Cert.PcdIdeal.nD Cert.PcdIdeal.τ).loc Cert.PcdIdeal.main_arg3))
      ∧ θ_run (Cert.PcdRefIdeal.defs (F := Ideal)) (onTc (τ := Cert.PcdRefIdeal.τ) (Cert.PcdRefIdeal.main (F := Ideal))) ⟨m', fun _ => 0, g'⟩ (fun r => ∀ c : Dev Cert.PcdRefIdeal.nD,
          r.2.mem ((c.tc : Thread Cert.PcdRefIdeal.nD Cert.PcdRefIdeal.τ).loc Cert.PcdRefIdeal.main_v27) = v0 c
          ∧ r.2.mem ((c.tc : Thread Cert.PcdRefIdeal.nD Cert.PcdRefIdeal.τ).loc Cert.PcdRefIdeal.main_v28) = v1 c
          ∧ r.2.mem ((c.tc : Thread Cert.PcdRefIdeal.nD Cert.PcdRefIdeal.τ).loc Cert.PcdRefIdeal.main_arg0) = m' ((c.tc : Thread Cert.PcdRefIdeal.nD Cert.PcdRefIdeal.τ).loc Cert.PcdRefIdeal.main_arg0)
          ∧ r.2.mem ((c.tc : Thread Cert.PcdRefIdeal.nD Cert.PcdRefIdeal.τ).loc Cert.PcdRefIdeal.main_arg1) = m' ((c.tc : Thread Cert.PcdRefIdeal.nD Cert.PcdRefIdeal.τ).loc Cert.PcdRefIdeal.main_arg1)
          ∧ r.2.mem ((c.tc : Thread Cert.PcdRefIdeal.nD Cert.PcdRefIdeal.τ).loc Cert.PcdRefIdeal.main_arg2) = m' ((c.tc : Thread Cert.PcdRefIdeal.nD Cert.PcdRefIdeal.τ).loc Cert.PcdRefIdeal.main_arg2)
          ∧ r.2.mem ((c.tc : Thread Cert.PcdRefIdeal.nD Cert.PcdRefIdeal.τ).loc Cert.PcdRefIdeal.main_arg3) = m' ((c.tc : Thread Cert.PcdRefIdeal.nD Cert.PcdRefIdeal.τ).loc Cert.PcdRefIdeal.main_arg3))

def preserves_Ssd_SsdIdeal : Prop :=
  True

def algebraic_SsdIdeal_SsdRefIdeal_pre_decaying [hSsdIdeal : Cert.SsdIdeal.Facts] [hSsdRefIdeal : Cert.SsdRefIdeal.Facts] [hPre_decaying : Cert.Pre_decaying.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal_decaying m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)
      ∧ m' ((c.tc : Thread Cert.SsdRefIdeal.nD Cert.SsdRefIdeal.τ).loc Cert.SsdRefIdeal.main_arg7) = m ((c.tc : Thread Cert.SsdIdeal.nD Cert.SsdIdeal.τ).loc Cert.SsdIdeal.main_arg7)) →
    ∃ (v0 : (c : Dev Cert.SsdIdeal.nD) → Buf (Elt Ideal) ((c.tc : Thread Cert.SsdIdeal.nD Cert.SsdIdeal.τ).loc Cert.SsdIdeal.main_v18_0)) (v1 : (c : Dev Cert.SsdIdeal.nD) → Buf (Elt Ideal) ((c.tc : Thread Cert.SsdIdeal.nD Cert.SsdIdeal.τ).loc Cert.SsdIdeal.main_v18_1)) (v2 : (c : Dev Cert.SsdIdeal.nD) → Buf (Elt Ideal) ((c.tc : Thread Cert.SsdIdeal.nD Cert.SsdIdeal.τ).loc Cert.SsdIdeal.main_v18_2)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v18_0) = v0 c
          ∧ r.2.mem ((c.tc : Thread Cert.SsdIdeal.nD Cert.SsdIdeal.τ).loc Cert.SsdIdeal.main_v18_1) = v1 c
          ∧ r.2.mem ((c.tc : Thread Cert.SsdIdeal.nD Cert.SsdIdeal.τ).loc Cert.SsdIdeal.main_v18_2) = v2 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
          ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v125) = v0 c
          ∧ r.2.mem ((c.tc : Thread Cert.SsdRefIdeal.nD Cert.SsdRefIdeal.τ).loc Cert.SsdRefIdeal.main_v126) = v1 c
          ∧ r.2.mem ((c.tc : Thread Cert.SsdRefIdeal.nD Cert.SsdRefIdeal.τ).loc Cert.SsdRefIdeal.main_v38) = v2 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6)
          ∧ r.2.mem ((c.tc : Thread Cert.SsdRefIdeal.nD Cert.SsdRefIdeal.τ).loc Cert.SsdRefIdeal.main_arg7) = m' ((c.tc : Thread Cert.SsdRefIdeal.nD Cert.SsdRefIdeal.τ).loc Cert.SsdRefIdeal.main_arg7))

def preserves_Mcd_McdIdeal : Prop :=
  True

def algebraic_McdIdeal_McdRefIdeal [hMcdIdeal : Cert.McdIdeal.Facts] [hMcdRefIdeal : Cert.McdRefIdeal.Facts] : Prop :=
  ∀ (m : (ℓ : Loc Cert.McdIdeal.nD Cert.McdIdeal.τ Cert.McdIdeal.sig) → Buf (Elt Ideal) ℓ) (g : Dev Cert.McdIdeal.nD → PrngReg)
    (m' : (ℓ : Loc Cert.McdRefIdeal.nD Cert.McdRefIdeal.τ Cert.McdRefIdeal.sig) → Buf (Elt Ideal) ℓ) (g' : Dev Cert.McdRefIdeal.nD → PrngReg), Pre_McdIdeal m →
    (∀ c : Dev Cert.McdIdeal.nD,
      m' ((c.tc : Thread Cert.McdRefIdeal.nD Cert.McdRefIdeal.τ).loc Cert.McdRefIdeal.main_arg0) = m ((c.tc : Thread Cert.McdIdeal.nD Cert.McdIdeal.τ).loc Cert.McdIdeal.main_arg0)
      ∧ m' ((c.tc : Thread Cert.McdRefIdeal.nD Cert.McdRefIdeal.τ).loc Cert.McdRefIdeal.main_arg1) = m ((c.tc : Thread Cert.McdIdeal.nD Cert.McdIdeal.τ).loc Cert.McdIdeal.main_arg1)
      ∧ m' ((c.tc : Thread Cert.McdRefIdeal.nD Cert.McdRefIdeal.τ).loc Cert.McdRefIdeal.main_arg2) = m ((c.tc : Thread Cert.McdIdeal.nD Cert.McdIdeal.τ).loc Cert.McdIdeal.main_arg2)
      ∧ m' ((c.tc : Thread Cert.McdRefIdeal.nD Cert.McdRefIdeal.τ).loc Cert.McdRefIdeal.main_arg3) = m ((c.tc : Thread Cert.McdIdeal.nD Cert.McdIdeal.τ).loc Cert.McdIdeal.main_arg3)
      ∧ m' ((c.tc : Thread Cert.McdRefIdeal.nD Cert.McdRefIdeal.τ).loc Cert.McdRefIdeal.main_arg4) = m ((c.tc : Thread Cert.McdIdeal.nD Cert.McdIdeal.τ).loc Cert.McdIdeal.main_arg4)
      ∧ m' ((c.tc : Thread Cert.McdRefIdeal.nD Cert.McdRefIdeal.τ).loc Cert.McdRefIdeal.main_arg5) = m ((c.tc : Thread Cert.McdIdeal.nD Cert.McdIdeal.τ).loc Cert.McdIdeal.main_arg5)
      ∧ m' ((c.tc : Thread Cert.McdRefIdeal.nD Cert.McdRefIdeal.τ).loc Cert.McdRefIdeal.main_arg6) = m ((c.tc : Thread Cert.McdIdeal.nD Cert.McdIdeal.τ).loc Cert.McdIdeal.main_arg6)) →
    ∃ (v0 : (c : Dev Cert.McdIdeal.nD) → Buf (Elt Ideal) ((c.tc : Thread Cert.McdIdeal.nD Cert.McdIdeal.τ).loc Cert.McdIdeal.main_v3)),
      θ_run (Cert.McdIdeal.defs (F := Ideal)) (onTc (τ := Cert.McdIdeal.τ) (Cert.McdIdeal.main (F := Ideal))) ⟨m, fun _ => 0, g⟩ (fun r => ∀ c : Dev Cert.McdIdeal.nD,
          r.2.mem ((c.tc : Thread Cert.McdIdeal.nD Cert.McdIdeal.τ).loc Cert.McdIdeal.main_v3) = v0 c
          ∧ r.2.mem ((c.tc : Thread Cert.McdIdeal.nD Cert.McdIdeal.τ).loc Cert.McdIdeal.main_arg0) = m ((c.tc : Thread Cert.McdIdeal.nD Cert.McdIdeal.τ).loc Cert.McdIdeal.main_arg0)
          ∧ r.2.mem ((c.tc : Thread Cert.McdIdeal.nD Cert.McdIdeal.τ).loc Cert.McdIdeal.main_arg1) = m ((c.tc : Thread Cert.McdIdeal.nD Cert.McdIdeal.τ).loc Cert.McdIdeal.main_arg1)
          ∧ r.2.mem ((c.tc : Thread Cert.McdIdeal.nD Cert.McdIdeal.τ).loc Cert.McdIdeal.main_arg2) = m ((c.tc : Thread Cert.McdIdeal.nD Cert.McdIdeal.τ).loc Cert.McdIdeal.main_arg2)
          ∧ r.2.mem ((c.tc : Thread Cert.McdIdeal.nD Cert.McdIdeal.τ).loc Cert.McdIdeal.main_arg3) = m ((c.tc : Thread Cert.McdIdeal.nD Cert.McdIdeal.τ).loc Cert.McdIdeal.main_arg3)
          ∧ r.2.mem ((c.tc : Thread Cert.McdIdeal.nD Cert.McdIdeal.τ).loc Cert.McdIdeal.main_arg4) = m ((c.tc : Thread Cert.McdIdeal.nD Cert.McdIdeal.τ).loc Cert.McdIdeal.main_arg4)
          ∧ r.2.mem ((c.tc : Thread Cert.McdIdeal.nD Cert.McdIdeal.τ).loc Cert.McdIdeal.main_arg5) = m ((c.tc : Thread Cert.McdIdeal.nD Cert.McdIdeal.τ).loc Cert.McdIdeal.main_arg5)
          ∧ r.2.mem ((c.tc : Thread Cert.McdIdeal.nD Cert.McdIdeal.τ).loc Cert.McdIdeal.main_arg6) = m ((c.tc : Thread Cert.McdIdeal.nD Cert.McdIdeal.τ).loc Cert.McdIdeal.main_arg6))
      ∧ θ_run (Cert.McdRefIdeal.defs (F := Ideal)) (onTc (τ := Cert.McdRefIdeal.τ) (Cert.McdRefIdeal.main (F := Ideal))) ⟨m', fun _ => 0, g'⟩ (fun r => ∀ c : Dev Cert.McdRefIdeal.nD,
          r.2.mem ((c.tc : Thread Cert.McdRefIdeal.nD Cert.McdRefIdeal.τ).loc Cert.McdRefIdeal.main_v22) = v0 c
          ∧ r.2.mem ((c.tc : Thread Cert.McdRefIdeal.nD Cert.McdRefIdeal.τ).loc Cert.McdRefIdeal.main_arg0) = m' ((c.tc : Thread Cert.McdRefIdeal.nD Cert.McdRefIdeal.τ).loc Cert.McdRefIdeal.main_arg0)
          ∧ r.2.mem ((c.tc : Thread Cert.McdRefIdeal.nD Cert.McdRefIdeal.τ).loc Cert.McdRefIdeal.main_arg1) = m' ((c.tc : Thread Cert.McdRefIdeal.nD Cert.McdRefIdeal.τ).loc Cert.McdRefIdeal.main_arg1)
          ∧ r.2.mem ((c.tc : Thread Cert.McdRefIdeal.nD Cert.McdRefIdeal.τ).loc Cert.McdRefIdeal.main_arg2) = m' ((c.tc : Thread Cert.McdRefIdeal.nD Cert.McdRefIdeal.τ).loc Cert.McdRefIdeal.main_arg2)
          ∧ r.2.mem ((c.tc : Thread Cert.McdRefIdeal.nD Cert.McdRefIdeal.τ).loc Cert.McdRefIdeal.main_arg3) = m' ((c.tc : Thread Cert.McdRefIdeal.nD Cert.McdRefIdeal.τ).loc Cert.McdRefIdeal.main_arg3)
          ∧ r.2.mem ((c.tc : Thread Cert.McdRefIdeal.nD Cert.McdRefIdeal.τ).loc Cert.McdRefIdeal.main_arg4) = m' ((c.tc : Thread Cert.McdRefIdeal.nD Cert.McdRefIdeal.τ).loc Cert.McdRefIdeal.main_arg4)
          ∧ r.2.mem ((c.tc : Thread Cert.McdRefIdeal.nD Cert.McdRefIdeal.τ).loc Cert.McdRefIdeal.main_arg5) = m' ((c.tc : Thread Cert.McdRefIdeal.nD Cert.McdRefIdeal.τ).loc Cert.McdRefIdeal.main_arg5)
          ∧ r.2.mem ((c.tc : Thread Cert.McdRefIdeal.nD Cert.McdRefIdeal.τ).loc Cert.McdRefIdeal.main_arg6) = m' ((c.tc : Thread Cert.McdRefIdeal.nD Cert.McdRefIdeal.τ).loc Cert.McdRefIdeal.main_arg6))

def preserves_Mab_MabIdeal : Prop :=
  True

def algebraic_MabIdeal_MabRefIdeal [hMabIdeal : Cert.MabIdeal.Facts] [hMabRefIdeal : Cert.MabRefIdeal.Facts] : Prop :=
  ∀ (m : (ℓ : Loc Cert.MabIdeal.nD Cert.MabIdeal.τ Cert.MabIdeal.sig) → Buf (Elt Ideal) ℓ) (g : Dev Cert.MabIdeal.nD → PrngReg)
    (m' : (ℓ : Loc Cert.MabRefIdeal.nD Cert.MabRefIdeal.τ Cert.MabRefIdeal.sig) → Buf (Elt Ideal) ℓ) (g' : Dev Cert.MabRefIdeal.nD → PrngReg), Pre_MabIdeal m →
    (∀ c : Dev Cert.MabIdeal.nD,
      m' ((c.tc : Thread Cert.MabRefIdeal.nD Cert.MabRefIdeal.τ).loc Cert.MabRefIdeal.main_arg0) = m ((c.tc : Thread Cert.MabIdeal.nD Cert.MabIdeal.τ).loc Cert.MabIdeal.main_arg0)
      ∧ m' ((c.tc : Thread Cert.MabRefIdeal.nD Cert.MabRefIdeal.τ).loc Cert.MabRefIdeal.main_arg1) = m ((c.tc : Thread Cert.MabIdeal.nD Cert.MabIdeal.τ).loc Cert.MabIdeal.main_arg1)
      ∧ m' ((c.tc : Thread Cert.MabRefIdeal.nD Cert.MabRefIdeal.τ).loc Cert.MabRefIdeal.main_arg2) = m ((c.tc : Thread Cert.MabIdeal.nD Cert.MabIdeal.τ).loc Cert.MabIdeal.main_arg2)
      ∧ m' ((c.tc : Thread Cert.MabRefIdeal.nD Cert.MabRefIdeal.τ).loc Cert.MabRefIdeal.main_arg3) = m ((c.tc : Thread Cert.MabIdeal.nD Cert.MabIdeal.τ).loc Cert.MabIdeal.main_arg3)
      ∧ m' ((c.tc : Thread Cert.MabRefIdeal.nD Cert.MabRefIdeal.τ).loc Cert.MabRefIdeal.main_arg4) = m ((c.tc : Thread Cert.MabIdeal.nD Cert.MabIdeal.τ).loc Cert.MabIdeal.main_arg4)
      ∧ m' ((c.tc : Thread Cert.MabRefIdeal.nD Cert.MabRefIdeal.τ).loc Cert.MabRefIdeal.main_arg5) = m ((c.tc : Thread Cert.MabIdeal.nD Cert.MabIdeal.τ).loc Cert.MabIdeal.main_arg5)
      ∧ m' ((c.tc : Thread Cert.MabRefIdeal.nD Cert.MabRefIdeal.τ).loc Cert.MabRefIdeal.main_arg6) = m ((c.tc : Thread Cert.MabIdeal.nD Cert.MabIdeal.τ).loc Cert.MabIdeal.main_arg6)
      ∧ m' ((c.tc : Thread Cert.MabRefIdeal.nD Cert.MabRefIdeal.τ).loc Cert.MabRefIdeal.main_arg7) = m ((c.tc : Thread Cert.MabIdeal.nD Cert.MabIdeal.τ).loc Cert.MabIdeal.main_arg7)
      ∧ m' ((c.tc : Thread Cert.MabRefIdeal.nD Cert.MabRefIdeal.τ).loc Cert.MabRefIdeal.main_arg8) = m ((c.tc : Thread Cert.MabIdeal.nD Cert.MabIdeal.τ).loc Cert.MabIdeal.main_arg8)
      ∧ m' ((c.tc : Thread Cert.MabRefIdeal.nD Cert.MabRefIdeal.τ).loc Cert.MabRefIdeal.main_arg9) = m ((c.tc : Thread Cert.MabIdeal.nD Cert.MabIdeal.τ).loc Cert.MabIdeal.main_arg9)
      ∧ m' ((c.tc : Thread Cert.MabRefIdeal.nD Cert.MabRefIdeal.τ).loc Cert.MabRefIdeal.main_arg10) = m ((c.tc : Thread Cert.MabIdeal.nD Cert.MabIdeal.τ).loc Cert.MabIdeal.main_arg10)) →
    ∃ (v0 : (c : Dev Cert.MabIdeal.nD) → Buf (Elt Ideal) ((c.tc : Thread Cert.MabIdeal.nD Cert.MabIdeal.τ).loc Cert.MabIdeal.main_v9)),
      θ_run (Cert.MabIdeal.defs (F := Ideal)) (onTc (τ := Cert.MabIdeal.τ) (Cert.MabIdeal.main (F := Ideal))) ⟨m, fun _ => 0, g⟩ (fun r => ∀ c : Dev Cert.MabIdeal.nD,
          r.2.mem ((c.tc : Thread Cert.MabIdeal.nD Cert.MabIdeal.τ).loc Cert.MabIdeal.main_v9) = v0 c
          ∧ r.2.mem ((c.tc : Thread Cert.MabIdeal.nD Cert.MabIdeal.τ).loc Cert.MabIdeal.main_arg0) = m ((c.tc : Thread Cert.MabIdeal.nD Cert.MabIdeal.τ).loc Cert.MabIdeal.main_arg0)
          ∧ r.2.mem ((c.tc : Thread Cert.MabIdeal.nD Cert.MabIdeal.τ).loc Cert.MabIdeal.main_arg1) = m ((c.tc : Thread Cert.MabIdeal.nD Cert.MabIdeal.τ).loc Cert.MabIdeal.main_arg1)
          ∧ r.2.mem ((c.tc : Thread Cert.MabIdeal.nD Cert.MabIdeal.τ).loc Cert.MabIdeal.main_arg2) = m ((c.tc : Thread Cert.MabIdeal.nD Cert.MabIdeal.τ).loc Cert.MabIdeal.main_arg2)
          ∧ r.2.mem ((c.tc : Thread Cert.MabIdeal.nD Cert.MabIdeal.τ).loc Cert.MabIdeal.main_arg3) = m ((c.tc : Thread Cert.MabIdeal.nD Cert.MabIdeal.τ).loc Cert.MabIdeal.main_arg3)
          ∧ r.2.mem ((c.tc : Thread Cert.MabIdeal.nD Cert.MabIdeal.τ).loc Cert.MabIdeal.main_arg4) = m ((c.tc : Thread Cert.MabIdeal.nD Cert.MabIdeal.τ).loc Cert.MabIdeal.main_arg4)
          ∧ r.2.mem ((c.tc : Thread Cert.MabIdeal.nD Cert.MabIdeal.τ).loc Cert.MabIdeal.main_arg5) = m ((c.tc : Thread Cert.MabIdeal.nD Cert.MabIdeal.τ).loc Cert.MabIdeal.main_arg5)
          ∧ r.2.mem ((c.tc : Thread Cert.MabIdeal.nD Cert.MabIdeal.τ).loc Cert.MabIdeal.main_arg6) = m ((c.tc : Thread Cert.MabIdeal.nD Cert.MabIdeal.τ).loc Cert.MabIdeal.main_arg6)
          ∧ r.2.mem ((c.tc : Thread Cert.MabIdeal.nD Cert.MabIdeal.τ).loc Cert.MabIdeal.main_arg7) = m ((c.tc : Thread Cert.MabIdeal.nD Cert.MabIdeal.τ).loc Cert.MabIdeal.main_arg7)
          ∧ r.2.mem ((c.tc : Thread Cert.MabIdeal.nD Cert.MabIdeal.τ).loc Cert.MabIdeal.main_arg8) = m ((c.tc : Thread Cert.MabIdeal.nD Cert.MabIdeal.τ).loc Cert.MabIdeal.main_arg8)
          ∧ r.2.mem ((c.tc : Thread Cert.MabIdeal.nD Cert.MabIdeal.τ).loc Cert.MabIdeal.main_arg9) = m ((c.tc : Thread Cert.MabIdeal.nD Cert.MabIdeal.τ).loc Cert.MabIdeal.main_arg9)
          ∧ r.2.mem ((c.tc : Thread Cert.MabIdeal.nD Cert.MabIdeal.τ).loc Cert.MabIdeal.main_arg10) = m ((c.tc : Thread Cert.MabIdeal.nD Cert.MabIdeal.τ).loc Cert.MabIdeal.main_arg10))
      ∧ θ_run (Cert.MabRefIdeal.defs (F := Ideal)) (onTc (τ := Cert.MabRefIdeal.τ) (Cert.MabRefIdeal.main (F := Ideal))) ⟨m', fun _ => 0, g'⟩ (fun r => ∀ c : Dev Cert.MabRefIdeal.nD,
          r.2.mem ((c.tc : Thread Cert.MabRefIdeal.nD Cert.MabRefIdeal.τ).loc Cert.MabRefIdeal.main_v56) = v0 c
          ∧ r.2.mem ((c.tc : Thread Cert.MabRefIdeal.nD Cert.MabRefIdeal.τ).loc Cert.MabRefIdeal.main_arg0) = m' ((c.tc : Thread Cert.MabRefIdeal.nD Cert.MabRefIdeal.τ).loc Cert.MabRefIdeal.main_arg0)
          ∧ r.2.mem ((c.tc : Thread Cert.MabRefIdeal.nD Cert.MabRefIdeal.τ).loc Cert.MabRefIdeal.main_arg1) = m' ((c.tc : Thread Cert.MabRefIdeal.nD Cert.MabRefIdeal.τ).loc Cert.MabRefIdeal.main_arg1)
          ∧ r.2.mem ((c.tc : Thread Cert.MabRefIdeal.nD Cert.MabRefIdeal.τ).loc Cert.MabRefIdeal.main_arg2) = m' ((c.tc : Thread Cert.MabRefIdeal.nD Cert.MabRefIdeal.τ).loc Cert.MabRefIdeal.main_arg2)
          ∧ r.2.mem ((c.tc : Thread Cert.MabRefIdeal.nD Cert.MabRefIdeal.τ).loc Cert.MabRefIdeal.main_arg3) = m' ((c.tc : Thread Cert.MabRefIdeal.nD Cert.MabRefIdeal.τ).loc Cert.MabRefIdeal.main_arg3)
          ∧ r.2.mem ((c.tc : Thread Cert.MabRefIdeal.nD Cert.MabRefIdeal.τ).loc Cert.MabRefIdeal.main_arg4) = m' ((c.tc : Thread Cert.MabRefIdeal.nD Cert.MabRefIdeal.τ).loc Cert.MabRefIdeal.main_arg4)
          ∧ r.2.mem ((c.tc : Thread Cert.MabRefIdeal.nD Cert.MabRefIdeal.τ).loc Cert.MabRefIdeal.main_arg5) = m' ((c.tc : Thread Cert.MabRefIdeal.nD Cert.MabRefIdeal.τ).loc Cert.MabRefIdeal.main_arg5)
          ∧ r.2.mem ((c.tc : Thread Cert.MabRefIdeal.nD Cert.MabRefIdeal.τ).loc Cert.MabRefIdeal.main_arg6) = m' ((c.tc : Thread Cert.MabRefIdeal.nD Cert.MabRefIdeal.τ).loc Cert.MabRefIdeal.main_arg6)
          ∧ r.2.mem ((c.tc : Thread Cert.MabRefIdeal.nD Cert.MabRefIdeal.τ).loc Cert.MabRefIdeal.main_arg7) = m' ((c.tc : Thread Cert.MabRefIdeal.nD Cert.MabRefIdeal.τ).loc Cert.MabRefIdeal.main_arg7)
          ∧ r.2.mem ((c.tc : Thread Cert.MabRefIdeal.nD Cert.MabRefIdeal.τ).loc Cert.MabRefIdeal.main_arg8) = m' ((c.tc : Thread Cert.MabRefIdeal.nD Cert.MabRefIdeal.τ).loc Cert.MabRefIdeal.main_arg8)
          ∧ r.2.mem ((c.tc : Thread Cert.MabRefIdeal.nD Cert.MabRefIdeal.τ).loc Cert.MabRefIdeal.main_arg9) = m' ((c.tc : Thread Cert.MabRefIdeal.nD Cert.MabRefIdeal.τ).loc Cert.MabRefIdeal.main_arg9)
          ∧ r.2.mem ((c.tc : Thread Cert.MabRefIdeal.nD Cert.MabRefIdeal.τ).loc Cert.MabRefIdeal.main_arg10) = m' ((c.tc : Thread Cert.MabRefIdeal.nD Cert.MabRefIdeal.τ).loc Cert.MabRefIdeal.main_arg10))

def Claim : Prop :=
  ∃ (hFox : Cert.Fox.Facts) (hFoxIdeal : Cert.FoxIdeal.Facts) (hFoxRefIdeal : Cert.FoxRefIdeal.Facts) (hFfn : Cert.Ffn.Facts) (hFfnIdeal : Cert.FfnIdeal.Facts) (hFfnRefIdeal : Cert.FfnRefIdeal.Facts) (hPab : Cert.Pab.Facts) (hPabIdeal : Cert.PabIdeal.Facts) (hPabRefIdeal : Cert.PabRefIdeal.Facts) (hPcd : Cert.Pcd.Facts) (hPcdIdeal : Cert.PcdIdeal.Facts) (hPcdRefIdeal : Cert.PcdRefIdeal.Facts) (hSsd : Cert.Ssd.Facts) (hSsdIdeal : Cert.SsdIdeal.Facts) (hSsdRefIdeal : Cert.SsdRefIdeal.Facts) (hMcd : Cert.Mcd.Facts) (hMcdIdeal : Cert.McdIdeal.Facts) (hMcdRefIdeal : Cert.McdRefIdeal.Facts) (hMab : Cert.Mab.Facts) (hMabIdeal : Cert.MabIdeal.Facts) (hMabRefIdeal : Cert.MabRefIdeal.Facts) (hPre_finite_scores : Cert.Pre_finite_scores.Facts) (hPre_decaying : Cert.Pre_decaying.Facts),
    quiescent_Fox (hFox := hFox)
    ∧ quiescent_FoxIdeal (hFoxIdeal := hFoxIdeal)
    ∧ quiescent_FoxIdeal_pre_finite_scores (hFoxIdeal := hFoxIdeal) (hPre_finite_scores := hPre_finite_scores)
    ∧ quiescent_FoxRefIdeal (hFoxRefIdeal := hFoxRefIdeal)
    ∧ quiescent_FoxRefIdeal_pre_finite_scores (hFoxRefIdeal := hFoxRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Pab (hPab := hPab)
    ∧ quiescent_PabIdeal (hPabIdeal := hPabIdeal)
    ∧ quiescent_PabRefIdeal (hPabRefIdeal := hPabRefIdeal)
    ∧ quiescent_Pcd (hPcd := hPcd)
    ∧ quiescent_PcdIdeal (hPcdIdeal := hPcdIdeal)
    ∧ quiescent_PcdRefIdeal (hPcdRefIdeal := hPcdRefIdeal)
    ∧ quiescent_Ssd (hSsd := hSsd)
    ∧ quiescent_SsdIdeal (hSsdIdeal := hSsdIdeal)
    ∧ quiescent_SsdIdeal_pre_decaying (hSsdIdeal := hSsdIdeal) (hPre_decaying := hPre_decaying)
    ∧ quiescent_SsdRefIdeal (hSsdRefIdeal := hSsdRefIdeal)
    ∧ quiescent_SsdRefIdeal_pre_decaying (hSsdRefIdeal := hSsdRefIdeal) (hPre_decaying := hPre_decaying)
    ∧ quiescent_Mcd (hMcd := hMcd)
    ∧ quiescent_McdIdeal (hMcdIdeal := hMcdIdeal)
    ∧ quiescent_McdRefIdeal (hMcdRefIdeal := hMcdRefIdeal)
    ∧ quiescent_Mab (hMab := hMab)
    ∧ quiescent_MabIdeal (hMabIdeal := hMabIdeal)
    ∧ quiescent_MabRefIdeal (hMabRefIdeal := hMabRefIdeal)
    ∧ preserves_Fox_FoxIdeal
    ∧ algebraic_FoxIdeal_FoxRefIdeal_pre_finite_scores (hFoxIdeal := hFoxIdeal) (hFoxRefIdeal := hFoxRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Pab_PabIdeal
    ∧ algebraic_PabIdeal_PabRefIdeal (hPabIdeal := hPabIdeal) (hPabRefIdeal := hPabRefIdeal)
    ∧ preserves_Pcd_PcdIdeal
    ∧ algebraic_PcdIdeal_PcdRefIdeal (hPcdIdeal := hPcdIdeal) (hPcdRefIdeal := hPcdRefIdeal)
    ∧ preserves_Ssd_SsdIdeal
    ∧ algebraic_SsdIdeal_SsdRefIdeal_pre_decaying (hSsdIdeal := hSsdIdeal) (hSsdRefIdeal := hSsdRefIdeal) (hPre_decaying := hPre_decaying)
    ∧ preserves_Mcd_McdIdeal
    ∧ algebraic_McdIdeal_McdRefIdeal (hMcdIdeal := hMcdIdeal) (hMcdRefIdeal := hMcdRefIdeal)
    ∧ preserves_Mab_MabIdeal
    ∧ algebraic_MabIdeal_MabRefIdeal (hMabIdeal := hMabIdeal) (hMabRefIdeal := hMabRefIdeal)
-- ==== Pre_decaying.lean ====
abbrev S17408x3328 : Shape := ⟨2, ![17408, 3328]⟩
abbrev S1x16x8x64x128 : Shape := ⟨5, ![1, 16, 8, 64, 128]⟩
abbrev S1x16x3x1024 : Shape := ⟨4, ![1, 16, 3, 1024]⟩
abbrev S1x4x1024 : Shape := ⟨3, ![1, 4, 1024]⟩
abbrev S1x1024 : Shape := ⟨2, ![1, 1024]⟩
abbrev S1x8 : Shape := ⟨2, ![1, 8]⟩
abbrev S1x512 : Shape := ⟨2, ![1, 512]⟩
abbrev S512x8 : Shape := ⟨2, ![512, 8]⟩
abbrev S8 : Shape := ⟨1, ![8]⟩
abbrev S_ : Shape := ⟨0, ![]⟩

class Facts : Prop where
  slices_S17408x3328_S512x8_16896_3072 : S17408x3328.Slices ![16896, 3072] S512x8
  shapeCasts_S1x8_S8 : S1x8.ShapeCasts S8
  bcast_S8_S1x8_1 : S8.BroadcastsInDim S1x8 (![1] : Fin 1 → Fin S1x8.rank)
  bcast_S1x8_S512x8_0_1 : S1x8.BroadcastsInDim S512x8 (![0, 1] : Fin 2 → Fin S512x8.rank)
  bcast_S_S512x8 : S_.BroadcastsInDim S512x8 (![] : Fin 0 → Fin S512x8.rank)

variable [Facts]

def fn {F : FTy → Type} [FloatOps F] (main_arg0 : FVec F S17408x3328 .f32) (main_arg1 : FVec F S1x16x8x64x128 .f32) (main_arg2 : FVec F S1x16x3x1024 .f32) (main_arg3 : FVec F S1x4x1024 .f32) (main_arg4 : FVec F S1x1024 .f32) (main_arg5 : FVec F S1x8 .f32) (main_arg6 : FVec F S1x8 .f32) (main_arg7 : FVec F S1x512 .f32) : IVec S512x8 1 :=
  let main_v0 : FVec F S512x8 .f32 := (extractStridedSlice S512x8 ![16896, 3072] · slices_S17408x3328_S512x8_16896_3072) main_arg0
  let main_v1 : FVec F S8 .f32 := shapeCast S8 main_arg5 shapeCasts_S1x8_S8
  let main_v2 : FVec F S8 .f32 := Host.exp main_v1
  let main_v3 : FVec F S8 .f32 := Host.negf main_v2
  let main_v4 : FVec F S1x8 .f32 := broadcastInDim S1x8 ![1] bcast_S8_S1x8_1 main_v3
  let main_v5 : FVec F S512x8 .f32 := broadcastInDim S512x8 ![0, 1] bcast_S1x8_S512x8_0_1 main_v4
  let main_v6 : FVec F S512x8 .f32 := mulf main_v0 main_v5
  let main_cst : FVec F S_ .f32 := constant S_ .f32 0x7F800000#32
  let main_v7 : FVec F S512x8 .f32 := broadcastInDim S512x8 ![] bcast_S_S512x8 main_cst
  let main_v8 : IVec S512x8 1 := cmpf .olt main_v6 main_v7
  main_v8
-- ==== Pre_finite_scores.lean ====
abbrev S17408x2304 : Shape := ⟨2, ![17408, 2304]⟩
abbrev S1x16x2048x8x64 : Shape := ⟨5, ![1, 16, 2048, 8, 64]⟩
abbrev S16x8x2304 : Shape := ⟨3, ![16, 8, 2304]⟩
abbrev S_ : Shape := ⟨0, ![]⟩

class Facts : Prop where
  bitsLt_bf16_f32 : FTy.bits .bf16 < FTy.bits .f32
  bcast_S_S17408x2304 : S_.BroadcastsInDim S17408x2304 (![] : Fin 0 → Fin S17408x2304.rank)
  bcast_S_S1x16x2048x8x64 : S_.BroadcastsInDim S1x16x2048x8x64 (![] : Fin 0 → Fin S1x16x2048x8x64.rank)
  bcast_S_S16x8x2304 : S_.BroadcastsInDim S16x8x2304 (![] : Fin 0 → Fin S16x8x2304.rank)

variable [Facts]

def fn {F : FTy → Type} [FloatOps F] (main_arg0 : FVec F S17408x2304 .bf16) (main_arg1 : FVec F S1x16x2048x8x64 .f32) (main_arg2 : FVec F S1x16x2048x8x64 .f32) (main_arg3 : FVec F S16x8x2304 .f32) : IVec S17408x2304 1 × IVec S1x16x2048x8x64 1 × IVec S16x8x2304 1 :=
  let main_v0 : FVec F S17408x2304 .f32 := (extf .f32 · bitsLt_bf16_f32) main_arg0
  let main_v1 : FVec F S17408x2304 .f32 := Host.absf main_v0
  let main_cst : FVec F S_ .f32 := constant S_ .f32 0x7F800000#32
  let main_v2 : FVec F S17408x2304 .f32 := broadcastInDim S17408x2304 ![] bcast_S_S17408x2304 main_cst
  let main_v3 : IVec S17408x2304 1 := cmpf .olt main_v1 main_v2
  let main_v4 : FVec F S1x16x2048x8x64 .f32 := Host.absf main_arg1
  let main_cst_0 : FVec F S_ .f32 := constant S_ .f32 0x7F800000#32
  let main_v5 : FVec F S1x16x2048x8x64 .f32 := broadcastInDim S1x16x2048x8x64 ![] bcast_S_S1x16x2048x8x64 main_cst_0
  let main_v6 : IVec S1x16x2048x8x64 1 := cmpf .olt main_v4 main_v5
  let main_v7 : FVec F S16x8x2304 .f32 := Host.absf main_arg3
  let main_cst_1 : FVec F S_ .f32 := constant S_ .f32 0x7F800000#32
  let main_v8 : FVec F S16x8x2304 .f32 := broadcastInDim S16x8x2304 ![] bcast_S_S16x8x2304 main_cst_1
  let main_v9 : IVec S16x8x2304 1 := cmpf .olt main_v7 main_v8
  (main_v3, main_v6, main_v9)
-- ==== Fox.lean ====
abbrev S17408x2304 : Shape := ⟨2, ![17408, 2304]⟩
abbrev S1x16x2048x8x64 : Shape := ⟨5, ![1, 16, 2048, 8, 64]⟩
abbrev S16x8x2304 : Shape := ⟨3, ![16, 8, 2304]⟩
abbrev S16x4x2x2304 : Shape := ⟨4, ![16, 4, 2, 2304]⟩
abbrev S16x4x2x32 : Shape := ⟨4, ![16, 4, 2, 32]⟩
abbrev S16x4x32x2 : Shape := ⟨4, ![16, 4, 32, 2]⟩
abbrev S16x2048x8x64 : Shape := ⟨4, ![16, 2048, 8, 64]⟩
abbrev S16x2048x512 : Shape := ⟨3, ![16, 2048, 512]⟩
abbrev S512x512 : Shape := ⟨2, ![512, 512]⟩
abbrev S32x128 : Shape := ⟨2, ![32, 128]⟩
abbrev S1x2048x128 : Shape := ⟨3, ![1, 2048, 128]⟩
abbrev S1x1x32x2 : Shape := ⟨4, ![1, 1, 32, 2]⟩
abbrev S1x1x2x2304 : Shape := ⟨4, ![1, 1, 2, 2304]⟩
abbrev S1x128 : Shape := ⟨2, ![1, 128]⟩
abbrev S2048x128 : Shape := ⟨2, ![2048, 128]⟩
abbrev S32x32 : Shape := ⟨2, ![32, 32]⟩
abbrev S1x1x32x1 : Shape := ⟨4, ![1, 1, 32, 1]⟩
abbrev S32x1 : Shape := ⟨2, ![32, 1]⟩
abbrev S32x2048 : Shape := ⟨2, ![32, 2048]⟩
abbrev S1x1x1x2048 : Shape := ⟨4, ![1, 1, 1, 2048]⟩
abbrev S1x2048 : Shape := ⟨2, ![1, 2048]⟩
abbrev S1x1x1x32 : Shape := ⟨4, ![1, 1, 1, 32]⟩
abbrev S1x32 : Shape := ⟨2, ![1, 32]⟩
abbrev S32 : Shape := ⟨1, ![32]⟩

abbrev nBuf : Space → Nat
  | .hbm => 12
  | .vmem => 16
  | .smem => 0
  | _ => 0

abbrev bufTy : (tb : Table) → Fin (tcTables nBuf tb) → BufTy
  | .hbm, ⟨0, _⟩ => ⟨S17408x2304, .bf16⟩
  | .hbm, ⟨1, _⟩ => ⟨S1x16x2048x8x64, .f32⟩
  | .hbm, ⟨2, _⟩ => ⟨S1x16x2048x8x64, .f32⟩
  | .hbm, ⟨3, _⟩ => ⟨S16x8x2304, .f32⟩
  | .hbm, ⟨4, _⟩ => ⟨S16x4x2x2304, .f32⟩
  | .hbm, ⟨5, _⟩ => ⟨S16x4x2x32, .f32⟩
  | .hbm, ⟨6, _⟩ => ⟨S16x4x32x2, .f32⟩
  | .hbm, ⟨7, _⟩ => ⟨S16x2048x8x64, .f32⟩
  | .hbm, ⟨8, _⟩ => ⟨S16x2048x512, .f32⟩
  | .hbm, ⟨9, _⟩ => ⟨S16x2048x8x64, .f32⟩
  | .hbm, ⟨10, _⟩ => ⟨S16x2048x512, .f32⟩
  | .hbm, ⟨11, _⟩ => ⟨S512x512, .bf16⟩
  | .local _ .vmem, ⟨0, _⟩ => ⟨S32x128, .bf16⟩
  | .local _ .vmem, ⟨1, _⟩ => ⟨S32x128, .bf16⟩
  | .local _ .vmem, ⟨2, _⟩ => ⟨S32x128, .bf16⟩
  | .local _ .vmem, ⟨3, _⟩ => ⟨S32x128, .bf16⟩
  | .local _ .vmem, ⟨4, _⟩ => ⟨S32x128, .bf16⟩
  | .local _ .vmem, ⟨5, _⟩ => ⟨S32x128, .bf16⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x1x32x2, .f32⟩
  | .local _ .vmem, ⟨11, _⟩ => ⟨S1x1x32x2, .f32⟩
  | .local _ .vmem, ⟨12, _⟩ => ⟨S1x1x2x2304, .f32⟩
  | .local _ .vmem, ⟨13, _⟩ => ⟨S1x1x2x2304, .f32⟩
  | .local _ .vmem, ⟨14, _⟩ => ⟨S32x128, .bf16⟩
  | .local _ .vmem, ⟨15, _⟩ => ⟨S32x128, .bf16⟩
  | _, _ => ⟨S17408x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c528_i32 : BitVec 32 := 528#32
  let v0 : BitVec 32 := Scalar.addi c528_i32 arg0
  let c4_i32 : BitVec 32 := 4#32
  let v1 : BitVec 32 := Scalar.addi c4_i32 arg1
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c528_i32 : BitVec 32 := 528#32
  let v0 : BitVec 32 := Scalar.addi c528_i32 arg0
  let c8_i32 : BitVec 32 := 8#32
  let v1 : BitVec 32 := Scalar.addi c8_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c528_i32 : BitVec 32 := 528#32
  let v0 : BitVec 32 := Scalar.addi c528_i32 arg0
  let c12_i32 : BitVec 32 := 12#32
  let v1 : BitVec 32 := Scalar.addi c12_i32 arg1
  let c0_i32 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x32x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FoxRefIdeal.lean ====
abbrev S17408x2304 : Shape := ⟨2, ![17408, 2304]⟩
abbrev S1x16x2048x8x64 : Shape := ⟨5, ![1, 16, 2048, 8, 64]⟩
abbrev S16x8x2304 : Shape := ⟨3, ![16, 8, 2304]⟩
abbrev S512x2304 : Shape := ⟨2, ![512, 2304]⟩
abbrev S16x32x2304 : Shape := ⟨3, ![16, 32, 2304]⟩
abbrev S16x32x1536 : Shape := ⟨3, ![16, 32, 1536]⟩
abbrev S16x32x512 : Shape := ⟨3, ![16, 32, 512]⟩
abbrev S16x32x8x64 : Shape := ⟨4, ![16, 32, 8, 64]⟩
abbrev S16x2048x8x64 : Shape := ⟨4, ![16, 2048, 8, 64]⟩
abbrev S16x2080x8x64 : Shape := ⟨4, ![16, 2080, 8, 64]⟩
abbrev S16x8x2080 : Shape := ⟨3, ![16, 8, 2080]⟩
abbrev S16x8x32 : Shape := ⟨3, ![16, 8, 32]⟩
abbrev S2080 : Shape := ⟨1, ![2080]⟩
abbrev S32 : Shape := ⟨1, ![32]⟩
abbrev S16x8x32x2080 : Shape := ⟨4, ![16, 8, 32, 2080]⟩
abbrev S_ : Shape := ⟨0, ![]⟩
abbrev S16x8x32x1 : Shape := ⟨4, ![16, 8, 32, 1]⟩
abbrev S16x8x1x2080 : Shape := ⟨4, ![16, 8, 1, 2080]⟩
abbrev S1x2080 : Shape := ⟨2, ![1, 2080]⟩
abbrev S32x1 : Shape := ⟨2, ![32, 1]⟩
abbrev S32x2080 : Shape := ⟨2, ![32, 2080]⟩
abbrev S16x8x64x32 : Shape := ⟨4, ![16, 8, 64, 32]⟩
abbrev S512x512 : Shape := ⟨2, ![512, 512]⟩

abbrev nBuf : Space → Nat
  | .hbm => 60
  | .vmem => 0
  | .smem => 0
  | _ => 0

abbrev bufTy : (tb : Table) → Fin (tcTables nBuf tb) → BufTy
  | .hbm, ⟨0, _⟩ => ⟨S17408x2304, .bf16⟩
  | .hbm, ⟨1, _⟩ => ⟨S1x16x2048x8x64, .f32⟩
  | .hbm, ⟨2, _⟩ => ⟨S1x16x2048x8x64, .f32⟩
  | .hbm, ⟨3, _⟩ => ⟨S16x8x2304, .f32⟩
  | .hbm, ⟨4, _⟩ => ⟨S512x2304, .bf16⟩
  | .hbm, ⟨5, _⟩ => ⟨S512x2304, .f32⟩
  | .hbm, ⟨6, _⟩ => ⟨S16x32x2304, .f32⟩
  | .hbm, ⟨7, _⟩ => ⟨S16x32x1536, .f32⟩
  | .hbm, ⟨8, _⟩ => ⟨S16x32x512, .f32⟩
  | .hbm, ⟨9, _⟩ => ⟨S16x32x512, .f32⟩
  | .hbm, ⟨10, _⟩ => ⟨S16x32x512, .f32⟩
  | .hbm, ⟨11, _⟩ => ⟨S16x32x8x64, .f32⟩
  | .hbm, ⟨12, _⟩ => ⟨S16x32x8x64, .f32⟩
  | .hbm, ⟨13, _⟩ => ⟨S16x32x8x64, .f32⟩
  | .hbm, ⟨14, _⟩ => ⟨S16x2048x8x64, .f32⟩
  | .hbm, ⟨15, _⟩ => ⟨S16x2080x8x64, .f32⟩
  | .hbm, ⟨16, _⟩ => ⟨S16x2048x8x64, .f32⟩
  | .hbm, ⟨17, _⟩ => ⟨S16x2080x8x64, .f32⟩
  | .hbm, ⟨18, _⟩ => ⟨S16x8x2080, .f32⟩
  | .hbm, ⟨19, _⟩ => ⟨S16x8x32, .f32⟩
  | .hbm, ⟨20, _⟩ => ⟨S2080, .i32⟩
  | .hbm, ⟨21, _⟩ => ⟨S32, .i32⟩
  | .hbm, ⟨22, _⟩ => ⟨S16x8x32x2080, .f32⟩
  | .hbm, ⟨23, _⟩ => ⟨S_, .f32⟩
  | .hbm, ⟨24, _⟩ => ⟨S16x8x32x2080, .f32⟩
  | .hbm, ⟨25, _⟩ => ⟨S16x8x32x2080, .f32⟩
  | .hbm, ⟨26, _⟩ => ⟨S16x8x32x1, .f32⟩
  | .hbm, ⟨27, _⟩ => ⟨S16x8x32x2080, .f32⟩
  | .hbm, ⟨28, _⟩ => ⟨S16x8x32x2080, .f32⟩
  | .hbm, ⟨29, _⟩ => ⟨S16x8x1x2080, .f32⟩
  | .hbm, ⟨30, _⟩ => ⟨S16x8x32x2080, .f32⟩
  | .hbm, ⟨31, _⟩ => ⟨S16x8x32x2080, .f32⟩
  | .hbm, ⟨32, _⟩ => ⟨S1x2080, .i32⟩
  | .hbm, ⟨33, _⟩ => ⟨S32x1, .i32⟩
  | .hbm, ⟨34, _⟩ => ⟨S32x2080, .i32⟩
  | .hbm, ⟨35, _⟩ => ⟨S32x2080, .i32⟩
  | .hbm, ⟨36, _⟩ => ⟨S32x2080, .i1⟩
  | .hbm, ⟨37, _⟩ => ⟨S_, .f32⟩
  | .hbm, ⟨38, _⟩ => ⟨S_, .f32⟩
  | .hbm, ⟨39, _⟩ => ⟨S16x8x32x2080, .i1⟩
  | .hbm, ⟨40, _⟩ => ⟨S16x8x32x2080, .f32⟩
  | .hbm, ⟨41, _⟩ => ⟨S16x8x32x2080, .f32⟩
  | .hbm, ⟨42, _⟩ => ⟨S_, .f32⟩
  | .hbm, ⟨43, _⟩ => ⟨S16x8x32, .f32⟩
  | .hbm, ⟨44, _⟩ => ⟨S_, .f32⟩
  | .hbm, ⟨45, _⟩ => ⟨S16x8x32, .f32⟩
  | .hbm, ⟨46, _⟩ => ⟨S16x8x32, .f32⟩
  | .hbm, ⟨47, _⟩ => ⟨S16x8x32x1, .f32⟩
  | .hbm, ⟨48, _⟩ => ⟨S16x8x32x2080, .f32⟩
  | .hbm, ⟨49, _⟩ => ⟨S16x8x32x2080, .f32⟩
  | .hbm, ⟨50, _⟩ => ⟨S16x8x32x2080, .f32⟩
  | .hbm, ⟨51, _⟩ => ⟨S_, .f32⟩
  | .hbm, ⟨52, _⟩ => ⟨S16x8x32, .f32⟩
  | .hbm, ⟨53, _⟩ => ⟨S16x8x32x1, .f32⟩
  | .hbm, ⟨54, _⟩ => ⟨S16x8x32x2080, .f32⟩
  | .hbm, ⟨55, _⟩ => ⟨S16x8x32x2080, .f32⟩
  | .hbm, ⟨56, _⟩ => ⟨S16x8x64x32, .f32⟩
  | .hbm, ⟨57, _⟩ => ⟨S16x32x8x64, .f32⟩
  | .hbm, ⟨58, _⟩ => ⟨S512x512, .f32⟩
  | .hbm, ⟨59, _⟩ => ⟨S512x512, .bf16⟩
  | _, _ => ⟨S17408x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_0 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== Ffn.lean ====
abbrev S17408x1024 : Shape := ⟨2, ![17408, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2x1x1024 : Shape := ⟨3, ![2, 1, 1024]⟩
abbrev S1024x1024 : Shape := ⟨2, ![1024, 1024]⟩
abbrev S1x1x1024 : Shape := ⟨3, ![1, 1, 1024]⟩
abbrev S1x1024x512 : Shape := ⟨3, ![1, 1024, 512]⟩
abbrev S1x512x1024 : Shape := ⟨3, ![1, 512, 1024]⟩
abbrev S1x1024 : Shape := ⟨2, ![1, 1024]⟩
abbrev S1024 : Shape := ⟨1, ![1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 9
  | .vmem => 14
  | .smem => 0
  | _ => 0

abbrev bufTy : (tb : Table) → Fin (tcTables nBuf tb) → BufTy
  | .hbm, ⟨0, _⟩ => ⟨S17408x1024, .f32⟩
  | .hbm, ⟨1, _⟩ => ⟨S2x1024, .f32⟩
  | .hbm, ⟨2, _⟩ => ⟨S2x1024, .f32⟩
  | .hbm, ⟨3, _⟩ => ⟨S2x1024x4096, .f32⟩
  | .hbm, ⟨4, _⟩ => ⟨S2x1024x4096, .f32⟩
  | .hbm, ⟨5, _⟩ => ⟨S2x4096x1024, .f32⟩
  | .hbm, ⟨6, _⟩ => ⟨S2x1x1024, .f32⟩
  | .hbm, ⟨7, _⟩ => ⟨S2x1x1024, .f32⟩
  | .hbm, ⟨8, _⟩ => ⟨S17408x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1x512x1024, .f32⟩
  | .local _ .vmem, ⟨9, _⟩ => ⟨S1x512x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![17, 8], ![false, false]⟩

def k0_cond2 (i : grid0.Coords) : BitVec 1 :=
  let arg1 : BitVec 32 := BitVec.ofNat 32 (i 1).val
  let c7_i32 : BitVec 32 := 7#32
  let v31 : BitVec 1 := Scalar.cmpi .eq arg1 c7_i32
  let v32 : BitVec 32 := Scalar.extui v31
  let c0_i32_20 : BitVec 32 := 0#32
  let v33 : BitVec 1 := Scalar.cmpi .ne v32 c0_i32_20
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S17408x1024 : Shape := ⟨2, ![17408, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S1024 : Shape := ⟨1, ![1024]⟩
abbrev S_ : Shape := ⟨0, ![]⟩
abbrev S17408 : Shape := ⟨1, ![17408]⟩
abbrev S17408x1 : Shape := ⟨2, ![17408, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S17408x4096 : Shape := ⟨2, ![17408, 4096]⟩

abbrev nBuf : Space → Nat
  | .hbm => 65
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S2x1024, .f32⟩
  | .hbm, ⟨2, _⟩ => ⟨S2x1024, .f32⟩
  | .hbm, ⟨3, _⟩ => ⟨S2x1024x4096, .f32⟩
  | .hbm, ⟨4, _⟩ => ⟨S2x1024x4096, .f32⟩
  | .hbm, ⟨5, _⟩ => ⟨S2x4096x1024, .f32⟩
  | .hbm, ⟨6, _⟩ => ⟨S1x1024, .f32⟩
  | .hbm, ⟨7, _⟩ => ⟨S1024, .f32⟩
  | .hbm, ⟨8, _⟩ => ⟨S17408x1024, .f32⟩
  | .hbm, ⟨9, _⟩ => ⟨S_, .f32⟩
  | .hbm, ⟨10, _⟩ => ⟨S17408, .f32⟩
  | .hbm, ⟨11, _⟩ => ⟨S17408x1, .f32⟩
  | .hbm, ⟨12, _⟩ => ⟨S_, .f32⟩
  | .hbm, ⟨13, _⟩ => ⟨S17408x1, .f32⟩
  | .hbm, ⟨14, _⟩ => ⟨S17408x1, .f32⟩
  | .hbm, ⟨15, _⟩ => ⟨S_, .f32⟩
  | .hbm, ⟨16, _⟩ => ⟨S17408x1, .f32⟩
  | .hbm, ⟨17, _⟩ => ⟨S17408x1, .f32⟩
  | .hbm, ⟨18, _⟩ => ⟨S17408x1, .f32⟩
  | .hbm, ⟨19, _⟩ => ⟨S17408x1024, .f32⟩
  | .hbm, ⟨20, _⟩ => ⟨S17408x1024, .f32⟩
  | .hbm, ⟨21, _⟩ => ⟨S1x1024, .f32⟩
  | .hbm, ⟨22, _⟩ => ⟨S17408x1024, .f32⟩
  | .hbm, ⟨23, _⟩ => ⟨S17408x1024, .f32⟩
  | .hbm, ⟨24, _⟩ => ⟨S1x1024x4096, .f32⟩
  | .hbm, ⟨25, _⟩ => ⟨S1024x4096, .f32⟩
  | .hbm, ⟨26, _⟩ => ⟨S1x1024x4096, .f32⟩
  | .hbm, ⟨27, _⟩ => ⟨S1024x4096, .f32⟩
  | .hbm, ⟨28, _⟩ => ⟨S1x4096x1024, .f32⟩
  | .hbm, ⟨29, _⟩ => ⟨S4096x1024, .f32⟩
  | .hbm, ⟨30, _⟩ => ⟨S17408x4096, .f32⟩
  | .hbm, ⟨31, _⟩ => ⟨S17408x4096, .f32⟩
  | .hbm, ⟨32, _⟩ => ⟨S17408x4096, .f32⟩
  | .hbm, ⟨33, _⟩ => ⟨S_, .f32⟩
  | .hbm, ⟨34, _⟩ => ⟨S17408x4096, .f32⟩
  | .hbm, ⟨35, _⟩ => ⟨S17408x4096, .f32⟩
  | .hbm, ⟨36, _⟩ => ⟨S_, .f32⟩
  | .hbm, ⟨37, _⟩ => ⟨S17408x4096, .f32⟩
  | .hbm, ⟨38, _⟩ => ⟨S17408x4096, .f32⟩
  | .hbm, ⟨39, _⟩ => ⟨S17408x4096, .f32⟩
  | .hbm, ⟨40, _⟩ => ⟨S17408x4096, .f32⟩
  | .hbm, ⟨41, _⟩ => ⟨S17408x4096, .f32⟩
  | .hbm, ⟨42, _⟩ => ⟨S17408x1024, .f32⟩
  | .hbm, ⟨43, _⟩ => ⟨S1x1024, .f32⟩
  | .hbm, ⟨44, _⟩ => ⟨S1024, .f32⟩
  | .hbm, ⟨45, _⟩ => ⟨S17408x1024, .f32⟩
  | .hbm, ⟨46, _⟩ => ⟨S_, .f32⟩
  | .hbm, ⟨47, _⟩ => ⟨S17408, .f32⟩
  | .hbm, ⟨48, _⟩ => ⟨S17408x1, .f32⟩
  | .hbm, ⟨49, _⟩ => ⟨S_, .f32⟩
  | .hbm, ⟨50, _⟩ => ⟨S17408x1, .f32⟩
  | .hbm, ⟨51, _⟩ => ⟨S17408x1, .f32⟩
  | .hbm, ⟨52, _⟩ => ⟨S_, .f32⟩
  | .hbm, ⟨53, _⟩ => ⟨S17408x1, .f32⟩
  | .hbm, ⟨54, _⟩ => ⟨S17408x1, .f32⟩
  | .hbm, ⟨55, _⟩ => ⟨S17408x1, .f32⟩
  | .hbm, ⟨56, _⟩ => ⟨S17408x1024, .f32⟩
  | .hbm, ⟨57, _⟩ => ⟨S17408x1024, .f32⟩
  | .hbm, ⟨58, _⟩ => ⟨S1x1024, .f32⟩
  | .hbm, ⟨59, _⟩ => ⟨S17408x1024, .f32⟩
  | .hbm, ⟨60, _⟩ => ⟨S17408x1024, .f32⟩
  | .hbm, ⟨61, _⟩ => ⟨S_, .f32⟩
  | .hbm, ⟨62, _⟩ => ⟨S17408x1024, .f32⟩
  | .hbm, ⟨63, _⟩ => ⟨S17408x1024, .f32⟩
  | .hbm, ⟨64, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Pab.lean ====
abbrev S17408x1024 : Shape := ⟨2, ![17408, 1024]⟩
abbrev S2x1024 : Shape := ⟨2, ![2, 1024]⟩
abbrev S1x1024x2056 : Shape := ⟨3, ![1, 1024, 2056]⟩
abbrev S1x8 : Shape := ⟨2, ![1, 8]⟩
abbrev S1024x2056 : Shape := ⟨2, ![1024, 2056]⟩
abbrev S_ : Shape := ⟨0, ![]⟩
abbrev S1024x2304 : Shape := ⟨2, ![1024, 2304]⟩
abbrev S1x256 : Shape := ⟨2, ![1, 256]⟩
abbrev S8 : Shape := ⟨1, ![8]⟩
abbrev S1 : Shape := ⟨1, ![1]⟩
abbrev S2 : Shape := ⟨1, ![2]⟩
abbrev S2x1x1024 : Shape := ⟨3, ![2, 1, 1024]⟩
abbrev S17408x2304 : Shape := ⟨2, ![17408, 2304]⟩
abbrev S1024x1024 : Shape := ⟨2, ![1024, 1024]⟩
abbrev S1x1x1024 : Shape := ⟨3, ![1, 1, 1024]⟩
abbrev S1024x1152 : Shape := ⟨2, ![1024, 1152]⟩
abbrev S1x1024 : Shape := ⟨2, ![1, 1024]⟩
abbrev S1024 : Shape := ⟨1, ![1024]⟩
abbrev S1024x1 : Shape := ⟨2, ![1024, 1]⟩
abbrev S1024x256 : Shape := ⟨2, ![1024, 256]⟩

abbrev nBuf : Space → Nat
  | .hbm => 21
  | .vmem => 11
  | .smem => 0
  | _ => 0

abbrev bufTy : (tb : Table) → Fin (tcTables nBuf tb) → BufTy
  | .hbm, ⟨0, _⟩ => ⟨S17408x1024, .f32⟩
  | .hbm, ⟨1, _⟩ => ⟨S2x1024, .f32⟩
  | .hbm, ⟨2, _⟩ => ⟨S1x1024x2056, .f32⟩
  | .hbm, ⟨3, _⟩ => ⟨S1x8, .f32⟩
  | .hbm, ⟨4, _⟩ => ⟨S1024x2056, .f32⟩
  | .hbm, ⟨5, _⟩ => ⟨S_, .i32⟩
  | .hbm, ⟨6, _⟩ => ⟨S_, .f32⟩
  | .hbm, ⟨7, _⟩ => ⟨S1024x2304, .f32⟩
  | .hbm, ⟨8, _⟩ => ⟨S1024x2304, .bf16⟩
  | .hbm, ⟨9, _⟩ => ⟨S_, .f32⟩
  | .hbm, ⟨10, _⟩ => ⟨S1x256, .f32⟩
  | .hbm, ⟨11, _⟩ => ⟨S8, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S1x256, .f32⟩
  | .hbm, ⟨18, _⟩ => ⟨S2x1x1024, .f32⟩
  | .hbm, ⟨19, _⟩ => ⟨S17408x2304, .f32⟩
  | .hbm, ⟨20, _⟩ => ⟨S17408x2304, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1024x1152, .bf16⟩
  | .local _ .vmem, ⟨4, _⟩ => ⟨S1024x1152, .bf16⟩
  | .local _ .vmem, ⟨5, _⟩ => ⟨S1x256, .f32⟩
  | .local _ .vmem, ⟨6, _⟩ => ⟨S1024x1152, .f32⟩
  | .local _ .vmem, ⟨7, _⟩ => ⟨S1024x1152, .f32⟩
  | .local _ .vmem, ⟨8, _⟩ => ⟨S1024x1152, .bf16⟩
  | .local _ .vmem, ⟨9, _⟩ => ⟨S1024x1152, .bf16⟩
  | .local _ .vmem, ⟨10, _⟩ => ⟨S1024x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![17, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1152 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PabRefIdeal.lean ====
abbrev S17408x1024 : Shape := ⟨2, ![17408, 1024]⟩
abbrev S2x1024 : Shape := ⟨2, ![2, 1024]⟩
abbrev S1x1024x2056 : Shape := ⟨3, ![1, 1024, 2056]⟩
abbrev S1x8 : Shape := ⟨2, ![1, 8]⟩
abbrev S1x1024 : Shape := ⟨2, ![1, 1024]⟩
abbrev S1024 : Shape := ⟨1, ![1024]⟩
abbrev S_ : Shape := ⟨0, ![]⟩
abbrev S17408 : Shape := ⟨1, ![17408]⟩
abbrev S17408x1 : Shape := ⟨2, ![17408, 1]⟩
abbrev S1024x2056 : Shape := ⟨2, ![1024, 2056]⟩
abbrev S17408x2056 : Shape := ⟨2, ![17408, 2056]⟩
abbrev S17408x8 : Shape := ⟨2, ![17408, 8]⟩
abbrev S8 : Shape := ⟨1, ![8]⟩
abbrev S17408x256 : Shape := ⟨2, ![17408, 256]⟩
abbrev S17408x2048 : Shape := ⟨2, ![17408, 2048]⟩
abbrev S17408x2304 : Shape := ⟨2, ![17408, 2304]⟩

abbrev nBuf : Space → Nat
  | .hbm => 51
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S2x1024, .f32⟩
  | .hbm, ⟨2, _⟩ => ⟨S1x1024x2056, .f32⟩
  | .hbm, ⟨3, _⟩ => ⟨S1x8, .f32⟩
  | .hbm, ⟨4, _⟩ => ⟨S1x1024, .f32⟩
  | .hbm, ⟨5, _⟩ => ⟨S1024, .f32⟩
  | .hbm, ⟨6, _⟩ => ⟨S17408x1024, .f32⟩
  | .hbm, ⟨7, _⟩ => ⟨S_, .f32⟩
  | .hbm, ⟨8, _⟩ => ⟨S17408, .f32⟩
  | .hbm, ⟨9, _⟩ => ⟨S17408x1, .f32⟩
  | .hbm, ⟨10, _⟩ => ⟨S_, .f32⟩
  | .hbm, ⟨11, _⟩ => ⟨S17408x1, .f32⟩
  | .hbm, ⟨12, _⟩ => ⟨S17408x1, .f32⟩
  | .hbm, ⟨13, _⟩ => ⟨S_, .f32⟩
  | .hbm, ⟨14, _⟩ => ⟨S17408x1, .f32⟩
  | .hbm, ⟨15, _⟩ => ⟨S17408x1, .f32⟩
  | .hbm, ⟨16, _⟩ => ⟨S17408x1, .f32⟩
  | .hbm, ⟨17, _⟩ => ⟨S17408x1024, .f32⟩
  | .hbm, ⟨18, _⟩ => ⟨S17408x1024, .f32⟩
  | .hbm, ⟨19, _⟩ => ⟨S1x1024, .f32⟩
  | .hbm, ⟨20, _⟩ => ⟨S17408x1024, .f32⟩
  | .hbm, ⟨21, _⟩ => ⟨S17408x1024, .f32⟩
  | .hbm, ⟨22, _⟩ => ⟨S1024x2056, .f32⟩
  | .hbm, ⟨23, _⟩ => ⟨S17408x2056, .f32⟩
  | .hbm, ⟨24, _⟩ => ⟨S17408x8, .f32⟩
  | .hbm, ⟨25, _⟩ => ⟨S8, .f32⟩
  | .hbm, ⟨26, _⟩ => ⟨S1x8, .f32⟩
  | .hbm, ⟨27, _⟩ => ⟨S17408x8, .f32⟩
  | .hbm, ⟨28, _⟩ => ⟨S17408x8, .f32⟩
  | .hbm, ⟨29, _⟩ => ⟨S_, .i32⟩
  | .hbm, ⟨30, _⟩ => ⟨S_, .f32⟩
  | .hbm, ⟨31, _⟩ => ⟨S17408x256, .f32⟩
  | .hbm, ⟨32, _⟩ => ⟨S17408x2048, .f32⟩
  | .hbm, ⟨33, _⟩ => ⟨S17408x256, .f32⟩
  | .hbm, ⟨34, _⟩ => ⟨S_, .f32⟩
  | .hbm, ⟨35, _⟩ => ⟨S17408x256, .f32⟩
  | .hbm, ⟨36, _⟩ => ⟨S17408x256, .f32⟩
  | .hbm, ⟨37, _⟩ => ⟨S17408x256, .f32⟩
  | .hbm, ⟨38, _⟩ => ⟨S17408x256, .f32⟩
  | .hbm, ⟨39, _⟩ => ⟨S17408x256, .i1⟩
  | .hbm, ⟨40, _⟩ => ⟨S17408x256, .f32⟩
  | .hbm, ⟨41, _⟩ => ⟨S17408x256, .f32⟩
  | .hbm, ⟨42, _⟩ => ⟨S17408x256, .f32⟩
  | .hbm, ⟨43, _⟩ => ⟨S17408x256, .f32⟩
  | .hbm, ⟨44, _⟩ => ⟨S17408x256, .f32⟩
  | .hbm, ⟨45, _⟩ => ⟨S17408x256, .f32⟩
  | .hbm, ⟨46, _⟩ => ⟨S17408x256, .f32⟩
  | .hbm, ⟨47, _⟩ => ⟨S17408x256, .f32⟩
  | .hbm, ⟨48, _⟩ => ⟨S17408x256, .f32⟩
  | .hbm, ⟨49, _⟩ => ⟨S17408x2304, .f32⟩
  | .hbm, ⟨50, _⟩ => ⟨S17408x2304, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_call0_v0 : Ref sig .tc := ⟨.hbm, 30, rfl⟩
abbrev main_v22 : Ref sig .tc := ⟨.hbm, 31, rfl⟩
abbrev main_v23 : Ref sig .tc := ⟨.hbm, 32, rfl⟩
abbrev main_call1_v0 : Ref sig .tc := ⟨.hbm, 33, rfl⟩
abbrev main_call1_call0_cst : Ref sig .tc := ⟨.hbm, 34, rfl⟩
abbrev main_call1_call0_v0 : Ref sig .tc := ⟨.hbm, 35, rfl⟩
abbrev main_call1_call0_v1 : Ref sig .tc := ⟨.hbm, 36, rfl⟩
abbrev main_call1_call0_v2 : Ref sig .tc := ⟨.hbm, 37, rfl⟩
abbrev main_call1_call0_v3 : Ref sig .tc := ⟨.hbm, 38, rfl⟩
abbrev main_call1_call0_v4 : Ref sig .tc := ⟨.hbm, 39, rfl⟩
abbrev main_call1_call0_v5 : Ref sig .tc := ⟨.hbm, 40, rfl⟩
abbrev main_call1_call0_v6 : Ref sig .tc := ⟨.hbm, 41, rfl⟩
abbrev main_call1_call0_v7 : Ref sig .tc := ⟨.hbm, 42, rfl⟩
abbrev main_call1_call0_v8 : Ref sig .tc := ⟨.hbm, 43, rfl⟩
abbrev main_call1_call0_v9 : Ref sig .tc := ⟨.hbm, 44, rfl⟩
abbrev main_call1_call0_v10 : Ref sig .tc := ⟨.hbm, 45, rfl⟩
abbrev main_call1_call0_v11 : Ref sig .tc := ⟨.hbm, 46, rfl⟩
abbrev main_call1_v1 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩

abbrev nD : Nat := 1
abbrev τ : Topo := Topo.v7x

variable {F : FTy → Type} [FloatOps F]
-- ==== Pcd.lean ====
abbrev S17408x1024 : Shape := ⟨2, ![17408, 1024]⟩
abbrev S2x1024 : Shape := ⟨2, ![2, 1024]⟩
abbrev S1x1024x3080 : Shape := ⟨3, ![1, 1024, 3080]⟩
abbrev S1x8 : Shape := ⟨2, ![1, 8]⟩
abbrev S1024x3080 : Shape := ⟨2, ![1024, 3080]⟩
abbrev S1024x1024 : Shape := ⟨2, ![1024, 1024]⟩
abbrev S1024x512 : Shape := ⟨2, ![1024, 512]⟩
abbrev S1024x1536 : Shape := ⟨2, ![1024, 1536]⟩
abbrev S1024x8 : Shape := ⟨2, ![1024, 8]⟩
abbrev S_ : Shape := ⟨0, ![]⟩
abbrev S1024x3328 : Shape := ⟨2, ![1024, 3328]⟩
abbrev S1x256 : Shape := ⟨2, ![1, 256]⟩
abbrev S8 : Shape := ⟨1, ![8]⟩
abbrev S1 : Shape := ⟨1, ![1]⟩
abbrev S2 : Shape := ⟨1, ![2]⟩
abbrev S2x1x1024 : Shape := ⟨3, ![2, 1, 1024]⟩
abbrev S17408x3328 : Shape := ⟨2, ![17408, 3328]⟩
abbrev S1x1x1024 : Shape := ⟨3, ![1, 1, 1024]⟩
abbrev S1024x1664 : Shape := ⟨2, ![1024, 1664]⟩
abbrev S1x1024 : Shape := ⟨2, ![1, 1024]⟩
abbrev S1024 : Shape := ⟨1, ![1024]⟩
abbrev S1024x1 : Shape := ⟨2, ![1024, 1]⟩
abbrev S1024x256 : Shape := ⟨2, ![1024, 256]⟩

abbrev nBuf : Space → Nat
  | .hbm => 26
  | .vmem => 11
  | .smem => 0
  | _ => 0

abbrev bufTy : (tb : Table) → Fin (tcTables nBuf tb) → BufTy
  | .hbm, ⟨0, _⟩ => ⟨S17408x1024, .f32⟩
  | .hbm, ⟨1, _⟩ => ⟨S2x1024, .f32⟩
  | .hbm, ⟨2, _⟩ => ⟨S1x1024x3080, .f32⟩
  | .hbm, ⟨3, _⟩ => ⟨S1x8, .f32⟩
  | .hbm, ⟨4, _⟩ => ⟨S1024x3080, .f32⟩
  | .hbm, ⟨5, _⟩ => ⟨S1024x1024, .f32⟩
  | .hbm, ⟨6, _⟩ => ⟨S1024x512, .f32⟩
  | .hbm, ⟨7, _⟩ => ⟨S1024x1536, .f32⟩
  | .hbm, ⟨8, _⟩ => ⟨S1024x8, .f32⟩
  | .hbm, ⟨9, _⟩ => ⟨S1024x3080, .f32⟩
  | .hbm, ⟨10, _⟩ => ⟨S_, .i32⟩
  | .hbm, ⟨11, _⟩ => ⟨S_, .f32⟩
  | .hbm, ⟨12, _⟩ => ⟨S1024x3328, .f32⟩
  | .hbm, ⟨13, _⟩ => ⟨S1024x3328, .bf16⟩
  | .hbm, ⟨14, _⟩ => ⟨S_, .f32⟩
  | .hbm, ⟨15, _⟩ => ⟨S1x256, .f32⟩
  | .hbm, ⟨16, _⟩ => ⟨S8, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x256, .f32⟩
  | .hbm, ⟨23, _⟩ => ⟨S2x1x1024, .f32⟩
  | .hbm, ⟨24, _⟩ => ⟨S17408x3328, .f32⟩
  | .hbm, ⟨25, _⟩ => ⟨S17408x3328, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1024x1664, .bf16⟩
  | .local _ .vmem, ⟨4, _⟩ => ⟨S1024x1664, .bf16⟩
  | .local _ .vmem, ⟨5, _⟩ => ⟨S1x256, .f32⟩
  | .local _ .vmem, ⟨6, _⟩ => ⟨S1024x1664, .f32⟩
  | .local _ .vmem, ⟨7, _⟩ => ⟨S1024x1664, .f32⟩
  | .local _ .vmem, ⟨8, _⟩ => ⟨S1024x1664, .bf16⟩
  | .local _ .vmem, ⟨9, _⟩ => ⟨S1024x1664, .bf16⟩
  | .local _ .vmem, ⟨10, _⟩ => ⟨S1024x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![17, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1664 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PcdRefIdeal.lean ====
abbrev S17408x1024 : Shape := ⟨2, ![17408, 1024]⟩
abbrev S2x1024 : Shape := ⟨2, ![2, 1024]⟩
abbrev S1x1024x3080 : Shape := ⟨3, ![1, 1024, 3080]⟩
abbrev S1x8 : Shape := ⟨2, ![1, 8]⟩
abbrev S1x1024 : Shape := ⟨2, ![1, 1024]⟩
abbrev S1024 : Shape := ⟨1, ![1024]⟩
abbrev S_ : Shape := ⟨0, ![]⟩
abbrev S17408 : Shape := ⟨1, ![17408]⟩
abbrev S17408x1 : Shape := ⟨2, ![17408, 1]⟩
abbrev S1024x3080 : Shape := ⟨2, ![1024, 3080]⟩
abbrev S17408x3080 : Shape := ⟨2, ![17408, 3080]⟩
abbrev S17408x512 : Shape := ⟨2, ![17408, 512]⟩
abbrev S17408x8 : Shape := ⟨2, ![17408, 8]⟩
abbrev S17408x1536 : Shape := ⟨2, ![17408, 1536]⟩
abbrev S8 : Shape := ⟨1, ![8]⟩
abbrev S17408x256 : Shape := ⟨2, ![17408, 256]⟩
abbrev S17408x3328 : Shape := ⟨2, ![17408, 3328]⟩

abbrev nBuf : Space → Nat
  | .hbm => 51
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S2x1024, .f32⟩
  | .hbm, ⟨2, _⟩ => ⟨S1x1024x3080, .f32⟩
  | .hbm, ⟨3, _⟩ => ⟨S1x8, .f32⟩
  | .hbm, ⟨4, _⟩ => ⟨S1x1024, .f32⟩
  | .hbm, ⟨5, _⟩ => ⟨S1024, .f32⟩
  | .hbm, ⟨6, _⟩ => ⟨S17408x1024, .f32⟩
  | .hbm, ⟨7, _⟩ => ⟨S_, .f32⟩
  | .hbm, ⟨8, _⟩ => ⟨S17408, .f32⟩
  | .hbm, ⟨9, _⟩ => ⟨S17408x1, .f32⟩
  | .hbm, ⟨10, _⟩ => ⟨S_, .f32⟩
  | .hbm, ⟨11, _⟩ => ⟨S17408x1, .f32⟩
  | .hbm, ⟨12, _⟩ => ⟨S17408x1, .f32⟩
  | .hbm, ⟨13, _⟩ => ⟨S_, .f32⟩
  | .hbm, ⟨14, _⟩ => ⟨S17408x1, .f32⟩
  | .hbm, ⟨15, _⟩ => ⟨S17408x1, .f32⟩
  | .hbm, ⟨16, _⟩ => ⟨S17408x1, .f32⟩
  | .hbm, ⟨17, _⟩ => ⟨S17408x1024, .f32⟩
  | .hbm, ⟨18, _⟩ => ⟨S17408x1024, .f32⟩
  | .hbm, ⟨19, _⟩ => ⟨S1x1024, .f32⟩
  | .hbm, ⟨20, _⟩ => ⟨S17408x1024, .f32⟩
  | .hbm, ⟨21, _⟩ => ⟨S17408x1024, .f32⟩
  | .hbm, ⟨22, _⟩ => ⟨S1024x3080, .f32⟩
  | .hbm, ⟨23, _⟩ => ⟨S17408x3080, .f32⟩
  | .hbm, ⟨24, _⟩ => ⟨S17408x512, .f32⟩
  | .hbm, ⟨25, _⟩ => ⟨S17408x1024, .f32⟩
  | .hbm, ⟨26, _⟩ => ⟨S17408x8, .f32⟩
  | .hbm, ⟨27, _⟩ => ⟨S17408x1536, .f32⟩
  | .hbm, ⟨28, _⟩ => ⟨S8, .f32⟩
  | .hbm, ⟨29, _⟩ => ⟨S1x8, .f32⟩
  | .hbm, ⟨30, _⟩ => ⟨S17408x8, .f32⟩
  | .hbm, ⟨31, _⟩ => ⟨S17408x8, .f32⟩
  | .hbm, ⟨32, _⟩ => ⟨S_, .i32⟩
  | .hbm, ⟨33, _⟩ => ⟨S_, .f32⟩
  | .hbm, ⟨34, _⟩ => ⟨S17408x256, .f32⟩
  | .hbm, ⟨35, _⟩ => ⟨S_, .f32⟩
  | .hbm, ⟨36, _⟩ => ⟨S17408x256, .f32⟩
  | .hbm, ⟨37, _⟩ => ⟨S17408x256, .f32⟩
  | .hbm, ⟨38, _⟩ => ⟨S17408x256, .f32⟩
  | .hbm, ⟨39, _⟩ => ⟨S17408x256, .f32⟩
  | .hbm, ⟨40, _⟩ => ⟨S17408x256, .i1⟩
  | .hbm, ⟨41, _⟩ => ⟨S17408x256, .f32⟩
  | .hbm, ⟨42, _⟩ => ⟨S17408x256, .f32⟩
  | .hbm, ⟨43, _⟩ => ⟨S17408x256, .f32⟩
  | .hbm, ⟨44, _⟩ => ⟨S17408x256, .f32⟩
  | .hbm, ⟨45, _⟩ => ⟨S17408x256, .f32⟩
  | .hbm, ⟨46, _⟩ => ⟨S17408x256, .f32⟩
  | .hbm, ⟨47, _⟩ => ⟨S17408x256, .f32⟩
  | .hbm, ⟨48, _⟩ => ⟨S17408x256, .f32⟩
  | .hbm, ⟨49, _⟩ => ⟨S17408x3328, .f32⟩
  | .hbm, ⟨50, _⟩ => ⟨S17408x3328, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_call0_v0 : Ref sig .tc := ⟨.hbm, 33, rfl⟩
abbrev main_v25 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]
-- ==== Ssd.lean ====
abbrev S17408x3328 : Shape := ⟨2, ![17408, 3328]⟩
abbrev S1x16x8x64x128 : Shape := ⟨5, ![1, 16, 8, 64, 128]⟩
abbrev S1x16x3x1024 : Shape := ⟨4, ![1, 16, 3, 1024]⟩
abbrev S1x4x1024 : Shape := ⟨3, ![1, 4, 1024]⟩
abbrev S1x1024 : Shape := ⟨2, ![1, 1024]⟩
abbrev S1x8 : Shape := ⟨2, ![1, 8]⟩
abbrev S1x512 : Shape := ⟨2, ![1, 512]⟩
abbrev S4x1024 : Shape := ⟨2, ![4, 1024]⟩
abbrev S1024 : Shape := ⟨1, ![1024]⟩
abbrev S_ : Shape := ⟨0, ![]⟩
abbrev S1x128 : Shape := ⟨2, ![1, 128]⟩
abbrev S8 : Shape := ⟨1, ![8]⟩
abbrev S1 : Shape := ⟨1, ![1]⟩
abbrev S2 : Shape := ⟨1, ![2]⟩
abbrev S8x64 : Shape := ⟨2, ![8, 64]⟩
abbrev S512 : Shape := ⟨1, ![512]⟩
abbrev S16x3x1024 : Shape := ⟨3, ![16, 3, 1024]⟩
abbrev S16x8x64x128 : Shape := ⟨4, ![16, 8, 64, 128]⟩
abbrev S16x512x128 : Shape := ⟨3, ![16, 512, 128]⟩
abbrev S512x512 : Shape := ⟨2, ![512, 512]⟩
abbrev S32x512 : Shape := ⟨2, ![32, 512]⟩
abbrev S32x1024 : Shape := ⟨2, ![32, 1024]⟩
abbrev S32x128 : Shape := ⟨2, ![32, 128]⟩
abbrev S1x3x1024 : Shape := ⟨3, ![1, 3, 1024]⟩
abbrev S1x512x128 : Shape := ⟨3, ![1, 512, 128]⟩
abbrev S40x1024 : Shape := ⟨2, ![40, 1024]⟩
abbrev S512x128 : Shape := ⟨2, ![512, 128]⟩
abbrev S3x1024 : Shape := ⟨2, ![3, 1024]⟩
abbrev S32x256 : Shape := ⟨2, ![32, 256]⟩
abbrev S32x32 : Shape := ⟨2, ![32, 32]⟩
abbrev S128x128 : Shape := ⟨2, ![128, 128]⟩
abbrev S128x32 : Shape := ⟨2, ![128, 32]⟩
abbrev S128x1 : Shape := ⟨2, ![128, 1]⟩
abbrev S32x1 : Shape := ⟨2, ![32, 1]⟩
abbrev S1x32 : Shape := ⟨2, ![1, 32]⟩
abbrev S1x1 : Shape := ⟨2, ![1, 1]⟩
abbrev S32 : Shape := ⟨1, ![32]⟩
abbrev S1x256 : Shape := ⟨2, ![1, 256]⟩

abbrev nBuf : Space → Nat
  | .hbm => 32
  | .vmem => 24
  | .smem => 0
  | _ => 0

abbrev bufTy : (tb : Table) → Fin (tcTables nBuf tb) → BufTy
  | .hbm, ⟨0, _⟩ => ⟨S17408x3328, .f32⟩
  | .hbm, ⟨1, _⟩ => ⟨S1x16x8x64x128, .f32⟩
  | .hbm, ⟨2, _⟩ => ⟨S1x16x3x1024, .f32⟩
  | .hbm, ⟨3, _⟩ => ⟨S1x4x1024, .f32⟩
  | .hbm, ⟨4, _⟩ => ⟨S1x1024, .f32⟩
  | .hbm, ⟨5, _⟩ => ⟨S1x8, .f32⟩
  | .hbm, ⟨6, _⟩ => ⟨S1x8, .f32⟩
  | .hbm, ⟨7, _⟩ => ⟨S1x512, .f32⟩
  | .hbm, ⟨8, _⟩ => ⟨S4x1024, .f32⟩
  | .hbm, ⟨9, _⟩ => ⟨S1024, .f32⟩
  | .hbm, ⟨10, _⟩ => ⟨S1x1024, .f32⟩
  | .hbm, ⟨11, _⟩ => ⟨S_, .f32⟩
  | .hbm, ⟨12, _⟩ => ⟨S1x128, .f32⟩
  | .hbm, ⟨13, _⟩ => ⟨S8, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S1x128, .f32⟩
  | .hbm, ⟨20, _⟩ => ⟨S8, .f32⟩
  | .hbm, ⟨21, _⟩ => ⟨S8x64, .f32⟩
  | .hbm, ⟨22, _⟩ => ⟨S512, .f32⟩
  | .hbm, ⟨23, _⟩ => ⟨S1x512, .f32⟩
  | .hbm, ⟨24, _⟩ => ⟨S512, .f32⟩
  | .hbm, ⟨25, _⟩ => ⟨S1x512, .f32⟩
  | .hbm, ⟨26, _⟩ => ⟨S16x3x1024, .f32⟩
  | .hbm, ⟨27, _⟩ => ⟨S16x8x64x128, .f32⟩
  | .hbm, ⟨28, _⟩ => ⟨S16x512x128, .f32⟩
  | .hbm, ⟨29, _⟩ => ⟨S512x512, .bf16⟩
  | .hbm, ⟨30, _⟩ => ⟨S16x512x128, .f32⟩
  | .hbm, ⟨31, _⟩ => ⟨S16x3x1024, .f32⟩
  | .local _ .vmem, ⟨0, _⟩ => ⟨S32x512, .f32⟩
  | .local _ .vmem, ⟨1, _⟩ => ⟨S32x512, .f32⟩
  | .local _ .vmem, ⟨2, _⟩ => ⟨S32x1024, .f32⟩
  | .local _ .vmem, ⟨3, _⟩ => ⟨S32x1024, .f32⟩
  | .local _ .vmem, ⟨4, _⟩ => ⟨S32x128, .f32⟩
  | .local _ .vmem, ⟨5, _⟩ => ⟨S32x128, .f32⟩
  | .local _ .vmem, ⟨6, _⟩ => ⟨S1x3x1024, .f32⟩
  | .local _ .vmem, ⟨7, _⟩ => ⟨S1x3x1024, .f32⟩
  | .local _ .vmem, ⟨8, _⟩ => ⟨S1x512x128, .f32⟩
  | .local _ .vmem, ⟨9, _⟩ => ⟨S1x512x128, .f32⟩
  | .local _ .vmem, ⟨10, _⟩ => ⟨S4x1024, .f32⟩
  | .local _ .vmem, ⟨11, _⟩ => ⟨S1x1024, .f32⟩
  | .local _ .vmem, ⟨12, _⟩ => ⟨S1x128, .f32⟩
  | .local _ .vmem, ⟨13, _⟩ => ⟨S1x512, .f32⟩
  | .local _ .vmem, ⟨14, _⟩ => ⟨S1x512, .f32⟩
  | .local _ .vmem, ⟨15, _⟩ => ⟨S32x512, .bf16⟩
  | .local _ .vmem, ⟨16, _⟩ => ⟨S32x512, .bf16⟩
  | .local _ .vmem, ⟨17, _⟩ => ⟨S1x512x128, .f32⟩
  | .local _ .vmem, ⟨18, _⟩ => ⟨S1x512x128, .f32⟩
  | .local _ .vmem, ⟨19, _⟩ => ⟨S1x3x1024, .f32⟩
  | .local _ .vmem, ⟨20, _⟩ => ⟨S1x3x1024, .f32⟩
  | .local _ .vmem, ⟨21, _⟩ => ⟨S40x1024, .f32⟩
  | .local _ .vmem, ⟨22, _⟩ => ⟨S512x128, .f32⟩
  | .local _ .vmem, ⟨23, _⟩ => ⟨S32x512, .f32⟩
  | _, _ => ⟨S17408x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_146 : BitVec 32 := 0#32
  let v601 : BitVec 1 := Scalar.cmpi .eq arg1 c0_i32_146
  let v602 : BitVec 32 := Scalar.extui v601
  let c0_i32_147 : BitVec 32 := 0#32
  let v603 : BitVec 1 := Scalar.cmpi .ne v602 c0_i32_147
  v603

def k0_cond2 (i : grid0.Coords) : BitVec 1 :=
  let arg1 : BitVec 32 := BitVec.ofNat 32 (i 1).val
  let c0_i32_15 : BitVec 32 := 0#32
  let v34 : BitVec 1 := Scalar.cmpi .eq arg1 c0_i32_15
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c528_i32 : BitVec 32 := 528#32
  let v1 : BitVec 32 := Scalar.addi c528_i32 v0
  let v2 : BitVec 32 := Scalar.addi v1 arg1
  let c2_i32 : BitVec 32 := 2#32
  let c0_i32 : BitVec 32 := 0#32
  ![v2.toNat, c2_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c528_i32 : BitVec 32 := 528#32
  let v1 : BitVec 32 := Scalar.addi c528_i32 v0
  let v2 : BitVec 32 := Scalar.addi v1 arg1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c528_i32 : BitVec 32 := 528#32
  let v1 : BitVec 32 := Scalar.addi c528_i32 v0
  let v2 : BitVec 32 := Scalar.addi v1 arg1
  let c24_i32 : BitVec 32 := 24#32
  let c0_i32 : BitVec 32 := 0#32
  ![v2.toNat, c24_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S32x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x3x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== SsdRefIdeal.lean ====
abbrev S17408x3328 : Shape := ⟨2, ![17408, 3328]⟩
abbrev S1x16x8x64x128 : Shape := ⟨5, ![1, 16, 8, 64, 128]⟩
abbrev S1x16x3x1024 : Shape := ⟨4, ![1, 16, 3, 1024]⟩
abbrev S1x4x1024 : Shape := ⟨3, ![1, 4, 1024]⟩
abbrev S1x1024 : Shape := ⟨2, ![1, 1024]⟩
abbrev S1x8 : Shape := ⟨2, ![1, 8]⟩
abbrev S1x512 : Shape := ⟨2, ![1, 512]⟩
abbrev S512x3328 : Shape := ⟨2, ![512, 3328]⟩
abbrev S16x32x3328 : Shape := ⟨3, ![16, 32, 3328]⟩
abbrev S16x32x1024 : Shape := ⟨3, ![16, 32, 1024]⟩
abbrev S16x32x512 : Shape := ⟨3, ![16, 32, 512]⟩
abbrev S16x32x8 : Shape := ⟨3, ![16, 32, 8]⟩
abbrev S16x3x1024 : Shape := ⟨3, ![16, 3, 1024]⟩
abbrev S16x35x1024 : Shape := ⟨3, ![16, 35, 1024]⟩
abbrev S1024 : Shape := ⟨1, ![1024]⟩
abbrev S1x1x1024 : Shape := ⟨3, ![1, 1, 1024]⟩
abbrev S_ : Shape := ⟨0, ![]⟩
abbrev S16x32x8x64 : Shape := ⟨4, ![16, 32, 8, 64]⟩
abbrev S16x32x256 : Shape := ⟨3, ![16, 32, 256]⟩
abbrev S16x32x2x128 : Shape := ⟨4, ![16, 32, 2, 128]⟩
abbrev S8 : Shape := ⟨1, ![8]⟩
abbrev S16x8x64x128 : Shape := ⟨4, ![16, 8, 64, 128]⟩
abbrev S16x32x2x4x128 : Shape := ⟨5, ![16, 32, 2, 4, 128]⟩
abbrev S16x32x8x128 : Shape := ⟨4, ![16, 32, 8, 128]⟩
abbrev S16x32x8x1 : Shape := ⟨4, ![16, 32, 8, 1]⟩
abbrev S1x1x8 : Shape := ⟨3, ![1, 1, 8]⟩
abbrev S16x32x1x8 : Shape := ⟨4, ![16, 32, 1, 8]⟩
abbrev S16x1x32x8 : Shape := ⟨4, ![16, 1, 32, 8]⟩
abbrev S16x32x32x8 : Shape := ⟨4, ![16, 32, 32, 8]⟩
abbrev S32x32 : Shape := ⟨2, ![32, 32]⟩
abbrev S32x32x1 : Shape := ⟨3, ![32, 32, 1]⟩
abbrev S16x8x32x32 : Shape := ⟨4, ![16, 8, 32, 32]⟩
abbrev S16x8x64x32 : Shape := ⟨4, ![16, 8, 64, 32]⟩
abbrev S16x1x8 : Shape := ⟨3, ![16, 1, 8]⟩
abbrev S16x8 : Shape := ⟨2, ![16, 8]⟩
abbrev S16x8x1x1 : Shape := ⟨4, ![16, 8, 1, 1]⟩
abbrev S8x1 : Shape := ⟨2, ![8, 1]⟩
abbrev S1x1x8x1 : Shape := ⟨4, ![1, 1, 8, 1]⟩
abbrev S16x32x2x256 : Shape := ⟨4, ![16, 32, 2, 256]⟩
abbrev S16x32x2 : Shape := ⟨3, ![16, 32, 2]⟩
abbrev S16x32x2x1 : Shape := ⟨4, ![16, 32, 2, 1]⟩
abbrev S512 : Shape := ⟨1, ![512]⟩
abbrev S1x1x512 : Shape := ⟨3, ![1, 1, 512]⟩
abbrev S512x512 : Shape := ⟨2, ![512, 512]⟩
abbrev S16x512x128 : Shape := ⟨3, ![16, 512, 128]⟩

abbrev nBuf : Space → Nat
  | .hbm => 173
  | .vmem => 0
  | .smem => 0
  | _ => 0

abbrev hbmTy0_0 (i : Nat) : BufTy := match i % 128 with
  | 0 => ⟨S17408x3328, .f32⟩
  | 1 => ⟨S1x16x8x64x128, .f32⟩
  | 2 => ⟨S1x16x3x1024, .f32⟩
  | 3 => ⟨S1x4x1024, .f32⟩
  | 4 => ⟨S1x1024, .f32⟩
  | 5 => ⟨S1x8, .f32⟩
  | 6 => ⟨S1x8, .f32⟩
  | 7 => ⟨S1x512, .f32⟩
  | 8 => ⟨S512x3328, .f32⟩
  | 9 => ⟨S16x32x3328, .f32⟩
  | 10 => ⟨S16x32x1024, .f32⟩
  | 11 => ⟨S16x32x512, .f32⟩
  | 12 => ⟨S16x32x8, .f32⟩
  | 13 => ⟨S16x3x1024, .f32⟩
  | 14 => ⟨S16x35x1024, .f32⟩
  | 15 => ⟨S1024, .f32⟩
  | 16 => ⟨S16x32x1024, .f32⟩
  | 17 => ⟨S1x1x1024, .f32⟩
  | 18 => ⟨S1024, .f32⟩
  | 19 => ⟨S1x1x1024, .f32⟩
  | 20 => ⟨S16x32x1024, .f32⟩
  | 21 => ⟨S16x32x1024, .f32⟩
  | 22 => ⟨S1x1x1024, .f32⟩
  | 23 => ⟨S16x32x1024, .f32⟩
  | 24 => ⟨S16x32x1024, .f32⟩
  | 25 => ⟨S16x32x1024, .f32⟩
  | 26 => ⟨S1x1x1024, .f32⟩
  | 27 => ⟨S1024, .f32⟩
  | 28 => ⟨S1x1x1024, .f32⟩
  | 29 => ⟨S16x32x1024, .f32⟩
  | 30 => ⟨S16x32x1024, .f32⟩
  | 31 => ⟨S16x32x1024, .f32⟩
  | 32 => ⟨S16x32x1024, .f32⟩
  | 33 => ⟨S1x1x1024, .f32⟩
  | 34 => ⟨S1024, .f32⟩
  | 35 => ⟨S1x1x1024, .f32⟩
  | 36 => ⟨S16x32x1024, .f32⟩
  | 37 => ⟨S16x32x1024, .f32⟩
  | 38 => ⟨S16x32x1024, .f32⟩
  | 39 => ⟨S16x32x1024, .f32⟩
  | 40 => ⟨S1x1x1024, .f32⟩
  | 41 => ⟨S1024, .f32⟩
  | 42 => ⟨S1x1x1024, .f32⟩
  | 43 => ⟨S16x32x1024, .f32⟩
  | 44 => ⟨S16x32x1024, .f32⟩
  | 45 => ⟨S16x32x1024, .f32⟩
  | 46 => ⟨S16x3x1024, .f32⟩
  | 47 => ⟨S16x32x1024, .f32⟩
  | 48 => ⟨S16x32x1024, .f32⟩
  | 49 => ⟨S_, .f32⟩
  | 50 => ⟨S16x32x1024, .f32⟩
  | 51 => ⟨S16x32x1024, .f32⟩
  | 52 => ⟨S_, .f32⟩
  | 53 => ⟨S16x32x1024, .f32⟩
  | 54 => ⟨S16x32x1024, .f32⟩
  | 55 => ⟨S16x32x1024, .f32⟩
  | 56 => ⟨S16x32x512, .f32⟩
  | 57 => ⟨S16x32x8x64, .f32⟩
  | 58 => ⟨S16x32x256, .f32⟩
  | 59 => ⟨S16x32x2x128, .f32⟩
  | 60 => ⟨S16x32x256, .f32⟩
  | 61 => ⟨S16x32x2x128, .f32⟩
  | 62 => ⟨S8, .f32⟩
  | 63 => ⟨S8, .f32⟩
  | 64 => ⟨S8, .f32⟩
  | 65 => ⟨S16x8x64x128, .f32⟩
  | 66 => ⟨S16x32x2x4x128, .f32⟩
  | 67 => ⟨S16x32x8x128, .f32⟩
  | 68 => ⟨S16x32x2x4x128, .f32⟩
  | 69 => ⟨S16x32x8x128, .f32⟩
  | 70 => ⟨S16x32x8x1, .f32⟩
  | 71 => ⟨S16x32x8x64, .f32⟩
  | 72 => ⟨S16x32x8x64, .f32⟩
  | 73 => ⟨S1x1x8, .f32⟩
  | 74 => ⟨S16x32x8, .f32⟩
  | 75 => ⟨S16x32x8, .f32⟩
  | 76 => ⟨S_, .f32⟩
  | 77 => ⟨S_, .f32⟩
  | 78 => ⟨S16x32x8, .f32⟩
  | 79 => ⟨S16x32x1x8, .f32⟩
  | 80 => ⟨S16x1x32x8, .f32⟩
  | 81 => ⟨S16x32x32x8, .f32⟩
  | 82 => ⟨S16x32x32x8, .f32⟩
  | 83 => ⟨S16x32x32x8, .f32⟩
  | 84 => ⟨S_, .i1⟩
  | 85 => ⟨S32x32, .i1⟩
  | 86 => ⟨S32x32, .i32⟩
  | 87 => ⟨S_, .i32⟩
  | 88 => ⟨S32x32, .i32⟩
  | 89 => ⟨S32x32, .i32⟩
  | 90 => ⟨S32x32, .i32⟩
  | 91 => ⟨S32x32, .i1⟩
  | 92 => ⟨S_, .i1⟩
  | 93 => ⟨S32x32, .i1⟩
  | 94 => ⟨S32x32, .i1⟩
  | 95 => ⟨S32x32x1, .i1⟩
  | 96 => ⟨S_, .f32⟩
  | 97 => ⟨S_, .f32⟩
  | 98 => ⟨S16x32x32x8, .i1⟩
  | 99 => ⟨S16x32x32x8, .f32⟩
  | 100 => ⟨S16x32x32x8, .f32⟩
  | 101 => ⟨S16x32x32x8, .f32⟩
  | 102 => ⟨S_, .f32⟩
  | 103 => ⟨S_, .f32⟩
  | 104 => ⟨S16x32x32x8, .i1⟩
  | 105 => ⟨S16x32x32x8, .f32⟩
  | 106 => ⟨S16x32x32x8, .f32⟩
  | 107 => ⟨S16x8x32x32, .f32⟩
  | 108 => ⟨S16x32x32x8, .f32⟩
  | 109 => ⟨S16x32x32x8, .f32⟩
  | 110 => ⟨S16x8x64x32, .f32⟩
  | 111 => ⟨S16x32x8x64, .f32⟩
  | 112 => ⟨S16x1x8, .f32⟩
  | 113 => ⟨S16x32x8, .f32⟩
  | 114 => ⟨S16x32x8, .f32⟩
  | 115 => ⟨S16x32x8, .f32⟩
  | 116 => ⟨S16x32x8x1, .f32⟩
  | 117 => ⟨S16x32x8x64, .f32⟩
  | 118 => ⟨S16x32x8x64, .f32⟩
  | 119 => ⟨S16x8x64x128, .f32⟩
  | 120 => ⟨S16x1x8, .f32⟩
  | 121 => ⟨S16x8, .f32⟩
  | 122 => ⟨S16x8, .f32⟩
  | 123 => ⟨S16x8x1x1, .f32⟩
  | 124 => ⟨S16x8x64x128, .f32⟩
  | 125 => ⟨S16x8x64x128, .f32⟩
  | 126 => ⟨S16x8x64x128, .f32⟩
  | 127 => ⟨S16x8x64x32, .f32⟩
  | _ => ⟨S17408x3328, .f32⟩

abbrev hbmTy0_1 (i : Nat) : BufTy := match i % 128 with
  | 0 => ⟨S16x32x8x64, .f32⟩
  | 1 => ⟨S16x32x8, .f32⟩
  | 2 => ⟨S16x32x8x1, .f32⟩
  | 3 => ⟨S16x32x8x64, .f32⟩
  | 4 => ⟨S16x32x8x64, .f32⟩
  | 5 => ⟨S16x32x8x64, .f32⟩
  | 6 => ⟨S8, .f32⟩
  | 7 => ⟨S8x1, .f32⟩
  | 8 => ⟨S1x1x8x1, .f32⟩
  | 9 => ⟨S16x32x8x64, .f32⟩
  | 10 => ⟨S16x32x8x64, .f32⟩
  | 11 => ⟨S16x32x8x64, .f32⟩
  | 12 => ⟨S16x32x512, .f32⟩
  | 13 => ⟨S16x32x512, .f32⟩
  | 14 => ⟨S16x32x512, .f32⟩
  | 15 => ⟨S_, .f32⟩
  | 16 => ⟨S16x32x512, .f32⟩
  | 17 => ⟨S16x32x512, .f32⟩
  | 18 => ⟨S_, .f32⟩
  | 19 => ⟨S16x32x512, .f32⟩
  | 20 => ⟨S16x32x512, .f32⟩
  | 21 => ⟨S16x32x512, .f32⟩
  | 22 => ⟨S16x32x512, .f32⟩
  | 23 => ⟨S16x32x2x256, .f32⟩
  | 24 => ⟨S16x32x2x256, .f32⟩
  | 25 => ⟨S_, .f32⟩
  | 26 => ⟨S16x32x2, .f32⟩
  | 27 => ⟨S16x32x2x1, .f32⟩
  | 28 => ⟨S_, .f32⟩
  | 29 => ⟨S16x32x2x1, .f32⟩
  | 30 => ⟨S16x32x2x1, .f32⟩
  | 31 => ⟨S_, .f32⟩
  | 32 => ⟨S16x32x2x1, .f32⟩
  | 33 => ⟨S16x32x2x1, .f32⟩
  | 34 => ⟨S16x32x2x1, .f32⟩
  | 35 => ⟨S16x32x2x256, .f32⟩
  | 36 => ⟨S16x32x2x256, .f32⟩
  | 37 => ⟨S16x32x512, .f32⟩
  | 38 => ⟨S512, .f32⟩
  | 39 => ⟨S1x1x512, .f32⟩
  | 40 => ⟨S16x32x512, .f32⟩
  | 41 => ⟨S16x32x512, .f32⟩
  | 42 => ⟨S512x512, .f32⟩
  | 43 => ⟨S512x512, .bf16⟩
  | 44 => ⟨S16x512x128, .f32⟩
  | _ => ⟨S17408x3328, .f32⟩

abbrev hbmTy (i : Nat) : BufTy := match i / 128 with
  | 0 => hbmTy0_0 i
  | 1 => hbmTy0_1 i
  | _ => ⟨S17408x3328, .f32⟩

abbrev bufTy : (tb : Table) → Fin (tcTables nBuf tb) → BufTy
  | .hbm, ⟨i, _⟩ => hbmTy i
  | _, _ => ⟨S17408x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_call1_call0_cst : Ref sig .tc := ⟨.hbm, 76, rfl⟩
abbrev main_call1_call0_v0 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_c : Ref sig .tc := ⟨.hbm, 84, rfl⟩
abbrev main_v66 : Ref sig .tc := ⟨.hbm, 85, rfl⟩
abbrev main_call2_v0 : Ref sig .tc := ⟨.hbm, 86, rfl⟩
abbrev main_call2_c : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_c_0 : Ref sig .tc := ⟨.hbm, 92, rfl⟩
abbrev main_call2_v5 : Ref sig .tc := ⟨.hbm, 93, rfl⟩
abbrev main_v67 : Ref sig .tc := ⟨.hbm, 94, rfl⟩
abbrev main_v68 : Ref sig .tc := ⟨.hbm, 95, rfl⟩
abbrev main_cst : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v69 : Ref sig .tc := ⟨.hbm, 100, rfl⟩
abbrev main_v70 : Ref sig .tc := ⟨.hbm, 101, rfl⟩
abbrev main_cst_0 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_call5_v0 : Ref sig .tc := ⟨.hbm, 141, rfl⟩
abbrev main_call5_v1 : Ref sig .tc := ⟨.hbm, 142, rfl⟩
abbrev main_call5_cst : Ref sig .tc := ⟨.hbm, 143, rfl⟩
abbrev main_call5_v2 : Ref sig .tc := ⟨.hbm, 144, rfl⟩
abbrev main_call5_v3 : Ref sig .tc := ⟨.hbm, 145, rfl⟩
abbrev main_call5_cst_0 : Ref sig .tc := ⟨.hbm, 146, rfl⟩
abbrev main_call5_v4 : Ref sig .tc := ⟨.hbm, 147, rfl⟩
abbrev main_call5_v5 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_1 : Ref sig .tc := ⟨.hbm, 153, rfl⟩
abbrev main_v110 : Ref sig .tc := ⟨.hbm, 154, rfl⟩
abbrev main_v111 : Ref sig .tc := ⟨.hbm, 155, rfl⟩
abbrev main_cst_2 : Ref sig .tc := ⟨.hbm, 156, rfl⟩
abbrev main_v112 : Ref sig .tc := ⟨.hbm, 157, rfl⟩
abbrev main_v113 : Ref sig .tc := ⟨.hbm, 158, rfl⟩
abbrev main_cst_3 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩

abbrev nD : Nat := 1
abbrev τ : Topo := Topo.v7x

variable {F : FTy → Type} [FloatOps F]
-- ==== Mcd.lean ====
abbrev S16896x512 : Shape := ⟨2, ![16896, 512]⟩
abbrev S512x512 : Shape := ⟨2, ![512, 512]⟩
abbrev S1x1024x1024 : Shape := ⟨3, ![1, 1024, 1024]⟩
abbrev S17408x1024 : Shape := ⟨2, ![17408, 1024]⟩
abbrev S2x1024 : Shape := ⟨2, ![2, 1024]⟩
abbrev S2x1x1024 : Shape := ⟨3, ![2, 1, 1024]⟩
abbrev S1024x1024 : Shape := ⟨2, ![1024, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S16896x512, .bf16⟩
  | .hbm, ⟨1, _⟩ => ⟨S512x512, .bf16⟩
  | .hbm, ⟨2, _⟩ => ⟨S16896x512, .bf16⟩
  | .hbm, ⟨3, _⟩ => ⟨S512x512, .bf16⟩
  | .hbm, ⟨4, _⟩ => ⟨S1x1024x1024, .f32⟩
  | .hbm, ⟨5, _⟩ => ⟨S17408x1024, .f32⟩
  | .hbm, ⟨6, _⟩ => ⟨S2x1024, .f32⟩
  | .hbm, ⟨7, _⟩ => ⟨S2x1x1024, .f32⟩
  | .hbm, ⟨8, _⟩ => ⟨S1024x1024, .f32⟩
  | .hbm, ⟨9, _⟩ => ⟨S1024x1024, .bf16⟩
  | .hbm, ⟨10, _⟩ => ⟨S17408x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | _, _ => ⟨S16896x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c33_i32 : BitVec 32 := 33#32
  let v0 : BitVec 32 := Scalar.subi arg0 c33_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c33_i32 : BitVec 32 := 33#32
  let v0 : BitVec 32 := Scalar.subi arg0 c33_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== McdRefIdeal.lean ====
abbrev S16896x512 : Shape := ⟨2, ![16896, 512]⟩
abbrev S512x512 : Shape := ⟨2, ![512, 512]⟩
abbrev S1x1024x1024 : Shape := ⟨3, ![1, 1024, 1024]⟩
abbrev S17408x1024 : Shape := ⟨2, ![17408, 1024]⟩
abbrev S2x1024 : Shape := ⟨2, ![2, 1024]⟩
abbrev S17408x512 : Shape := ⟨2, ![17408, 512]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S17408 : Shape := ⟨1, ![17408]⟩
abbrev S17408x1 : Shape := ⟨2, ![17408, 1]⟩

abbrev nBuf : Space → Nat
  | .hbm => 33
  | .vmem => 0
  | .smem => 0
  | _ => 0

abbrev bufTy : (tb : Table) → Fin (tcTables nBuf tb) → BufTy
  | .hbm, ⟨0, _⟩ => ⟨S16896x512, .bf16⟩
  | .hbm, ⟨1, _⟩ => ⟨S512x512, .bf16⟩
  | .hbm, ⟨2, _⟩ => ⟨S16896x512, .bf16⟩
  | .hbm, ⟨3, _⟩ => ⟨S512x512, .bf16⟩
  | .hbm, ⟨4, _⟩ => ⟨S1x1024x1024, .f32⟩
  | .hbm, ⟨5, _⟩ => ⟨S17408x1024, .f32⟩
  | .hbm, ⟨6, _⟩ => ⟨S2x1024, .f32⟩
  | .hbm, ⟨7, _⟩ => ⟨S17408x512, .bf16⟩
  | .hbm, ⟨8, _⟩ => ⟨S17408x512, .f32⟩
  | .hbm, ⟨9, _⟩ => ⟨S17408x512, .bf16⟩
  | .hbm, ⟨10, _⟩ => ⟨S17408x512, .f32⟩
  | .hbm, ⟨11, _⟩ => ⟨S17408x1024, .f32⟩
  | .hbm, ⟨12, _⟩ => ⟨S1024x1024, .f32⟩
  | .hbm, ⟨13, _⟩ => ⟨S17408x1024, .f32⟩
  | .hbm, ⟨14, _⟩ => ⟨S1x1024, .f32⟩
  | .hbm, ⟨15, _⟩ => ⟨S1024, .f32⟩
  | .hbm, ⟨16, _⟩ => ⟨S17408x1024, .f32⟩
  | .hbm, ⟨17, _⟩ => ⟨S_, .f32⟩
  | .hbm, ⟨18, _⟩ => ⟨S17408, .f32⟩
  | .hbm, ⟨19, _⟩ => ⟨S17408x1, .f32⟩
  | .hbm, ⟨20, _⟩ => ⟨S_, .f32⟩
  | .hbm, ⟨21, _⟩ => ⟨S17408x1, .f32⟩
  | .hbm, ⟨22, _⟩ => ⟨S17408x1, .f32⟩
  | .hbm, ⟨23, _⟩ => ⟨S_, .f32⟩
  | .hbm, ⟨24, _⟩ => ⟨S17408x1, .f32⟩
  | .hbm, ⟨25, _⟩ => ⟨S17408x1, .f32⟩
  | .hbm, ⟨26, _⟩ => ⟨S17408x1, .f32⟩
  | .hbm, ⟨27, _⟩ => ⟨S17408x1024, .f32⟩
  | .hbm, ⟨28, _⟩ => ⟨S17408x1024, .f32⟩
  | .hbm, ⟨29, _⟩ => ⟨S1x1024, .f32⟩
  | .hbm, ⟨30, _⟩ => ⟨S17408x1024, .f32⟩
  | .hbm, ⟨31, _⟩ => ⟨S17408x1024, .f32⟩
  | .hbm, ⟨32, _⟩ => ⟨S17408x1024, .f32⟩
  | _, _ => ⟨S16896x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Mab.lean ====
abbrev S16896x512 : Shape := ⟨2, ![16896, 512]⟩
abbrev S512x512 : Shape := ⟨2, ![512, 512]⟩
abbrev S17408x2304 : Shape := ⟨2, ![17408, 2304]⟩
abbrev S1x32x16 : Shape := ⟨3, ![1, 32, 16]⟩
abbrev S1x512x512 : Shape := ⟨3, ![1, 512, 512]⟩
abbrev S1x512 : Shape := ⟨2, ![1, 512]⟩
abbrev S1x1024x1024 : Shape := ⟨3, ![1, 1024, 1024]⟩
abbrev S17408x1024 : Shape := ⟨2, ![17408, 1024]⟩
abbrev S2x1024 : Shape := ⟨2, ![2, 1024]⟩
abbrev S2x1x1024 : Shape := ⟨3, ![2, 1, 1024]⟩
abbrev S1024x1024 : Shape := ⟨2, ![1024, 1024]⟩
abbrev S32x16 : Shape := ⟨2, ![32, 16]⟩
abbrev S512 : Shape := ⟨1, ![512]⟩
abbrev S512x1024 : Shape := ⟨2, ![512, 1024]⟩
abbrev S1x1x1024 : Shape := ⟨3, ![1, 1, 1024]⟩
abbrev S1x1024 : Shape := ⟨2, ![1, 1024]⟩
abbrev S512x1 : Shape := ⟨2, ![512, 1]⟩

abbrev nBuf : Space → Nat
  | .hbm => 21
  | .vmem => 19
  | .smem => 0
  | _ => 0

abbrev bufTy : (tb : Table) → Fin (tcTables nBuf tb) → BufTy
  | .hbm, ⟨0, _⟩ => ⟨S16896x512, .f32⟩
  | .hbm, ⟨1, _⟩ => ⟨S512x512, .f32⟩
  | .hbm, ⟨2, _⟩ => ⟨S17408x2304, .f32⟩
  | .hbm, ⟨3, _⟩ => ⟨S1x32x16, .f32⟩
  | .hbm, ⟨4, _⟩ => ⟨S1x512x512, .f32⟩
  | .hbm, ⟨5, _⟩ => ⟨S1x512, .f32⟩
  | .hbm, ⟨6, _⟩ => ⟨S16896x512, .bf16⟩
  | .hbm, ⟨7, _⟩ => ⟨S512x512, .bf16⟩
  | .hbm, ⟨8, _⟩ => ⟨S1x1024x1024, .f32⟩
  | .hbm, ⟨9, _⟩ => ⟨S17408x1024, .f32⟩
  | .hbm, ⟨10, _⟩ => ⟨S2x1024, .f32⟩
  | .hbm, ⟨11, _⟩ => ⟨S2x1x1024, .f32⟩
  | .hbm, ⟨12, _⟩ => ⟨S1024x1024, .f32⟩
  | .hbm, ⟨13, _⟩ => ⟨S1024x1024, .bf16⟩
  | .hbm, ⟨14, _⟩ => ⟨S32x16, .f32⟩
  | .hbm, ⟨15, _⟩ => ⟨S1x512, .f32⟩
  | .hbm, ⟨16, _⟩ => ⟨S512x512, .f32⟩
  | .hbm, ⟨17, _⟩ => ⟨S512x512, .bf16⟩
  | .hbm, ⟨18, _⟩ => ⟨S512, .f32⟩
  | .hbm, ⟨19, _⟩ => ⟨S1x512, .f32⟩
  | .hbm, ⟨20, _⟩ => ⟨S17408x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .bf16⟩
  | .local _ .vmem, ⟨8, _⟩ => ⟨S1x512, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S1x1x1024, .f32⟩
  | .local _ .vmem, ⟨17, _⟩ => ⟨S512x1024, .f32⟩
  | .local _ .vmem, ⟨18, _⟩ => ⟨S512x1024, .f32⟩
  | _, _ => ⟨S16896x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c33_i32 : BitVec 32 := 33#32
  let v0 : BitVec 32 := Scalar.subi arg0 c33_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c33_i32 : BitVec 32 := 33#32
  let v0 : BitVec 32 := Scalar.subi arg0 c33_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MabRefIdeal.lean ====
abbrev S16896x512 : Shape := ⟨2, ![16896, 512]⟩
abbrev S512x512 : Shape := ⟨2, ![512, 512]⟩
abbrev S17408x2304 : Shape := ⟨2, ![17408, 2304]⟩
abbrev S1x32x16 : Shape := ⟨3, ![1, 32, 16]⟩
abbrev S1x512x512 : Shape := ⟨3, ![1, 512, 512]⟩
abbrev S1x512 : Shape := ⟨2, ![1, 512]⟩
abbrev S1x1024x1024 : Shape := ⟨3, ![1, 1024, 1024]⟩
abbrev S17408x1024 : Shape := ⟨2, ![17408, 1024]⟩
abbrev S2x1024 : Shape := ⟨2, ![2, 1024]⟩
abbrev S17408x512 : Shape := ⟨2, ![17408, 512]⟩
abbrev S17408x32x16 : Shape := ⟨3, ![17408, 32, 16]⟩
abbrev S32x16 : Shape := ⟨2, ![32, 16]⟩
abbrev S_ : Shape := ⟨0, ![]⟩
abbrev S512 : Shape := ⟨1, ![512]⟩
abbrev S1024x1024 : Shape := ⟨2, ![1024, 1024]⟩
abbrev S1x1024 : Shape := ⟨2, ![1, 1024]⟩
abbrev S1024 : Shape := ⟨1, ![1024]⟩
abbrev S17408 : Shape := ⟨1, ![17408]⟩
abbrev S17408x1 : Shape := ⟨2, ![17408, 1]⟩

abbrev nBuf : Space → Nat
  | .hbm => 77
  | .vmem => 0
  | .smem => 0
  | _ => 0

abbrev bufTy : (tb : Table) → Fin (tcTables nBuf tb) → BufTy
  | .hbm, ⟨0, _⟩ => ⟨S16896x512, .f32⟩
  | .hbm, ⟨1, _⟩ => ⟨S512x512, .f32⟩
  | .hbm, ⟨2, _⟩ => ⟨S17408x2304, .f32⟩
  | .hbm, ⟨3, _⟩ => ⟨S1x32x16, .f32⟩
  | .hbm, ⟨4, _⟩ => ⟨S1x512x512, .f32⟩
  | .hbm, ⟨5, _⟩ => ⟨S1x512, .f32⟩
  | .hbm, ⟨6, _⟩ => ⟨S16896x512, .bf16⟩
  | .hbm, ⟨7, _⟩ => ⟨S512x512, .bf16⟩
  | .hbm, ⟨8, _⟩ => ⟨S1x1024x1024, .f32⟩
  | .hbm, ⟨9, _⟩ => ⟨S17408x1024, .f32⟩
  | .hbm, ⟨10, _⟩ => ⟨S2x1024, .f32⟩
  | .hbm, ⟨11, _⟩ => ⟨S17408x512, .f32⟩
  | .hbm, ⟨12, _⟩ => ⟨S17408x32x16, .f32⟩
  | .hbm, ⟨13, _⟩ => ⟨S17408x512, .f32⟩
  | .hbm, ⟨14, _⟩ => ⟨S17408x32x16, .f32⟩
  | .hbm, ⟨15, _⟩ => ⟨S32x16, .f32⟩
  | .hbm, ⟨16, _⟩ => ⟨S1x32x16, .f32⟩
  | .hbm, ⟨17, _⟩ => ⟨S17408x32x16, .f32⟩
  | .hbm, ⟨18, _⟩ => ⟨S17408x32x16, .f32⟩
  | .hbm, ⟨19, _⟩ => ⟨S17408x32x16, .f32⟩
  | .hbm, ⟨20, _⟩ => ⟨S17408x512, .f32⟩
  | .hbm, ⟨21, _⟩ => ⟨S17408x512, .f32⟩
  | .hbm, ⟨22, _⟩ => ⟨S17408x512, .f32⟩
  | .hbm, ⟨23, _⟩ => ⟨S_, .f32⟩
  | .hbm, ⟨24, _⟩ => ⟨S17408x512, .f32⟩
  | .hbm, ⟨25, _⟩ => ⟨S17408x512, .f32⟩
  | .hbm, ⟨26, _⟩ => ⟨S17408x512, .f32⟩
  | .hbm, ⟨27, _⟩ => ⟨S_, .f32⟩
  | .hbm, ⟨28, _⟩ => ⟨S17408x512, .f32⟩
  | .hbm, ⟨29, _⟩ => ⟨S17408x512, .f32⟩
  | .hbm, ⟨30, _⟩ => ⟨S17408x512, .f32⟩
  | .hbm, ⟨31, _⟩ => ⟨S_, .f32⟩
  | .hbm, ⟨32, _⟩ => ⟨S17408x512, .f32⟩
  | .hbm, ⟨33, _⟩ => ⟨S17408x512, .f32⟩
  | .hbm, ⟨34, _⟩ => ⟨S_, .f32⟩
  | .hbm, ⟨35, _⟩ => ⟨S17408x512, .f32⟩
  | .hbm, ⟨36, _⟩ => ⟨S17408x512, .f32⟩
  | .hbm, ⟨37, _⟩ => ⟨S17408x512, .f32⟩
  | .hbm, ⟨38, _⟩ => ⟨S512x512, .f32⟩
  | .hbm, ⟨39, _⟩ => ⟨S17408x512, .f32⟩
  | .hbm, ⟨40, _⟩ => ⟨S512, .f32⟩
  | .hbm, ⟨41, _⟩ => ⟨S1x512, .f32⟩
  | .hbm, ⟨42, _⟩ => ⟨S17408x512, .f32⟩
  | .hbm, ⟨43, _⟩ => ⟨S17408x512, .f32⟩
  | .hbm, ⟨44, _⟩ => ⟨S17408x512, .f32⟩
  | .hbm, ⟨45, _⟩ => ⟨S17408x512, .f32⟩
  | .hbm, ⟨46, _⟩ => ⟨S_, .f32⟩
  | .hbm, ⟨47, _⟩ => ⟨S17408x512, .f32⟩
  | .hbm, ⟨48, _⟩ => ⟨S17408x512, .f32⟩
  | .hbm, ⟨49, _⟩ => ⟨S_, .f32⟩
  | .hbm, ⟨50, _⟩ => ⟨S17408x512, .f32⟩
  | .hbm, ⟨51, _⟩ => ⟨S17408x512, .f32⟩
  | .hbm, ⟨52, _⟩ => ⟨S17408x512, .f32⟩
  | .hbm, ⟨53, _⟩ => ⟨S17408x512, .bf16⟩
  | .hbm, ⟨54, _⟩ => ⟨S17408x512, .f32⟩
  | .hbm, ⟨55, _⟩ => ⟨S17408x1024, .f32⟩
  | .hbm, ⟨56, _⟩ => ⟨S1024x1024, .f32⟩
  | .hbm, ⟨57, _⟩ => ⟨S17408x1024, .f32⟩
  | .hbm, ⟨58, _⟩ => ⟨S1x1024, .f32⟩
  | .hbm, ⟨59, _⟩ => ⟨S1024, .f32⟩
  | .hbm, ⟨60, _⟩ => ⟨S17408x1024, .f32⟩
  | .hbm, ⟨61, _⟩ => ⟨S_, .f32⟩
  | .hbm, ⟨62, _⟩ => ⟨S17408, .f32⟩
  | .hbm, ⟨63, _⟩ => ⟨S17408x1, .f32⟩
  | .hbm, ⟨64, _⟩ => ⟨S_, .f32⟩
  | .hbm, ⟨65, _⟩ => ⟨S17408x1, .f32⟩
  | .hbm, ⟨66, _⟩ => ⟨S17408x1, .f32⟩
  | .hbm, ⟨67, _⟩ => ⟨S_, .f32⟩
  | .hbm, ⟨68, _⟩ => ⟨S17408x1, .f32⟩
  | .hbm, ⟨69, _⟩ => ⟨S17408x1, .f32⟩
  | .hbm, ⟨70, _⟩ => ⟨S17408x1, .f32⟩
  | .hbm, ⟨71, _⟩ => ⟨S17408x1024, .f32⟩
  | .hbm, ⟨72, _⟩ => ⟨S17408x1024, .f32⟩
  | .hbm, ⟨73, _⟩ => ⟨S1x1024, .f32⟩
  | .hbm, ⟨74, _⟩ => ⟨S17408x1024, .f32⟩
  | .hbm, ⟨75, _⟩ => ⟨S17408x1024, .f32⟩
  | .hbm, ⟨76, _⟩ => ⟨S17408x1024, .f32⟩
  | _, _ => ⟨S16896x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== Proof.FoxBlocks.lean ====
/- The kernel's blocks at a grid point, read off the argument arrays: point `t` holds stream `t / 4` and the pair of
   heads `t % 4`. -/
module

public import proofs.«01_k».proof.Proof.Gen.FoxIdeal.Frame
public import Idealize.ShloMosaic.Lib.Pipeline.ValueKit
public import Idealize.ShloMosaic.Lib.Pointwise
public import Idealize.ShloMosaic.Lib.Claim

@[expose] public section

set_option maxRecDepth 16384

noncomputable section

namespace Cert.FoxIdeal.Att

open Idealize.ShloMosaic Idealize.ShloMosaic.TcCoe Idealize.SL.Sem
open Cert.FoxIdeal Cert.FoxIdeal.Gen

variable (m : (ℓ : Loc nD τ sig) → Buf (Elt Ideal) ℓ)

/-- Which block of its array each window holds at a point. -/
theorem idx : ∀ t : Fin cfg0.N,
    win0_0.index t = ![528 + t.val / 4, 4 + t.val % 4] ∧ win0_1.index t = ![528 + t.val / 4, 8 + t.val % 4] ∧
    win0_2.index t = ![528 + t.val / 4, 12 + t.val % 4] ∧ win0_3.index t = ![t.val / 4, 0, t.val % 4] ∧
    win0_4.index t = ![t.val / 4, 0, t.val % 4] ∧ win0_5.index t = ![t.val / 4, t.val % 4, 0, 0] ∧
    win0_6.index t = ![t.val / 4, t.val % 4, 0, 0] ∧ win0_7.index t = ![t.val / 4, t.val % 4] :=
  (by decide +kernel : ∀ t : Fin grid0.N, _)

/-- There are 64 points. -/
theorem lt_points (t : Fin cfg0.N) : t.val < 64 := t.isLt

/-- The queries of a point. -/
theorem read_q (c : Dev nD) (t : Fin cfg0.N) (r : Fin 32) (l : Fin 128) :
    iblk m c 0 t (ix2 r l) = m ((c : Thread nD τ).loc main_arg0)
      (ix2 (⟨16896 + (t.val / 4 * 32 + r.val), by have := lt_points t; omega⟩ : Fin 17408)
        (⟨512 + (t.val % 4 * 128 + l.val), by omega⟩ : Fin 2304)) := by
  have := lt_points t
  blk_ext [iblk, V, idx t]

/-- The new keys of a point. -/
theorem read_kn (c : Dev nD) (t : Fin cfg0.N) (r : Fin 32) (l : Fin 128) :
    iblk m c 1 t (ix2 r l) = m ((c : Thread nD τ).loc main_arg0)
      (ix2 (⟨16896 + (t.val / 4 * 32 + r.val), by have := lt_points t; omega⟩ : Fin 17408)
        (⟨1024 + (t.val % 4 * 128 + l.val), by omega⟩ : Fin 2304)) := by
  have := lt_points t
  blk_ext [iblk, V, idx t]

/-- The new values of a point. -/
theorem read_vn (c : Dev nD) (t : Fin cfg0.N) (r : Fin 32) (l : Fin 128) :
    iblk m c 2 t (ix2 r l) = m ((c : Thread nD τ).loc main_arg0)
      (ix2 (⟨16896 + (t.val / 4 * 32 + r.val), by have := lt_points t; omega⟩ : Fin 17408)
        (⟨1536 + (t.val % 4 * 128 + l.val), by omega⟩ : Fin 2304)) := by
  have := lt_points t
  blk_ext [iblk, V, idx t]

/-- The cached keys of a point. -/
theorem read_kp (c : Dev nD) (t : Fin cfg0.N) (x : Fin 2048) (l : Fin 128) :
    iblk m c 3 t (ix3 0 x l) = m ((c : Thread nD τ).loc main_arg1)
      (ix5 0 (⟨t.val / 4, by have := lt_points t; omega⟩ : Fin 16) x
        (⟨(t.val % 4 * 128 + l.val) / 64, by omega⟩ : Fin 8) (⟨(t.val % 4 * 128 + l.val) % 64, by omega⟩ : Fin 64)) := by
  have := lt_points t
  blk_simp [iblk, idx t]
  entry_read
  pointwise
  blk_ext [idx t]

/-- The cached values of a point. -/
theorem read_vp (c : Dev nD) (t : Fin cfg0.N) (x : Fin 2048) (l : Fin 128) :
    iblk m c 4 t (ix3 0 x l) = m ((c : Thread nD τ).loc main_arg2)
      (ix5 0 (⟨t.val / 4, by have := lt_points t; omega⟩ : Fin 16) x
        (⟨(t.val % 4 * 128 + l.val) / 64, by omega⟩ : Fin 8) (⟨(t.val % 4 * 128 + l.val) % 64, by omega⟩ : Fin 64)) := by
  have := lt_points t
  blk_simp [iblk, idx t]
  entry_read
  pointwise
  blk_ext [idx t]

/-- The decay sums at the queries of a point. -/
theorem read_fq (c : Dev nD) (t : Fin cfg0.N) (r : Fin 32) (p : Fin 2) :
    iblk m c 5 t (ix4 0 0 r p) = m ((c : Thread nD τ).loc main_arg3)
      (ix3 (⟨t.val / 4, by have := lt_points t; omega⟩ : Fin 16) (⟨t.val % 4 * 2 + p.val, by omega⟩ : Fin 8)
        (⟨2048 + r.val, by omega⟩ : Fin 2304)) := by
  have := lt_points t
  blk_simp [iblk, idx t]
  entry_read
  pointwise
  blk_ext [idx t]

/-- The decay sums at the keys of a point. -/
theorem read_fk (c : Dev nD) (t : Fin cfg0.N) (p : Fin 2) (x : Fin 2304) :
    iblk m c 6 t (ix4 0 0 p x) = m ((c : Thread nD τ).loc main_arg3)
      (ix3 (⟨t.val / 4, by have := lt_points t; omega⟩ : Fin 16) (⟨t.val % 4 * 2 + p.val, by omega⟩ : Fin 8) x) := by
  have := lt_points t
  blk_simp [iblk, idx t]
  entry_read
  pointwise
  blk_ext [idx t]

end Cert.FoxIdeal.Att

end
-- ==== Proof.FoxMath.lean ====
/- The two ways of writing one row of the attention over the extended reals, and that they agree: the reference's
   softmax over all the keys, and the kernel's one division of sums taken over the cached and the new keys apart. -/
module

public import Idealize.ShloMosaic.PureOps.Ideal
public import Idealize.ShloMosaic.Lib.WordCmp
public import Idealize.ShloMosaic.Lib.Pointwise

@[expose] public section

noncomputable section

namespace Cert.FoxMath

open Idealize.ShloMosaic Idealize.ShloMosaic.WordCmp

/-- The literal the maxima start from is the least extended real. -/
theorem minus_inf : Ideal.ofBits .f32 0xFF800000#32 = (⊥ : EReal) := by
  simp [Ideal.ofBits, Ideal.ieee]

/-- The largest of finitely many extended reals, the least one when there are none. -/
def top {n : ℕ} (s : Fin n → EReal) : EReal := Finset.univ.fold max (⊥ : EReal) s

/-- One row of the attention as the kernel has it: the keys in two parts, one division at the end. -/
def parts {m n : ℕ} (s₁ v₁ : Fin m → EReal) (s₂ v₂ : Fin n → EReal) : EReal :=
  Ideal.div (∑ k, Ideal.exp (s₁ k - max (top s₁) (top s₂)) * v₁ k
      + ∑ k, Ideal.exp (s₂ k - max (top s₁) (top s₂)) * v₂ k)
    (∑ k, Ideal.exp (s₁ k - max (top s₁) (top s₂)) + ∑ k, Ideal.exp (s₂ k - max (top s₁) (top s₂)))

/-- One row of the attention as the reference has it: the softmax of the scores against the values. -/
def whole {n : ℕ} (s v : Fin n → EReal) : EReal :=
  ∑ k, v k * Ideal.div (Ideal.exp (s k - max ⊥ (top s))) (∑ k, Ideal.exp (s k - max ⊥ (top s)))

/-- A bound on the largest is a bound on every one. -/
theorem top_le {n : ℕ} {s : Fin n → EReal} {c : EReal} : top s ≤ c ↔ ∀ k, s k ≤ c := by
  simp [top, Finset.fold_max_le]

/-- No one exceeds the largest. -/
theorem le_top_of {n : ℕ} (s : Fin n → EReal) (k : Fin n) : s k ≤ top s := top_le.1 le_rfl k

/-- The largest over two parts is the larger of the parts' largest. -/
theorem top_add {m n : ℕ} (s : Fin (m + n) → EReal) :
    top s = max (top fun k => s (Fin.castAdd n k)) (top fun k => s (Fin.natAdd m k)) := by
  refine le_antisymm (top_le.2 fun k => ?_)
    (max_le (top_le.2 fun k => le_top_of s _) (top_le.2 fun k => le_top_of s _))
  refine Fin.addCases (fun i => ?_) (fun i => ?_) k
  · exact le_max_of_le_left (le_top_of (fun k => s (Fin.castAdd n k)) i)
  · exact le_max_of_le_right (le_top_of (fun k => s (Fin.natAdd m k)) i)

/-- The largest of scores none of which is infinite upwards is not either. -/
theorem top_ne_top {n : ℕ} {s : Fin n → EReal} (h : ∀ k, s k ≠ ⊤) : top s ≠ ⊤ := by
  refine ne_of_lt ?_
  unfold top
  rw [Finset.fold_max_lt]
  exact ⟨bot_lt_top, fun k _ => lt_top_iff_ne_top.2 (h k)⟩

/-- An exponential is never negative. -/
theorem exp_nonneg (x : EReal) : 0 ≤ Ideal.exp x := by
  induction x with
  | bot => exact le_refl (0 : EReal)
  | top => exact (le_top : (0 : EReal) ≤ ⊤)
  | coe r => exact EReal.coe_nonneg.2 (Real.exp_pos r).le

/-- The sum of the exponentials is not zero when one score is real and the subtracted bound is real. -/
theorem sum_exp_ne_zero {n : ℕ} {s : Fin n → EReal} {M : EReal} (k : Fin n) (h : s k ≠ ⊥) (h' : s k ≠ ⊤)
    (hM : M ≠ ⊥) (hM' : M ≠ ⊤) : (∑ k, Ideal.exp (s k - M)) ≠ 0 := by
  refine ne_of_gt (lt_of_lt_of_le ?_
    (Finset.single_le_sum (f := fun k => Ideal.exp (s k - M)) (fun i _ => exp_nonneg _) (Finset.mem_univ k)))
  lift s k to ℝ using ⟨h', h⟩ with r
  lift M to ℝ using ⟨hM', hM⟩ with q
  rw [← EReal.coe_sub]
  exact EReal.coe_pos.2 (Real.exp_pos (r - q))

/-- Division by what is not zero is a product with the inverse. -/
theorem div_ne {x y : EReal} (h : y ≠ 0) : Ideal.div x y = x * y⁻¹ := by
  rw [Ideal.div, if_neg h]

/-- A sum times what is neither negative nor infinite is the sum of the products. -/
theorem sum_mul {n : ℕ} (f : Fin n → EReal) {c : EReal} (h : 0 ≤ c) (h' : c ≠ ⊤) :
    (∑ k, f k) * c = ∑ k, f k * c := by
  induction n with
  | zero => simp
  | succ n ih => rw [Fin.sum_univ_succ, Fin.sum_univ_succ, ← ih, mul_comm,
      EReal.left_distrib_of_nonneg_of_ne_top h h', mul_comm c, mul_comm c]

/-- The inverse of a sum of exponentials is not negative. -/
theorem inv_facts {L : EReal} (h : 0 ≤ L) (h0 : L ≠ 0) : 0 ≤ L⁻¹ ∧ L⁻¹ ≠ ⊤ := by
  induction L with
  | bot => simp at h
  | top => simp
  | coe r =>
    rw [← EReal.coe_inv]
    exact ⟨EReal.coe_nonneg.2 (inv_nonneg.2 (EReal.coe_nonneg.1 h)), EReal.coe_ne_top _⟩

/-- The reference's row is the kernel's, where no score is infinite upwards and one of the scores is real. -/
theorem whole_eq_parts {m n : ℕ} (s v : Fin (m + n) → EReal) (hs : ∀ k, s k ≠ ⊤) (k₀ : Fin (m + n)) (h₀ : s k₀ ≠ ⊥) :
    whole s v = parts (fun k => s (Fin.castAdd n k)) (fun k => v (Fin.castAdd n k))
      (fun k => s (Fin.natAdd m k)) (fun k => v (Fin.natAdd m k)) := by
  unfold whole parts
  rw [← top_add, max_eq_right (bot_le : ⊥ ≤ top s)]
  have hM : top s ≠ ⊥ := fun h => h₀ (le_bot_iff.1 (h ▸ le_top_of s k₀))
  have hL := sum_exp_ne_zero k₀ h₀ (hs k₀) hM (top_ne_top hs)
  have hp : 0 ≤ ∑ k, Ideal.exp (s k - top s) := Finset.sum_nonneg fun k _ => exp_nonneg _
  obtain ⟨hi, hi'⟩ := inv_facts hp hL
  rw [← Fin.sum_univ_add (fun k => Ideal.exp (s k - top s)),
    ← Fin.sum_univ_add (fun k => Ideal.exp (s k - top s) * v k), div_ne hL, sum_mul _ hi hi']
  refine Finset.sum_congr rfl fun k _ => ?_
  rw [div_ne hL, mul_comm (v k), mul_assoc, mul_assoc, mul_comm (v k)]

/-- A choice by a comparison of two small numbers as signed words is the choice by the numbers. -/
theorem select_slt {α : Type} (a b : ℕ) (ha : a < 2 ^ 31) (hb : b < 2 ^ 31) (x y : α) :
    Scalar.select (IntOp.cmpi .slt (BitVec.ofNat 32 a) (BitVec.ofNat 32 b)) x y = if a < b then x else y := by
  rw [cmpi_slt_ofNat ha hb, select_decide]

/-- The same of "at most". -/
theorem select_sle {α : Type} (a b : ℕ) (ha : a < 2 ^ 31) (hb : b < 2 ^ 31) (x y : α) :
    Scalar.select (IntOp.cmpi .sle (BitVec.ofNat 32 a) (BitVec.ofNat 32 b)) x y = if a ≤ b then x else y := by
  rw [cmpi_sle_ofNat ha hb, select_decide]

/-- The same of "at least". -/
theorem select_sge {α : Type} (a b : ℕ) (ha : a < 2 ^ 31) (hb : b < 2 ^ 31) (x y : α) :
    Scalar.select (IntOp.cmpi .sge (BitVec.ofNat 32 a) (BitVec.ofNat 32 b)) x y = if b ≤ a then x else y := by
  rw [cmpi_sge_ofNat ha hb, select_decide]

/-- The score of one head from the 128 lanes of its pair, the other head's lanes masked and each query scaled, is the
    scaled product over the head's own 64 lanes. The first head's lanes come first. -/
theorem lanes_low (q k : Fin 128 → EReal) {c : EReal} (h : 0 ≤ c) (h' : c ≠ ⊤) :
    ∑ x : Fin 128, Scalar.select (IntOp.cmpi .slt (BitVec.ofNat 32 x.val) 64#32) (q x * c * k x) 0
      = (∑ d : Fin 64, q ⟨d.val, by omega⟩ * k ⟨d.val, by omega⟩) * c := by
  rw [sum_mul _ h h', Fin.sum_univ_two_halves 64 64 rfl]
  refine (congrArg₂ _ (Finset.sum_congr rfl fun d _ => ?_) (Finset.sum_eq_zero fun d _ => ?_)).trans (add_zero _)
  · rw [show (64#32) = BitVec.ofNat 32 64 from rfl, select_slt _ _ (by simp; omega) (by norm_num), if_pos d.isLt,
      mul_right_comm]
  · rw [show (64#32) = BitVec.ofNat 32 64 from rfl, select_slt _ _ (by simp; omega) (by norm_num), if_neg (by simp)]

/-- The same of the second head, whose lanes are the last 64. -/
theorem lanes_high (q k : Fin 128 → EReal) {c : EReal} (h : 0 ≤ c) (h' : c ≠ ⊤) :
    ∑ x : Fin 128, Scalar.select (IntOp.cmpi .sge (BitVec.ofNat 32 x.val) 64#32) (q x * c * k x) 0
      = (∑ d : Fin 64, q ⟨64 + d.val, by omega⟩ * k ⟨64 + d.val, by omega⟩) * c := by
  rw [sum_mul _ h h', Fin.sum_univ_two_halves 64 64 rfl]
  refine (congrArg₂ _ (Finset.sum_eq_zero fun d _ => ?_) (Finset.sum_congr rfl fun d _ => ?_)).trans (zero_add _)
  · rw [show (64#32) = BitVec.ofNat 32 64 from rfl, select_sge _ _ (by simp; omega) (by norm_num),
      if_neg (by simp)]
  · rw [show (64#32) = BitVec.ofNat 32 64 from rfl, select_sge _ _ (by simp; omega) (by norm_num), if_pos (by simp),
      mul_right_comm]

/-- The scale of the queries, as the kernel's literal has it. -/
theorem eighth_bf16 : Ideal.ofBits .bf16 15872#16 = ((1 / 8 : ℝ) : EReal) := by
  simp [Ideal.ofBits, Ideal.ieee]
  rw [← EReal.coe_mul]
  norm_num

/-- The scale of the scores, as the reference's literal has it. -/
theorem eighth_f32 : Ideal.ofBits .f32 1040187392#32 = ((1 / 8 : ℝ) : EReal) := by
  simp [Ideal.ofBits, Ideal.ieee]
  rw [← EReal.coe_mul]
  norm_num

end Cert.FoxMath

end
-- ==== Proof.FoxKernel.lean ====
/- What the kernel writes at one grid point, read at one element of its block: a row of the attention of one of the
   two heads, the keys in two parts. -/
module

public import proofs.«01_k».proof.Proof.Gen.FoxIdeal.Frame
public import proofs.«01_k».proof.Proof.FoxMath
public import Idealize.ShloMosaic.Lib.Pipeline.ValueKit
public import Idealize.ShloMosaic.Lib.Pointwise

@[expose] public section

set_option maxRecDepth 16384

noncomputable section

namespace Cert.FoxIdeal.Att

open Idealize.ShloMosaic Idealize.ShloMosaic.TcCoe Idealize.SL.Sem
open Cert.FoxIdeal Cert.FoxIdeal.Gen

/-- The product of a query row with a key row over the lanes the mask admits, the queries scaled. -/
def dots (w : Fin 128 → BitVec 1) (q k : Fin 128 → EReal) : EReal :=
  ∑ x, Scalar.select (w x) (q x * Ideal.ofBits .bf16 15872#16 * k x) 0

/-- The lanes of the first head of a pair. -/
def low (x : Fin 128) : BitVec 1 := IntOp.cmpi .slt (BitVec.ofNat 32 x.val) 64#32

/-- The lanes of the second head of a pair. -/
def high (x : Fin 128) : BitVec 1 := IntOp.cmpi .sge (BitVec.ofNat 32 x.val) 64#32

section

variable (x0 : Vec Ideal S32x128 .bf16) (x1 : Vec Ideal S32x128 .bf16) (x2 : Vec Ideal S32x128 .bf16)
  (x3 : Vec Ideal S1x2048x128 .f32) (x4 : Vec Ideal S1x2048x128 .f32) (x5 : Vec Ideal S1x1x32x2 .f32)
  (x6 : Vec Ideal S1x1x2x2304 .f32)

/-- The score of query row `r` of head `p` with the cached key `x`. -/
def old (w : Fin 128 → BitVec 1) (p : Fin 2) (r : Fin 32) (x : Fin 2048) : EReal :=
  dots w (fun y => x0 (ix2 r y)) (fun y => x3 (ix3 0 x y)) + x5 (ix4 0 0 r p) - x6 (ix4 0 0 p ⟨x.val, by omega⟩)

/-- The score of query row `r` of head `p` with the new key `x`, which only rows from `x` on see. -/
def fresh (w : Fin 128 → BitVec 1) (p : Fin 2) (r : Fin 32) (x : Fin 32) : EReal :=
  Scalar.select (IntOp.cmpi .sle (BitVec.ofNat 32 x.val) (BitVec.ofNat 32 r.val))
    (dots w (fun y => x0 (ix2 r y)) (fun y => x1 (ix2 x y)) + x5 (ix4 0 0 r p)
      - x6 (ix4 0 0 p ⟨2048 + x.val, by omega⟩)) ⊥

set_option maxHeartbeats 1600000 in
/-- The block written at a point, read at row `r` and lane `l`. -/
theorem out_apply (r : Fin 32) (l : Fin 128) :
    out0_7 x0 x1 x2 x3 x4 x5 x6 (ix2 r l)
      = Scalar.select (low l)
          (FoxMath.parts (old x0 x3 x5 x6 low 0 r) (fun x => x4 (ix3 0 x l))
            (fresh x0 x1 x5 x6 low 0 r) (fun x => x2 (ix2 x l)))
          (FoxMath.parts (old x0 x3 x5 x6 high 1 r) (fun x => x4 (ix3 0 x l))
            (fresh x0 x1 x5 x6 high 1 r) (fun x => x2 (ix2 x l))) := by
  unfold_out out0_7
  frame_out
  unfold_payloads
  pointwise
  rw [show (Ideal.ofBits FTy.f32 4286578688#32 : EReal) = ⊥ from FoxMath.minus_inf]
  rfl

end

end Cert.FoxIdeal.Att

end
-- ==== Proof.FoxRef.lean ====
/- The reference of the attention read at one element of its result: a softmax over all the keys, whose scores and
   values are then read off the arguments for a cached key and for a new one. -/
module

public import proofs.«01_k».proof.Proof.Gen.FoxRefIdeal.Read
public import proofs.«01_k».proof.Proof.FoxMath
public import Idealize.ShloMosaic.Lib.Pipeline.ValueKit
public import Idealize.ShloMosaic.Lib.Pointwise

@[expose] public section

set_option maxRecDepth 16384

noncomputable section

namespace Cert.FoxRefIdeal.Att

open Idealize.ShloMosaic Idealize.ShloMosaic.TcCoe Idealize.SL.Sem
open Cert.FoxRefIdeal Cert.FoxRefIdeal.Read Cert.FoxRefIdeal.Gen

/-- The exponentials of the scores less the row bound. -/
theorem gen39 (S : FVec Ideal S16x8x32x2080 .f32) (M M' : FVec Ideal S16x8x32 .f32) (b : Fin 16) (h : Fin 8) (r : Fin 32) (k : Fin 2080) :
  Host.exp (subf S (broadcastInDim S16x8x32x2080 ![0, 1, 2, 3] bcast_S16x8x32x1_S16x8x32x2080_0_1_2_3 (broadcastInDim S16x8x32x1 ![0, 1, 2] bcast_S16x8x32_S16x8x32x1_0_1_2 (maximumf M' M)))) (ix4 b h r k) = Ideal.exp (S (ix4 b h r k) - max (M' (ix3 b h r)) (M (ix3 b h r))) := by
  pointwise

/-- The largest score of a row. -/
theorem gen33 (S : FVec Ideal S16x8x32x2080 .f32) (b : Fin 16) (h : Fin 8) (r : Fin 32) :
  Host.reduce FloatOps.maximumf S (val_main_cst_1 (F := Ideal)) reducesTo_S16x8x32x2080_S16x8x32_d3 h_S_ (ix3 b h r) = Finset.univ.fold max (Ideal.ofBits .f32 0xFF800000#32) fun k : Fin 2080 => S (ix4 b h r k) := by
  pointwise [val_main_cst_1]

/-- The sum of a row. -/
theorem gen40 (S : FVec Ideal S16x8x32x2080 .f32) (b : Fin 16) (h : Fin 8) (r : Fin 32) :
  Host.reduceAdd S (val_main_cst_3 (F := Ideal)) reducesTo_S16x8x32x2080_S16x8x32_d3 h_S_ (ix3 b h r) = ∑ k : Fin 2080, S (ix4 b h r k) := by
  pointwise [val_main_cst_3]

/-- The weights divided by the sum of their row. -/
theorem gen43 (S : FVec Ideal S16x8x32x2080 .f32) (L : FVec Ideal S16x8x32 .f32) (b : Fin 16) (h : Fin 8) (r : Fin 32) (k : Fin 2080) :
  Host.divf S (broadcastInDim S16x8x32x2080 ![0, 1, 2, 3] bcast_S16x8x32x1_S16x8x32x2080_0_1_2_3 (broadcastInDim S16x8x32x1 ![0, 1, 2] bcast_S16x8x32_S16x8x32x1_0_1_2 L)) (ix4 b h r k) = Ideal.div (S (ix4 b h r k)) (L (ix3 b h r)) := by
  pointwise

/-- The values weighted and summed, the result laid out by streams and heads. -/
theorem gen47 (V : FVec Ideal S16x2080x8x64 .f32) (P : FVec Ideal S16x8x32x2080 .f32) (R : Fin 512) (C : Fin 512) :
  truncf (F := Ideal) .bf16 (shapeCast _ (transpose S16x32x8x64 [0, 3, 1, 2] (Host.dotGeneral (F := Ideal) dot_S16x2080x8x64_S16x8x32x2080_S16x8x64x32_1_3_3_2_02_01 none V P) transposes_S16x8x64x32_S16x32x8x64_0_3_1_2) shapeCasts_S16x32x8x64_S512x512) bitsLt_bf16_f32 (ix2 R C) = ∑ k : Fin 2080, V (ix4 (⟨R.val / 32, by omega⟩ : Fin 16) k (⟨C.val / 64, by omega⟩ : Fin 8) (⟨C.val % 64, by omega⟩ : Fin 64)) * P (ix4 (⟨R.val / 32, by omega⟩ : Fin 16) (⟨C.val / 64, by omega⟩ : Fin 8) (⟨R.val % 32, by omega⟩ : Fin 32) k) := by
  pointwise

section

variable (x0 : FVec Ideal S17408x2304 .bf16) (x1 x2 : FVec Ideal S1x16x2048x8x64 .f32) (x3 : FVec Ideal S16x8x2304 .f32)

/-- One weight of the softmax. -/
theorem weight_apply (b : Fin 16) (h : Fin 8) (r : Fin 32) (k : Fin 2080) :
    val_main_v43 (F := Ideal) x0 x1 x3 (ix4 b h r k)
      = Ideal.div (Ideal.exp (val_main_v32 (F := Ideal) x0 x1 x3 (ix4 b h r k)
            - max ⊥ (FoxMath.top fun k => val_main_v32 (F := Ideal) x0 x1 x3 (ix4 b h r k))))
          (∑ k, Ideal.exp (val_main_v32 (F := Ideal) x0 x1 x3 (ix4 b h r k)
            - max ⊥ (FoxMath.top fun k => val_main_v32 (F := Ideal) x0 x1 x3 (ix4 b h r k)))) := by
  have h34 : val_main_v34 (F := Ideal) (ix3 b h r) = (⊥ : EReal) := by
    rw [val_main_v34_apply, val_main_cst_2_apply, Ideal.ofBits_def]
    exact FoxMath.minus_inf
  have h33 : val_main_v33 (F := Ideal) x0 x1 x3 (ix3 b h r)
      = FoxMath.top fun k => val_main_v32 (F := Ideal) x0 x1 x3 (ix4 b h r k) := by
    refine (gen33 (val_main_v32 (F := Ideal) x0 x1 x3) b h r).trans ?_
    rw [FoxMath.minus_inf]; rfl
  have h39 : ∀ k, val_main_v39 (F := Ideal) x0 x1 x3 (ix4 b h r k)
      = Ideal.exp (val_main_v32 (F := Ideal) x0 x1 x3 (ix4 b h r k)
            - max ⊥ (FoxMath.top fun k => val_main_v32 (F := Ideal) x0 x1 x3 (ix4 b h r k))) := fun k => by
    refine (gen39 (val_main_v32 (F := Ideal) x0 x1 x3) (val_main_v33 (F := Ideal) x0 x1 x3)
      (val_main_v34 (F := Ideal)) b h r k).trans ?_
    rw [h34, h33]
  refine (gen43 (val_main_v39 (F := Ideal) x0 x1 x3) (val_main_v40 (F := Ideal) x0 x1 x3) b h r k).trans ?_
  rw [h39, show val_main_v40 (F := Ideal) x0 x1 x3 (ix3 b h r) = _ from gen40 (val_main_v39 (F := Ideal) x0 x1 x3) b h r]
  exact congrArg _ (Finset.sum_congr rfl fun k _ => h39 k)

/-- The result at stream `R / 32`, row `R % 32`, head `C / 64` and its lane `C % 64`. -/
theorem result_apply (R C : Fin 512) :
    val_main_v47 (F := Ideal) x0 x1 x2 x3 (ix2 R C)
      = FoxMath.whole (fun k : Fin 2080 => val_main_v32 (F := Ideal) x0 x1 x3
            (ix4 (⟨R.val / 32, by omega⟩ : Fin 16) (⟨C.val / 64, by omega⟩ : Fin 8) (⟨R.val % 32, by omega⟩ : Fin 32) k))
          (fun k : Fin 2080 => val_main_v13 (F := Ideal) x0 x2
            (ix4 (⟨R.val / 32, by omega⟩ : Fin 16) k (⟨C.val / 64, by omega⟩ : Fin 8) (⟨C.val % 64, by omega⟩ : Fin 64))) := by
  refine (gen47 (val_main_v13 (F := Ideal) x0 x2) (val_main_v43 (F := Ideal) x0 x1 x3) R C).trans ?_
  exact Finset.sum_congr rfl fun k _ => congrArg _ (weight_apply x0 x1 x3 _ _ _ _)

end

end Cert.FoxRefIdeal.Att

end
-- ==== Proof.FoxScores.lean ====
/- The scores and values of the attention's reference, read off its arguments. -/
module

public import proofs.«01_k».proof.Proof.Gen.FoxRefIdeal.Read
public import proofs.«01_k».proof.Proof.FoxMath
public import Idealize.ShloMosaic.Lib.Pipeline.ValueKit
public import Idealize.ShloMosaic.Lib.Pointwise

@[expose] public section

set_option maxRecDepth 16384

noncomputable section

namespace Cert.FoxRefIdeal.Att

open Idealize.ShloMosaic Idealize.ShloMosaic.TcCoe Idealize.SL.Sem
open Cert.FoxRefIdeal Cert.FoxRefIdeal.Read Cert.FoxRefIdeal.Gen

section

variable (x0 : FVec Ideal S17408x2304 .bf16) (x1 x2 : FVec Ideal S1x16x2048x8x64 .f32) (x3 : FVec Ideal S16x8x2304 .f32)

/-- The row of the projections that holds row `r` of stream `b`. -/
def row (b : Fin 16) (r : Fin 32) : Fin 17408 := ⟨16896 + (b.val * 32 + r.val), by omega⟩

/-- A cached key's value. -/
theorem value_old (b : Fin 16) (h : Fin 8) (d : Fin 64) (k : Fin 2048) :
    val_main_v13 (F := Ideal) x0 x2 (ix4 b (⟨k.val, by omega⟩ : Fin 2080) h d) = x2 (ix5 0 b k h d) := by
  pointwise [val_main_v13, val_main_v12]

/-- A new key's value. -/
theorem value_fresh (b : Fin 16) (h : Fin 8) (d : Fin 64) (k : Fin 32) :
    val_main_v13 (F := Ideal) x0 x2 (ix4 b (⟨2048 + k.val, by omega⟩ : Fin 2080) h d)
      = x0 (ix2 (row b k) (⟨1536 + (h.val * 64 + d.val), by omega⟩ : Fin 2304)) := by
  pointwise [val_main_v13, val_main_v9, val_main_v6, val_main_v3, val_main_v2, val_main_v1, val_main_v0]
  exact congrArg (fun c => x0 (ix2 (row b k) c)) (Fin.ext (by simp only []; omega))

/-- A cached key's score. -/
theorem score_old (b : Fin 16) (h : Fin 8) (r : Fin 32) (k : Fin 2048) :
    val_main_v32 (F := Ideal) x0 x1 x3 (ix4 b h r (⟨k.val, by omega⟩ : Fin 2080))
      = (∑ d : Fin 64, x0 (ix2 (row b r) (⟨512 + (h.val * 64 + d.val), by omega⟩ : Fin 2304)) * x1 (ix5 0 b k h d))
          * ((1 / 8 : ℝ) : EReal)
        + x3 (ix3 b h (⟨2048 + r.val, by omega⟩ : Fin 2304)) - x3 (ix3 b h (⟨k.val, by omega⟩ : Fin 2304)) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_cst, val_main_v19, val_main_v20, val_main_v21, val_main_v22, val_main_v23, val_main_v24, val_main_v25, val_main_v26, val_main_v27, val_main_v28, val_main_v29, val_main_v30, val_main_v31, val_main_cst_0, val_main_call0_v0, val_main_call0_v1, val_main_call0_v2, val_main_v32]
  rw [FoxMath.select_sle _ _ (by omega) (by omega), if_pos (by omega), FoxMath.eighth_f32]
  rfl

/-- A new key's score. -/
theorem score_fresh (b : Fin 16) (h : Fin 8) (r : Fin 32) (k : Fin 32) :
    val_main_v32 (F := Ideal) x0 x1 x3 (ix4 b h r (⟨2048 + k.val, by omega⟩ : Fin 2080))
      = if k.val ≤ r.val then
          (∑ d : Fin 64, x0 (ix2 (row b r) (⟨512 + (h.val * 64 + d.val), by omega⟩ : Fin 2304))
              * x0 (ix2 (row b k) (⟨1024 + (h.val * 64 + d.val), by omega⟩ : Fin 2304))) * ((1 / 8 : ℝ) : EReal)
            + x3 (ix3 b h (⟨2048 + r.val, by omega⟩ : Fin 2304)) - x3 (ix3 b h (⟨2048 + k.val, by omega⟩ : Fin 2304))
        else ⊥ := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_cst, val_main_v19, val_main_v20, val_main_v21, val_main_v22, val_main_v23, val_main_v24, val_main_v25, val_main_v26, val_main_v27, val_main_v28, val_main_v29, val_main_v30, val_main_v31, val_main_cst_0, val_main_call0_v0, val_main_call0_v1, val_main_call0_v2, val_main_v32]
  rw [FoxMath.select_sle _ _ (by omega) (by omega), FoxMath.eighth_f32]
  by_cases hk : k.val ≤ r.val
  · rw [if_pos hk, if_pos (by omega)]
    refine congrArg (fun s : EReal => s * ((1 / 8 : ℝ) : EReal) + x3 (ix3 b h (⟨2048 + r.val, by omega⟩ : Fin 2304))
      - x3 (ix3 b h (⟨2048 + k.val, by omega⟩ : Fin 2304))) (Finset.sum_congr rfl fun d _ => ?_)
    exact congrArg (fun c => x0 (ix2 (row b r) (⟨512 + (h.val * 64 + d.val), by omega⟩ : Fin 2304)) * x0 (ix2 (row b k) c))
      (Fin.ext (by simp only []; omega))
  · rw [if_neg hk, if_neg (by omega)]
    exact FoxMath.minus_inf

end

end Cert.FoxRefIdeal.Att

end
-- ==== Proof.FoxPoint.lean ====
/- One element of a block the kernel writes is the reference's element at the same place, where the scores are finite. -/
module

public import proofs.«01_k».proof.Proof.FoxKernel
public import proofs.«01_k».proof.Proof.FoxRef
public import proofs.«01_k».proof.Proof.FoxScores

@[expose] public section

set_option maxRecDepth 16384

noncomputable section

namespace Cert.FoxPoint

open Idealize.ShloMosaic Idealize.ShloMosaic.TcCoe
open Cert.FoxRefIdeal (S17408x2304 S1x16x2048x8x64 S16x8x2304)
open Cert.FoxRefIdeal.Read (val_main_v47 val_main_v32 val_main_v13)
open Cert.FoxRefIdeal.Att (row)
open Cert.FoxIdeal (S32x128 S1x2048x128 S1x1x32x2 S1x1x2x2304)
open Cert.FoxIdeal.Att (old fresh dots low high)

/-- An extended real that is neither infinity. -/
def Fin' (x : EReal) : Prop := x ≠ ⊥ ∧ x ≠ ⊤

theorem Fin'.add {x y : EReal} (hx : Fin' x) (hy : Fin' y) : Fin' (x + y) := by
  lift x to ℝ using ⟨hx.2, hx.1⟩
  lift y to ℝ using ⟨hy.2, hy.1⟩
  rw [← EReal.coe_add]
  exact ⟨EReal.coe_ne_bot _, EReal.coe_ne_top _⟩

theorem Fin'.sub {x y : EReal} (hx : Fin' x) (hy : Fin' y) : Fin' (x - y) := by
  lift x to ℝ using ⟨hx.2, hx.1⟩
  lift y to ℝ using ⟨hy.2, hy.1⟩
  rw [← EReal.coe_sub]
  exact ⟨EReal.coe_ne_bot _, EReal.coe_ne_top _⟩

theorem Fin'.mul {x y : EReal} (hx : Fin' x) (hy : Fin' y) : Fin' (x * y) := by
  lift x to ℝ using ⟨hx.2, hx.1⟩
  lift y to ℝ using ⟨hy.2, hy.1⟩
  rw [← EReal.coe_mul]
  exact ⟨EReal.coe_ne_bot _, EReal.coe_ne_top _⟩

theorem Fin'.sum {n : ℕ} {f : Fin n → EReal} (h : ∀ k, Fin' (f k)) : Fin' (∑ k, f k) := by
  induction n with
  | zero => exact ⟨by simp, by simp⟩
  | succ n ih => rw [Fin.sum_univ_succ]; exact (h 0).add (ih fun k => h _)

/-- The scale is real. -/
theorem finite_eighth : Fin' ((1 / 8 : ℝ) : EReal) := ⟨EReal.coe_ne_bot _, EReal.coe_ne_top _⟩

section

variable (x0 : FVec Ideal S17408x2304 .bf16) (x1 x2 : FVec Ideal S1x16x2048x8x64 .f32) (x3 : FVec Ideal S16x8x2304 .f32)
  (q kn vn : Vec Ideal S32x128 .bf16) (kp vp : Vec Ideal S1x2048x128 .f32) (fq : Vec Ideal S1x1x32x2 .f32)
  (fk : Vec Ideal S1x1x2x2304 .f32)

variable (f0 : ∀ i j, Fin' (x0 (ix2 i j))) (f1 : ∀ b k h d, Fin' (x1 (ix5 0 b k h d)))
  (f3 : ∀ b h k, Fin' (x3 (ix3 b h k)))

include f0 f1 f3

/-- A cached key's score is finite. -/
theorem finite_old (b : Fin 16) (h : Fin 8) (r : Fin 32) (k : Fin 2048) :
    Fin' (val_main_v32 (F := Ideal) x0 x1 x3 (ix4 b h r (⟨k.val, by omega⟩ : Fin 2080))) := by
  rw [FoxRefIdeal.Att.score_old]
  exact (((Fin'.sum fun d => (f0 _ _).mul (f1 _ _ _ _)).mul finite_eighth).add (f3 _ _ _)).sub (f3 _ _ _)

/-- A new key's score is not infinite upwards. -/
theorem fresh_ne_top (b : Fin 16) (h : Fin 8) (r : Fin 32) (k : Fin 32) :
    val_main_v32 (F := Ideal) x0 x1 x3 (ix4 b h r (⟨2048 + k.val, by omega⟩ : Fin 2080)) ≠ ⊤ := by
  rw [FoxRefIdeal.Att.score_fresh]
  split
  · exact ((((Fin'.sum fun d => (f0 _ _).mul (f0 _ _)).mul finite_eighth).add (f3 _ _ _)).sub (f3 _ _ _)).2
  · exact bot_ne_top

/-- The softmax over all the keys in the two parts the kernel takes them in. -/
theorem whole_parts (b : Fin 16) (h : Fin 8) (r : Fin 32) (v : Fin 2080 → EReal) :
    FoxMath.whole (fun k : Fin 2080 => val_main_v32 (F := Ideal) x0 x1 x3 (ix4 b h r k)) v
      = FoxMath.parts (fun k : Fin 2048 => val_main_v32 (F := Ideal) x0 x1 x3 (ix4 b h r (⟨k.val, by omega⟩ : Fin 2080)))
          (fun k : Fin 2048 => v ⟨k.val, by omega⟩)
          (fun k : Fin 32 => val_main_v32 (F := Ideal) x0 x1 x3 (ix4 b h r (⟨2048 + k.val, by omega⟩ : Fin 2080)))
          (fun k : Fin 32 => v ⟨2048 + k.val, by omega⟩) := by
  refine FoxMath.whole_eq_parts (m := 2048) (n := 32)
    (fun k : Fin 2080 => val_main_v32 (F := Ideal) x0 x1 x3 (ix4 b h r k)) v (fun k => ?_) (⟨0, by omega⟩ : Fin 2080)
    (finite_old x0 x1 x3 f0 f1 f3 b h r (0 : Fin 2048)).1
  refine Fin.addCases (m := 2048) (n := 32) (fun i => ?_) (fun i => ?_) k
  · exact (finite_old x0 x1 x3 f0 f1 f3 b h r i).2
  · exact fresh_ne_top x0 x1 x3 f0 f1 f3 b h r i

/-- The element at stream `b`, row `r`, head pair `g` and lane `l` of the pair. -/
theorem point (b : Fin 16) (g : Fin 4) (r : Fin 32) (l : Fin 128)
    (hq : ∀ r l, q (ix2 r l) = x0 (ix2 (row b r) (⟨512 + (g.val * 128 + l.val), by omega⟩ : Fin 2304)))
    (hkn : ∀ r l, kn (ix2 r l) = x0 (ix2 (row b r) (⟨1024 + (g.val * 128 + l.val), by omega⟩ : Fin 2304)))
    (hvn : ∀ r l, vn (ix2 r l) = x0 (ix2 (row b r) (⟨1536 + (g.val * 128 + l.val), by omega⟩ : Fin 2304)))
    (hkp : ∀ k l, kp (ix3 0 k l) = x1 (ix5 0 b k (⟨(g.val * 128 + l.val) / 64, by omega⟩ : Fin 8)
      (⟨(g.val * 128 + l.val) % 64, by omega⟩ : Fin 64)))
    (hvp : ∀ k l, vp (ix3 0 k l) = x2 (ix5 0 b k (⟨(g.val * 128 + l.val) / 64, by omega⟩ : Fin 8)
      (⟨(g.val * 128 + l.val) % 64, by omega⟩ : Fin 64)))
    (hfq : ∀ r p, fq (ix4 0 0 r p) = x3 (ix3 b (⟨g.val * 2 + p.val, by omega⟩ : Fin 8)
      (⟨2048 + r.val, by omega⟩ : Fin 2304)))
    (hfk : ∀ p k, fk (ix4 0 0 p k) = x3 (ix3 b (⟨g.val * 2 + p.val, by omega⟩ : Fin 8) k)) :
    FoxIdeal.Gen.out0_7 q kn vn kp vp fq fk (ix2 r l)
      = val_main_v47 (F := Ideal) x0 x1 x2 x3
          (ix2 (⟨b.val * 32 + r.val, by omega⟩ : Fin 512) (⟨g.val * 128 + l.val, by omega⟩ : Fin 512)) := by
  have c0 : (0 : EReal) ≤ ((1 / 8 : ℝ) : EReal) := EReal.coe_nonneg.2 (by norm_num)
  have c1 : ((1 / 8 : ℝ) : EReal) ≠ ⊤ := EReal.coe_ne_top _
  -- the scores and the values of one head, lane by lane
  have key : ∀ (w : Fin 128 → BitVec 1) (p : Fin 2)
      (_ : ∀ a k : Fin 128 → EReal, dots w a k
        = (∑ d : Fin 64, a ⟨p.val * 64 + d.val, by omega⟩ * k ⟨p.val * 64 + d.val, by omega⟩) * ((1 / 8 : ℝ) : EReal))
      (_ : l.val / 64 = p.val),
      FoxMath.parts (old q kp fq fk w p r) (fun x => vp (ix3 0 x l)) (fresh q kn fq fk w p r) (fun x => vn (ix2 x l))
        = val_main_v47 (F := Ideal) x0 x1 x2 x3
          (ix2 (⟨b.val * 32 + r.val, by omega⟩ : Fin 512) (⟨g.val * 128 + l.val, by omega⟩ : Fin 512)) := by
    intro w p hw hl
    rw [FoxRefIdeal.Att.result_apply]
    have eb : (⟨(b.val * 32 + r.val) / 32, by omega⟩ : Fin 16) = b := Fin.ext (by simp only []; omega)
    have er : (⟨(b.val * 32 + r.val) % 32, by omega⟩ : Fin 32) = r := Fin.ext (by simp only []; omega)
    have eh : (⟨(g.val * 128 + l.val) / 64, by omega⟩ : Fin 8) = ⟨g.val * 2 + p.val, by omega⟩ :=
      Fin.ext (by simp only []; omega)
    simp only [eb, er, eh]
    rw [whole_parts x0 x1 x3 f0 f1 f3]
    have ec : ∀ (o : ℕ) (ho : o + 768 ≤ 2304) (d : Fin 64), (⟨o + (g.val * 128 + (p.val * 64 + d.val)), by omega⟩ : Fin 2304)
        = ⟨o + ((g.val * 2 + p.val) * 64 + d.val), by omega⟩ := fun o ho d => Fin.ext (by simp only []; omega)
    have eg : ∀ d : Fin 64, (⟨(g.val * 128 + (p.val * 64 + d.val)) / 64, by omega⟩ : Fin 8) = ⟨g.val * 2 + p.val, by omega⟩ :=
      fun d => Fin.ext (by simp only []; omega)
    have ed : ∀ d : Fin 64, (⟨(g.val * 128 + (p.val * 64 + d.val)) % 64, by omega⟩ : Fin 64) = d :=
      fun d => Fin.ext (by simp only []; omega)
    congr 1
    · funext k
      rw [FoxRefIdeal.Att.score_old]
      unfold old
      rw [hw, hfq, hfk]
      simp only [hq, hkp]
      simp only [ec 512 (by omega), eg, ed]
    · funext k
      rw [FoxRefIdeal.Att.value_old, hvp]
      simp only [eh]
    · funext k
      rw [FoxRefIdeal.Att.score_fresh]
      unfold fresh
      rw [FoxMath.select_sle _ _ (by omega) (by omega), hw, hfq, hfk]
      simp only [hq, hkn]
      simp only [ec 512 (by omega), ec 1024 (by omega)]
    · funext k
      rw [FoxRefIdeal.Att.value_fresh, hvn]
      exact congrArg (fun c => x0 (ix2 (row b k) c)) (Fin.ext (by simp only []; omega))
  rw [FoxIdeal.Att.out_apply]
  rw [show low l = IntOp.cmpi .slt (BitVec.ofNat 32 l.val) (BitVec.ofNat 32 64) from rfl,
    FoxMath.select_slt _ _ (by omega) (by norm_num)]
  split
  · refine key low 0 (fun a k => ?_) (by simp only [Fin.val_zero]; omega)
    refine (congrArg (fun c => ∑ x : Fin 128, Scalar.select (low x) (a x * c * k x) 0) FoxMath.eighth_bf16).trans
      ((FoxMath.lanes_low a k c0 c1).trans ?_)
    simp
  · refine key high 1 (fun a k => ?_) (by simp only [Fin.val_one]; omega)
    refine (congrArg (fun c => ∑ x : Fin 128, Scalar.select (high x) (a x * c * k x) 0) FoxMath.eighth_bf16).trans
      ((FoxMath.lanes_high a k c0 c1).trans ?_)
    simp

end

end Cert.FoxPoint

end
-- ==== Proof.FoxValue.lean ====
/- The attention's two programs leave the same array, where the scores are finite. -/
module

public import proofs.«01_k».proof.Defs
public import proofs.«01_k».proof.Proof.Gen.FoxIdeal.Value
public import proofs.«01_k».proof.Proof.Gen.FoxRefIdeal.Run
public import proofs.«01_k».proof.Proof.FoxBlocks
public import proofs.«01_k».proof.Proof.FoxPoint

@[expose] public section

set_option maxRecDepth 16384

noncomputable section

namespace Cert.Pre_finite_scores

open Idealize.ShloMosaic

/-- The side conditions of the precondition's operations. -/
theorem side : Facts where
  bitsLt_bf16_f32 := by decide
  bcast_S_S17408x2304 := by decide
  bcast_S_S1x16x2048x8x64 := by decide
  bcast_S_S16x8x2304 := by decide

/-- The literal the absolute values are compared with is the greatest extended real. -/
theorem plus_inf : Ideal.ofBits .f32 0x7F800000#32 = (⊤ : EReal) := by
  simp [Ideal.ofBits, Ideal.ieee]

/-- An absolute value less than infinity is that of a real. -/
theorem finite_of_lt {x : EReal} (h : Ideal.cmp .olt (max x (-x)) (Ideal.ofBits .f32 0x7F800000#32) = 1#1) :
    Cert.FoxPoint.Fin' x := by
  rw [plus_inf] at h
  have h' : max x (-x) < ⊤ := by
    by_contra hn
    simp [Ideal.cmp, hn] at h
  constructor
  · rintro rfl
    simp at h'
  · rintro rfl
    simp at h'

end Cert.Pre_finite_scores

namespace Cert.FoxIdeal.Att

open Idealize.ShloMosaic Idealize.ShloMosaic.TcCoe Idealize.SL.Sem
open Cert.FoxIdeal Cert.FoxIdeal.Gen

variable (m : (ℓ : Loc nD τ sig) → Buf (Elt Ideal) ℓ)

set_option maxHeartbeats 1600000 in
/-- The result array after the run, where the arguments the scores are of are finite. -/
theorem final (c : Dev nD)
    (f0 : ∀ i j, FoxPoint.Fin' (m ((c : Thread nD τ).loc main_arg0) (ix2 i j)))
    (f1 : ∀ b k h d, FoxPoint.Fin' (m ((c : Thread nD τ).loc main_arg1) (ix5 0 b k h d)))
    (f3 : ∀ b h k, FoxPoint.Fin' (m ((c : Thread nD τ).loc main_arg3) (ix3 b h k))) :
    (dats m 0 c).arrAt 7 cfg0.N
      = Cert.FoxRefIdeal.Read.val_main_v47 (F := Ideal) (m ((c : Thread nD τ).loc main_arg0))
          (m ((c : Thread nD τ).loc main_arg1)) (m ((c : Thread nD τ).loc main_arg2)) (m ((c : Thread nD τ).loc main_arg3)) := by
  refine (dats m 0 c).arrAt_eq_of_covers 7 _ (by decide +kernel) fun t _ y => ?_
  have ht := lt_points t
  blk_simp
  rw [after0_7]
  idx_vars y
  have e : ((View.whole main_v7).slice (win0_7.rect t)).emb (ix2 y0 y1)
      = ix2 (⟨t.val / 4 * 32 + y0.val, by omega⟩ : Fin 512) (⟨t.val % 4 * 128 + y1.val, by omega⟩ : Fin 512) := by
    blk_ext [idx t]
  rw [e]
  exact FoxPoint.point (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t) (iblk m c 4 t) (iblk m c 5 t) (iblk m c 6 t) f0 f1 f3
    (⟨t.val / 4, by omega⟩ : Fin 16) (⟨t.val % 4, by omega⟩ : Fin 4) y0 y1
    (read_q m c t) (read_kn m c t) (read_vn m c t) (read_kp m c t) (read_vp m c t) (read_fq m c t) (read_fk m c t)

end Cert.FoxIdeal.Att

end
-- ==== Proof.FoxClaim.lean ====
/- The attention's claims, each as the generated statement has it. -/
module

public import proofs.«01_k».proof.Proof.FoxValue
public import proofs.«01_k».proof.Proof.Gen.Fox.Frame
public import Idealize.ShloMosaic.Lib.Claim

@[expose] public section

set_option maxRecDepth 16384

noncomputable section

namespace Cert.FoxClaim

open Idealize.ShloMosaic Idealize.SL.Sem

/-- The reference runs and leaves its arguments. -/
theorem reference_frame : @Cert.quiescent_FoxRefIdeal Cert.FoxRefIdeal.Gen.facts := by
  intro m g _
  exact (θ_run _ _ _).mono (fun r h => ⟨fun c => (h c).2, sem_eq_zero_of_no_sems rfl r.2⟩) (Cert.FoxRefIdeal.Value.run m g)

/-- The same under the precondition, which it does not need. -/
theorem reference_frame_pre : @Cert.quiescent_FoxRefIdeal_pre_finite_scores Cert.FoxRefIdeal.Gen.facts
    Cert.Pre_finite_scores.side :=
  fun m g _ => reference_frame m g trivial

set_option maxHeartbeats 1600000 in
/-- The idealized kernel and the reference leave the same array, where the scores are finite. -/
theorem algebraic : @Cert.algebraic_FoxIdeal_FoxRefIdeal_pre_finite_scores Cert.FoxIdeal.Gen.facts
    Cert.FoxRefIdeal.Gen.facts Cert.Pre_finite_scores.side := by
  intro m g m' g' hpre hagree
  refine ⟨fun c => (Cert.FoxIdeal.Gen.dats m 0 c).arrAt 7 Cert.FoxIdeal.cfg0.N, ?_, ?_⟩
  · run_from Cert.FoxIdeal.Value.run_blocks m g
  · run_from Cert.FoxRefIdeal.Value.run m' g'
    obtain ⟨a0, a1, a2, a3⟩ := hagree c
    obtain ⟨p0, p1, p3⟩ := hpre c
    refine (Cert.FoxRefIdeal.Read.val_main_v47_eq m' c).trans ?_
    rw [a0, a1, a2, a3]
    exact (Cert.FoxIdeal.Att.final m c (fun i j => Cert.Pre_finite_scores.finite_of_lt (congrFun p0 (ix2 i j)))
      (fun b k h d => Cert.Pre_finite_scores.finite_of_lt (congrFun p1 (ix5 0 b k h d)))
      (fun b h k => Cert.Pre_finite_scores.finite_of_lt (congrFun p3 (ix3 b h k)))).symm

end Cert.FoxClaim

end
-- ==== Proof.FfnMath.lean ====
/- The mathematics of the feed-forward layer both programs are read as: a row scaled by the inverse root of its mean
   square, and a gated unit of two products. -/
module

public import Idealize.ShloMosaic.Lib.Pipeline.ValueKit
public import Idealize.ShloMosaic.Lib.Pointwise

@[expose] public section

set_option maxRecDepth 16384

noncomputable section

namespace Cert.FfnMath

open Idealize.ShloMosaic

/-- A row divided by the root of its mean square, times a gain. -/
def norm (x g : Fin 1024 → EReal) (k : Fin 1024) : EReal :=
  x k * Ideal.rsqrt (Ideal.div (∑ i, x i * x i) (Ideal.ofBits .f32 0x44800000#32) + Ideal.ofBits .f32 0x358637BD#32) * g k

/-- A value times its logistic, times another value. -/
def gated (a b : EReal) : EReal := a * Ideal.div 1 (1 + Ideal.exp (-a)) * b

/-- One hidden unit of a normalised row. -/
def unit (x a b : Fin 1024 → EReal) : EReal := gated (∑ k, x k * a k) (∑ k, x k * b k)

/-- The row plus half its update. -/
def update (x y g : Fin 1024 → EReal) (k : Fin 1024) : EReal := x k + Ideal.ofBits .f32 0x3F000000#32 * norm y g k

end Cert.FfnMath

end
-- ==== Proof.FfnKernel.lean ====
/- What the feed-forward kernel computes at one grid point, read at one element. -/
module

public import proofs.«01_k».proof.Proof.Gen.FfnIdeal.Frame
public import proofs.«01_k».proof.Proof.FfnMath
public import Idealize.ShloMosaic.Lib.Pipeline.ValueKit
public import Idealize.ShloMosaic.Lib.Pointwise
public import Idealize.ShloMosaic.Lib.Claim

@[expose] public section

set_option maxRecDepth 16384

noncomputable section

namespace Cert.FfnIdeal.Att

open Idealize.ShloMosaic Idealize.ShloMosaic.TcCoe Idealize.SL.Sem
open Cert.FfnIdeal Cert.FfnIdeal.Gen

/-- The normalised rows kept for the sweep. -/
theorem pay2_apply (x : Vec Ideal S1024x1024 .f32) (g : Vec Ideal S1x1x1024 .f32) (r k : Fin 1024) :
    k0_pay2 x g (ix2 r k) = FfnMath.norm (fun k => x (ix2 r k)) (fun k => g (ix3 0 0 k)) k := by
  unfold k0_pay2
  pointwise
  rfl

/-- The accumulator's start. -/
theorem pay3_apply (r k : Fin 1024) : k0_pay3 (F := Ideal) (ix2 r k) = 0 := by
  unfold k0_pay3
  pointwise

/-- The accumulator after a point: the hidden units of the point's columns times their rows of the last product. -/
theorem pay4_apply (x : Vec Ideal S1024x1024 .bf16) (a b : Vec Ideal S1x1024x512 .f32) (s : Vec Ideal S1024x1024 .f32)
    (d : Vec Ideal S1x512x1024 .f32) (r k : Fin 1024) :
    k0_pay4 x a b s d (ix2 r k) = s (ix2 r k) + ∑ j : Fin 512,
      FfnMath.unit (fun k => x (ix2 r k)) (fun k => a (ix3 0 k j)) (fun k => b (ix3 0 k j)) * d (ix3 0 j k) := by
  unfold k0_pay4
  pointwise
  simp only [FfnMath.unit, FfnMath.gated, zero_sub, Ideal.ofBits_one_f32]

/-- The block the last point of a sweep writes. -/
theorem pay1_apply (x s : Vec Ideal S1024x1024 .f32) (g : Vec Ideal S1x1x1024 .f32) (r k : Fin 1024) :
    k0_pay1 x s g (ix2 r k)
      = FfnMath.update (fun k => x (ix2 r k)) (fun k => s (ix2 r k)) (fun k => g (ix3 0 0 k)) k := by
  unfold k0_pay1
  pointwise
  rfl

variable (m : (ℓ : Loc nD τ sig) → Buf (Elt Ideal) ℓ)

/-- Which block of its array each window holds at a point. -/
theorem idx : ∀ t : Fin cfg0.N,
    win0_0.index t = ![t.val / 8, 0] ∧ win0_1.index t = ![1, 0, 0] ∧
    win0_2.index t = ![1, 0, 0] ∧ win0_3.index t = ![1, 0, t.val % 8] ∧
    win0_4.index t = ![1, 0, t.val % 8] ∧ win0_5.index t = ![1, t.val % 8, 0] ∧
    win0_6.index t = ![t.val / 8, 0] :=
  (by decide +kernel : ∀ t : Fin grid0.N, _)

/-- There are 136 points. -/
theorem lt_points (t : Fin cfg0.N) : t.val < 136 := t.isLt

/-- The rows of a point. -/
theorem read_x (c : Dev nD) (t : Fin cfg0.N) (r k : Fin 1024) :
    iblk m c 0 t (ix2 r k) = m ((c : Thread nD τ).loc main_arg0)
      (ix2 (⟨t.val / 8 * 1024 + r.val, by have := lt_points t; omega⟩ : Fin 17408) k) := by
  have := lt_points t
  blk_ext [iblk, V, idx t]

/-- The first gain. -/
theorem read_pre (c : Dev nD) (t : Fin cfg0.N) (k : Fin 1024) :
    iblk m c 1 t (ix3 0 0 k) = m ((c : Thread nD τ).loc main_arg1) (ix2 1 k) := by
  have := lt_points t
  blk_simp [iblk, idx t]
  entry_read
  pointwise
  blk_ext [idx t]

/-- The last gain. -/
theorem read_post (c : Dev nD) (t : Fin cfg0.N) (k : Fin 1024) :
    iblk m c 2 t (ix3 0 0 k) = m ((c : Thread nD τ).loc main_arg2) (ix2 1 k) := by
  have := lt_points t
  blk_simp [iblk, idx t]
  entry_read
  pointwise
  blk_ext [idx t]

/-- The gate's columns of a point. -/
theorem read_gate (c : Dev nD) (t : Fin cfg0.N) (k : Fin 1024) (j : Fin 512) :
    iblk m c 3 t (ix3 0 k j) = m ((c : Thread nD τ).loc main_arg3)
      (ix3 1 k (⟨t.val % 8 * 512 + j.val, by omega⟩ : Fin 4096)) := by
  have := lt_points t
  blk_ext [iblk, V, idx t]

/-- The second product's columns of a point. -/
theorem read_up (c : Dev nD) (t : Fin cfg0.N) (k : Fin 1024) (j : Fin 512) :
    iblk m c 4 t (ix3 0 k j) = m ((c : Thread nD τ).loc main_arg4)
      (ix3 1 k (⟨t.val % 8 * 512 + j.val, by omega⟩ : Fin 4096)) := by
  have := lt_points t
  blk_ext [iblk, V, idx t]

/-- The last product's rows of a point. -/
theorem read_down (c : Dev nD) (t : Fin cfg0.N) (j : Fin 512) (k : Fin 1024) :
    iblk m c 5 t (ix3 0 j k) = m ((c : Thread nD τ).loc main_arg5)
      (ix3 1 (⟨t.val % 8 * 512 + j.val, by omega⟩ : Fin 4096) k) := by
  have := lt_points t
  blk_ext [iblk, V, idx t]

end Cert.FfnIdeal.Att

end
-- ==== Proof.FfnRef.lean ====
/- The feed-forward reference read at one element of its result. -/
module

public import proofs.«01_k».proof.Proof.Gen.FfnRefIdeal.Read
public import proofs.«01_k».proof.Proof.FfnMath
public import Idealize.ShloMosaic.Lib.Pipeline.ValueKit
public import Idealize.ShloMosaic.Lib.Pointwise

@[expose] public section

set_option maxRecDepth 16384

noncomputable section

namespace Cert.FfnRefIdeal.Att

open Idealize.ShloMosaic Idealize.ShloMosaic.TcCoe Idealize.SL.Sem
open Cert.FfnRefIdeal Cert.FfnRefIdeal.Read Cert.FfnRefIdeal.Gen

/-- The rows normalised. -/
theorem gen14 (X : FVec Ideal S17408x1024 .f32) (G : FVec Ideal S1024 .f32) (r : Fin 17408) (k : Fin 1024) :
    mulf (mulf X (broadcastInDim S17408x1024 ![0, 1] bcast_S17408x1_S17408x1024_0_1 (Host.rsqrt (addf (Host.divf
      (broadcastInDim S17408x1 ![0] bcast_S17408_S17408x1_0 (Host.reduceAdd (mulf X X) (val_main_cst (F := Ideal))
        reducesTo_S17408x1024_S17408_d1 h_S_)) (val_main_v5 (F := Ideal))) (val_main_v7 (F := Ideal))))))
      (broadcastInDim S17408x1024 ![0, 1] bcast_S1x1024_S17408x1024_0_1 (broadcastInDim S1x1024 ![1] bcast_S1024_S1x1024_1 G))
      (ix2 r k) = FfnMath.norm (fun k => X (ix2 r k)) (fun k => G (ix1 k)) k := by
  pointwise [val_main_cst, val_main_v5, val_main_v7, val_main_cst_0, val_main_cst_1]
  rfl

/-- A gain is the second row of its array. -/
theorem gen1 (G : FVec Ideal S2x1024 .f32) (k : Fin 1024) :
    val_main_v1 (F := Ideal) G (ix1 k) = G (ix2 1 k) := by
  pointwise [val_main_v1, val_main_v0]

/-- A product of normalised rows with the second layer's weights. -/
theorem gen21 (X : FVec Ideal S17408x1024 .f32) (W : FVec Ideal S2x1024x4096 .f32) (r : Fin 17408) (j : Fin 4096) :
    Host.dotGeneral (F := Ideal) (φ₁ := .f32) (φ₂ := .f32) dot_S17408x1024_S1024x4096_S17408x4096_1_0_0_1_n_n none X (val_main_v16 (F := Ideal) W) (ix2 r j)
      = ∑ k : Fin 1024, X (ix2 r k) * W (ix3 1 k j) := by
  pointwise [val_main_v16, val_main_v15]

/-- The hidden units. -/
theorem gen24 (A B : FVec Ideal S17408x4096 .f32) (r : Fin 17408) (j : Fin 4096) :
    mulf (mulf A (Host.divf (val_main_call0_v4 (F := Ideal)) (addf (val_main_call0_v2 (F := Ideal)) (Host.exp (Host.negf A))))) B
      (ix2 r j) = FfnMath.gated (A (ix2 r j)) (B (ix2 r j)) := by
  pointwise [val_main_call0_v4, val_main_call0_v2, val_main_call0_cst, val_main_call0_cst_0]
  simp only [FfnMath.gated, Ideal.ofBits_one_f32]

/-- The last product. -/
theorem gen25 (H : FVec Ideal S17408x4096 .f32) (W : FVec Ideal S2x4096x1024 .f32) (r : Fin 17408) (k : Fin 1024) :
    Host.dotGeneral (F := Ideal) (φ₁ := .f32) (φ₂ := .f32) dot_S17408x4096_S4096x1024_S17408x1024_1_0_0_1_n_n none H (val_main_v20 (F := Ideal) W) (ix2 r k)
      = ∑ j : Fin 4096, H (ix2 r j) * W (ix3 1 j k) := by
  pointwise [val_main_v20, val_main_v19]

/-- The row plus half its update. -/
theorem gen43 (X Y : FVec Ideal S17408x1024 .f32) (r : Fin 17408) (k : Fin 1024) :
    addf X (mulf (val_main_v41 (F := Ideal)) Y) (ix2 r k) = X (ix2 r k) + Ideal.ofBits .f32 0x3F000000#32 * Y (ix2 r k) := by
  pointwise [val_main_v41, val_main_cst_5]

section

variable (x0 : FVec Ideal S17408x1024 .f32) (x1 x2 : FVec Ideal S2x1024 .f32) (x3 x4 : FVec Ideal S2x1024x4096 .f32)
  (x5 : FVec Ideal S2x4096x1024 .f32)

/-- A row normalised. -/
theorem normed_apply (r : Fin 17408) (k : Fin 1024) :
    val_main_v14 (F := Ideal) x0 x1 (ix2 r k) = FfnMath.norm (fun k => x0 (ix2 r k)) (fun k => x1 (ix2 1 k)) k := by
  refine (gen14 x0 (val_main_v1 (F := Ideal) x1) r k).trans ?_
  simp only [gen1]

/-- A hidden unit. -/
theorem unit_apply (r : Fin 17408) (j : Fin 4096) :
    val_main_v24 (F := Ideal) x0 x1 x3 x4 (ix2 r j)
      = FfnMath.unit (FfnMath.norm (fun k => x0 (ix2 r k)) (fun k => x1 (ix2 1 k))) (fun k => x3 (ix3 1 k j))
          (fun k => x4 (ix3 1 k j)) := by
  refine (gen24 (val_main_v21 (F := Ideal) x0 x1 x3) (val_main_v23 (F := Ideal) x0 x1 x4) r j).trans ?_
  have h21 := gen21 (val_main_v14 (F := Ideal) x0 x1) x3 r j
  have h23 := gen21 (val_main_v14 (F := Ideal) x0 x1) x4 r j
  simp only [normed_apply] at h21 h23
  unfold FfnMath.unit
  exact congrArg₂ FfnMath.gated h21 h23

/-- One element of the update before it is normalised. -/
theorem sum_apply (r : Fin 17408) (k : Fin 1024) :
    val_main_v25 (F := Ideal) x0 x1 x3 x4 x5 (ix2 r k)
      = ∑ j : Fin 4096, FfnMath.unit (FfnMath.norm (fun k => x0 (ix2 r k)) (fun k => x1 (ix2 1 k)))
          (fun k => x3 (ix3 1 k j)) (fun k => x4 (ix3 1 k j)) * x5 (ix3 1 j k) := by
  refine (gen25 (val_main_v24 (F := Ideal) x0 x1 x3 x4) x5 r k).trans ?_
  simp only [unit_apply]

/-- One element of the result. -/
theorem result_apply (r : Fin 17408) (k : Fin 1024) :
    val_main_v43 (F := Ideal) x0 x1 x2 x3 x4 x5 (ix2 r k)
      = FfnMath.update (fun k => x0 (ix2 r k)) (fun k => ∑ j : Fin 4096,
          FfnMath.unit (FfnMath.norm (fun k => x0 (ix2 r k)) (fun k => x1 (ix2 1 k)))
          (fun k => x3 (ix3 1 k j)) (fun k => x4 (ix3 1 k j)) * x5 (ix3 1 j k)) (fun k => x2 (ix2 1 k)) k := by
  refine (gen43 x0 (val_main_v40 (F := Ideal) x0 x1 x2 x3 x4 x5) r k).trans ?_
  have h := gen14 (val_main_v25 (F := Ideal) x0 x1 x3 x4 x5) (val_main_v1 (F := Ideal) x2) r k
  simp only [gen1, sum_apply] at h
  unfold FfnMath.update
  exact congrArg (fun z => x0 (ix2 r k) + Ideal.ofBits .f32 0x3F000000#32 * z) h

end

end Cert.FfnRefIdeal.Att

end
-- ==== Proof.FfnValue.lean ====
/- The feed-forward kernel's sweep over the hidden units, and the array it leaves. -/
module

public import proofs.«01_k».proof.Proof.Gen.FfnIdeal.Value
public import proofs.«01_k».proof.Proof.FfnKernel
public import proofs.«01_k».proof.Proof.FfnRef
public import Idealize.ShloMosaic.Lib.Pipeline.ReadBack

@[expose] public section

set_option maxRecDepth 16384

noncomputable section

namespace Cert.FfnIdeal.Att

open Idealize.ShloMosaic Idealize.ShloMosaic.TcCoe Idealize.SL.Sem
open Cert.FfnIdeal Cert.FfnIdeal.Gen

variable (m : (ℓ : Loc nD τ sig) → Buf (Elt Ideal) ℓ)

/-- A row of the tile `i`, normalised. -/
def normed (c : Dev nD) (i : Fin 17) (r k : Fin 1024) : EReal :=
  FfnMath.norm (fun k => m ((c : Thread nD τ).loc main_arg0) (ix2 (⟨i.val * 1024 + r.val, by omega⟩ : Fin 17408) k))
    (fun k => m ((c : Thread nD τ).loc main_arg1) (ix2 1 k)) k

/-- What hidden unit `j` adds to an element of the tile `i`. -/
def term (c : Dev nD) (i : Fin 17) (r k : Fin 1024) (j : Fin 4096) : EReal :=
  FfnMath.unit (normed m c i r) (fun k => m ((c : Thread nD τ).loc main_arg3) (ix3 1 k j))
    (fun k => m ((c : Thread nD τ).loc main_arg4) (ix3 1 k j)) * m ((c : Thread nD τ).loc main_arg5) (ix3 1 j k)

/-- What the hidden units of column block `b` add. -/
def part (c : Dev nD) (i : Fin 17) (r k : Fin 1024) (b : ℕ) : EReal :=
  if h : b < 8 then ∑ j : Fin 512, term m c i r k ⟨b * 512 + j.val, by omega⟩ else 0

/-- The tile of a point. -/
def tile (t : Fin cfg0.N) : Fin 17 := ⟨t.val / 8, by have := lt_points t; omega⟩

/-- The sweep of a point's column block. -/
theorem step_apply (c : Dev nD) (t : Fin cfg0.N) (x : Vec Ideal S1024x1024 .bf16) (s : Vec Ideal S1024x1024 .f32)
    (hx : ∀ r k, x (ix2 r k) = normed m c (tile t) r k) (r k : Fin 1024) :
    k0_pay4 x (iblk m c 3 t) (iblk m c 4 t) s (iblk m c 5 t) (ix2 r k)
      = s (ix2 r k) + part m c (tile t) r k (t.val % 8) := by
  rw [pay4_apply, part, dif_pos (Nat.mod_lt _ (by omega))]
  simp only [hx, read_gate, read_up, read_down]
  rfl

/-- The normalised rows a sweep begins with. -/
theorem start_apply (c : Dev nD) (t : Fin cfg0.N) (r k : Fin 1024) :
    k0_pay2 (iblk m c 0 t) (iblk m c 1 t) (ix2 r k) = normed m c (tile t) r k := by
  rw [pay2_apply]
  simp only [read_x, read_pre]
  rfl

/-- What the two scratches hold after a point. -/
def Holds (c : Dev nD) (t : Fin cfg0.N) : Prop :=
  (∀ r k, (outsAt0 m c t.val t.isLt).2.1 (ix2 r k) = normed m c (tile t) r k) ∧
  ∀ r k, (outsAt0 m c t.val t.isLt).2.2 (ix2 r k) = ∑ b ∈ Finset.range (t.val % 8 + 1), part m c (tile t) r k b

/-- After the first point of a sweep. -/
theorem holds_first (c : Dev nD) (t : Fin cfg0.N) (h0 : t.val % 8 = 0) : Holds m c t := by
  have h1 : ¬t.val % 8 = 7 := by omega
  unfold Holds
  rw [outsAt0_A m c t h0 h1]
  refine ⟨fun r k => ?_, fun r k => ?_⟩
  · frame_out
    exact start_apply m c t r k
  · frame_out
    rw [step_apply m c t _ _ (start_apply m c t), pay3_apply, h0]
    simp

/-- The scratches before a later point of a sweep hold the normalised rows, and the step adds its block. -/
theorem sweep (c : Dev nD) (t : Fin cfg0.N) (h0 : ¬t.val % 8 = 0) (h : Holds m c ⟨t.val - 1, by omega⟩) :
    (∀ r k, (outsAt0 m c (t.val - 1) (by omega)).2.1 (ix2 r k) = normed m c (tile t) r k) ∧
    ∀ r k, k0_pay4 (outsAt0 m c (t.val - 1) (by omega)).2.1 (iblk m c 3 t) (iblk m c 4 t)
      (outsAt0 m c (t.val - 1) (by omega)).2.2 (iblk m c 5 t) (ix2 r k)
        = ∑ b ∈ Finset.range (t.val % 8 + 1), part m c (tile t) r k b := by
  obtain ⟨hx, hs⟩ := h
  have et : tile ⟨t.val - 1, by omega⟩ = tile t := Fin.ext (by simp only [tile]; omega)
  have em : t.val % 8 = (t.val - 1) % 8 + 1 := by omega
  rw [et] at hx hs
  refine ⟨hx, fun r k => (step_apply m c t _ _ hx r k).trans ((congrArg (· + _) (hs r k)).trans ?_)⟩
  simp only [em]
  rw [Finset.sum_range_succ _ ((t.val - 1) % 8 + 1)]

/-- After a later point of a sweep, from the point before. -/
theorem holds_next (c : Dev nD) (t : Fin cfg0.N) (h0 : ¬t.val % 8 = 0) (h : Holds m c ⟨t.val - 1, by omega⟩) :
    Holds m c t := by
  obtain ⟨hx, hs⟩ := sweep m c t h0 h
  by_cases h1 : t.val % 8 = 7
  · unfold Holds
    rw [outsAt0_C m c t h0 h1]
    refine ⟨fun r k => ?_, fun r k => ?_⟩
    · frame_out
      exact hx r k
    · frame_out
      rw [read_unread_whole, read_unread_whole]
      exact hs r k
  · unfold Holds
    rw [outsAt0_B m c t h0 h1]
    refine ⟨fun r k => ?_, fun r k => ?_⟩
    · frame_out
      exact hx r k
    · frame_out
      rw [read_unread_whole, read_unread_whole]
      exact hs r k

/-- What the scratches hold after every point. -/
theorem holds (c : Dev nD) : ∀ (n : ℕ) (hn : n < cfg0.N), Holds m c ⟨n, hn⟩
  | 0, hn => holds_first m c ⟨0, hn⟩ (Nat.zero_mod _)
  | n + 1, hn =>
    if h0 : (n + 1) % 8 = 0 then holds_first m c ⟨n + 1, hn⟩ h0
    else holds_next m c ⟨n + 1, hn⟩ h0 (holds c n (by omega))

/-- The eight column blocks together are all the hidden units. -/
theorem parts_eq (c : Dev nD) (i : Fin 17) (r k : Fin 1024) :
    ∑ b ∈ Finset.range (7 + 1), part m c i r k b = ∑ j : Fin 4096, term m c i r k j := by
  rw [Finset.sum_range, Fin.sum_univ_tiles 8 512 rfl (term m c i r k)]
  refine Finset.sum_congr rfl fun b _ => ?_
  rw [part, dif_pos b.isLt]

/-- The block the last point of a sweep writes. -/
theorem block_apply (c : Dev nD) (t : Fin cfg0.N) (h1 : t.val % 8 = 7) (r k : Fin 1024) :
    (outsAt0 m c t.val t.isLt).1 (ix2 r k)
      = FfnMath.update (fun k => m ((c : Thread nD τ).loc main_arg0) (ix2 (⟨(tile t).val * 1024 + r.val, by omega⟩ : Fin 17408) k))
          (fun k => ∑ j : Fin 4096, term m c (tile t) r k j) (fun k => m ((c : Thread nD τ).loc main_arg2) (ix2 1 k)) k := by
  have h0 : ¬t.val % 8 = 0 := by omega
  have hs : ∀ r k, _ = ∑ j : Fin 4096, term m c (tile t) r k j := fun r k =>
    ((sweep m c t h0 (holds m c _ _)).2 r k).trans (by rw [← parts_eq]; simp only [h1])
  rw [outsAt0_C m c t h0 h1]
  dsimp only
  frame_out
  rw [read_unread_whole, read_unread_whole, pay1_apply]
  simp only [read_x, read_post, hs]
  rfl

set_option maxHeartbeats 1600000 in
/-- The result array after the run. -/
theorem final (c : Dev nD) :
    (dats m 0 c).arrAt 6 cfg0.N
      = Cert.FfnRefIdeal.Read.val_main_v43 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) := by
  refine (dats m 0 c).arrAt_eq_of_covers 6 _ (by decide +kernel) fun t hf y => ?_
  have ht := lt_points t
  have h1 : t.val % 8 = 7 := (flush0_6 t).mp hf
  blk_simp
  rw [after0_6]
  idx_vars y
  have e : ((View.whole main_v2).slice (win0_6.rect t)).emb (ix2 y0 y1)
      = ix2 (⟨(tile t).val * 1024 + y0.val, by omega⟩ : Fin 17408) y1 := by
    blk_ext [idx t, tile]
  rw [e]
  exact (block_apply m c t h1 y0 y1).trans (FfnRefIdeal.Att.result_apply _ _ _ _ _ _ _ _).symm

end Cert.FfnIdeal.Att

end
-- ==== Proof.FfnClaim.lean ====
/- The feed-forward layer's claims, each as the generated statement has it. -/
module

public import proofs.«01_k».proof.Defs
public import proofs.«01_k».proof.Proof.FfnValue
public import proofs.«01_k».proof.Proof.Gen.FfnRefIdeal.Run
public import proofs.«01_k».proof.Proof.Gen.Ffn.Frame
public import Idealize.ShloMosaic.Lib.Claim

@[expose] public section

set_option maxRecDepth 16384

noncomputable section

namespace Cert.FfnClaim

open Idealize.ShloMosaic Idealize.SL.Sem

/-- The reference runs and leaves its arguments. -/
theorem reference_frame : @Cert.quiescent_FfnRefIdeal Cert.FfnRefIdeal.Gen.facts := by
  intro m g _
  exact (θ_run _ _ _).mono (fun r h => ⟨fun c => (h c).2, sem_eq_zero_of_no_sems rfl r.2⟩) (Cert.FfnRefIdeal.Value.run m g)

set_option maxHeartbeats 1600000 in
/-- The idealized kernel and the reference leave the same array. -/
theorem algebraic : @Cert.algebraic_FfnIdeal_FfnRefIdeal Cert.FfnIdeal.Gen.facts Cert.FfnRefIdeal.Gen.facts := by
  intro m g m' g' _ hagree
  refine ⟨fun c => (Cert.FfnIdeal.Gen.dats m 0 c).arrAt 6 Cert.FfnIdeal.cfg0.N, ?_, ?_⟩
  · run_from Cert.FfnIdeal.Value.run_blocks m g
  · run_from Cert.FfnRefIdeal.Value.run m' g'
    obtain ⟨a0, a1, a2, a3, a4, a5⟩ := hagree c
    refine (Cert.FfnRefIdeal.Read.val_main_v43_eq m' c).trans ?_
    rw [a0, a1, a2, a3, a4, a5]
    exact (Cert.FfnIdeal.Att.final m c).symm

end Cert.FfnClaim

end
-- ==== Proof.ProjMath.lean ====
/- The mathematics of the input projections both programs are read as. -/
module

public import proofs.«01_k».proof.Proof.FfnMath
public import Idealize.ShloMosaic.Lib.Pipeline.ValueKit
public import Idealize.ShloMosaic.Lib.Pointwise

@[expose] public section

set_option maxRecDepth 16384

noncomputable section

namespace Cert.ProjMath

open Idealize.ShloMosaic

/-- The smooth form of the larger of a value and zero. -/
def softplus (x : EReal) : EReal :=
  max x 0 + Ideal.log1p (Ideal.exp (-(FloatOps.absf (F := Ideal) (φ := .f32) x)))

/-- The logarithm of the logistic. -/
def logSigmoid (x : EReal) : EReal := -softplus (-x)

/-- The weight column that column `j` of the second projection is made from. -/
def perm (j : Fin 3080) : Fin 3080 :=
  if h : j.val < 1024 then ⟨512 + j.val, by omega⟩
  else if h : j.val < 1536 then ⟨j.val - 1024, by omega⟩
  else if h : j.val < 3072 then ⟨1544 + (j.val - 1536), by omega⟩
  else ⟨1536 + (j.val - 3072), by omega⟩

end Cert.ProjMath

end
-- ==== Proof.PabKernel.lean ====
/- What the first layer's input projection computes at one grid point, read at one element. -/
module

public import proofs.«01_k».proof.Proof.Gen.PabIdeal.Frame
public import proofs.«01_k».proof.Proof.ProjMath
public import Idealize.ShloMosaic.Lib.Pipeline.ValueKit
public import Idealize.ShloMosaic.Lib.Pointwise
public import Idealize.ShloMosaic.Lib.Claim
public import Idealize.ShloMosaic.Lib.Routing.OpsSet

@[expose] public section

set_option maxRecDepth 16384

noncomputable section

namespace Cert.PabIdeal.Att

open Idealize.ShloMosaic Idealize.ShloMosaic.TcCoe Idealize.SL.Sem
open Cert.PabIdeal Cert.PabIdeal.Gen

/-- The normalised rows kept for the second column block. -/
theorem pay1_apply (x : Vec Ideal S1024x1024 .f32) (g : Vec Ideal S1x1x1024 .f32) (r k : Fin 1024) :
    k0_pay1 x g (ix2 r k) = FfnMath.norm (fun k => x (ix2 r k)) (fun k => g (ix3 0 0 k)) k := by
  unfold k0_pay1
  pointwise
  rfl

/-- The product. -/
theorem pay2_apply (x : Vec Ideal S1024x1024 .bf16) (w : Vec Ideal S1024x1152 .bf16) (r : Fin 1024) (j : Fin 1152) :
    k0_pay2 x w (ix2 r j) = ∑ k : Fin 1024, x (ix2 r k) * w (ix2 k j) := by
  unfold k0_pay2
  pointwise

/-- The last columns of the product, with the bias and the gate's function. -/
theorem pay4_apply (x : Vec Ideal S1024x1024 .bf16) (w : Vec Ideal S1024x1152 .bf16) (b : Vec Ideal S1x256 .f32) (r : Fin 1024) (j : Fin 256) :
    k0_pay4 x w b (ix2 r j)
      = ProjMath.logSigmoid ((∑ k : Fin 1024, x (ix2 r k) * w (ix2 k (⟨896 + j.val, by omega⟩ : Fin 1152))) + b (ix2 0 j)) := by
  unfold k0_pay4 k0_pay2
  pointwise
  simp only [ProjMath.logSigmoid, ProjMath.softplus, zero_sub]

/-- The padded weights. -/
theorem pad_apply (x : FVec Ideal S1024x2056 .f32) (v : FVec Ideal S_ .f32) (k : Fin 1024) (j : Fin 2304) :
    pad S1024x2304 ![0, 0] ![0, 248] ![0, 0] x v pads_S1024x2056_S1024x2304_000_02480 h_S_ (ix2 k j) =
      if h : j.val < 2056 then x (ix2 k ⟨j.val, h⟩) else v ix0 := by
  by_cases h : j.val < 2056
  · rw [dif_pos h]
    pointwise
    rw [dif_pos h]
  · rw [dif_neg h]
    pointwise
    rw [dif_neg h]
    exact congrArg v (funext fun i => i.elim0)

/-- The weights without their leading axis. -/
theorem cast_apply (x : FVec Ideal S1x1024x2056 .f32) (k : Fin 1024) (j : Fin 2056) :
    shapeCast S1024x2056 x shapeCasts_S1x1024x2056_S1024x2056 (ix2 k j) = x (ix3 0 k j) := by
  pointwise

/-- The padding is zero. -/
theorem zero_apply : sitofp (F := Ideal) (s := S_) .f32 (constantI S_ 32 0#32) ix0 = 0 := by
  pointwise
  simp [FloatOps.sitofp]

/-- Where an update of the bias row lands. -/
theorem lands : ∀ k : Fin 8, scatter_S1x256_S2_S8_0_0_01_0.resultIdx? (w := 32) (ix1 k) (fun _ => 0#32) = some (ix2 0 ⟨k.val, by omega⟩) := by
  decide +kernel

/-- The bias row with the update written at its start. -/
theorem scatter_apply (x : FVec Ideal S1x256 .f32) (i : IVec S2 32) (hi : i = fun _ => 0#32) (u : FVec Ideal S8 .f32) (j : Fin 256) :
    Host.scatter scatter_S1x256_S2_S8_0_0_01_0 (fun _ b => b) x i u (ix2 0 j) =
      if h : j.val < 8 then u (ix1 ⟨j.val, h⟩) else x (ix2 0 j) := by
  subst hi
  by_cases h : j.val < 8
  · rw [dif_pos h]
    refine Routing.scatter_set_hit _ x _ u _ _ (fun k hk => ?_) (ix1 ⟨j.val, h⟩) (lands ⟨j.val, h⟩)
    idx_vars k
    rw [lands k0] at hk
    have e := congrFun (Option.some.inj hk) 1
    have e' : k0.val = j.val := congrArg Fin.val e
    congr 2
    exact Fin.ext e'
  · rw [dif_neg h]
    refine Routing.scatter_set_miss _ x _ u _ (fun k hk => ?_)
    idx_vars k
    rw [lands k0] at hk
    have e := congrFun (Option.some.inj hk) 1
    have e' : k0.val = j.val := congrArg Fin.val e
    have := k0.isLt
    omega

/-- The bias without its leading axis. -/
theorem cast_bias (x : FVec Ideal S1x8 .f32) (j : Fin 8) :
    shapeCast S8 x shapeCasts_S1x8_S8 (ix1 j) = x (ix2 0 j) := by
  pointwise

/-- The row the bias is written into. -/
theorem zeros_apply (j : Fin 256) :
    broadcastInDim S1x256 ![] bcast_S_S1x256 (constant (F := Ideal) S_ .f32 0x00000000#32) (ix2 0 j) = (0 : EReal) := by
  pointwise

variable (m : (ℓ : Loc nD τ sig) → Buf (Elt Ideal) ℓ)

/-- Which block of its array each window holds at a point. -/
theorem idx : ∀ t : Fin cfg0.N,
    win0_0.index t = ![t.val / 2, 0] ∧ win0_1.index t = ![0, 0, 0] ∧
    win0_2.index t = ![0, t.val % 2] ∧ win0_3.index t = ![0, 0] ∧
    win0_4.index t = ![t.val / 2, t.val % 2] ∧ win0_5.index t = ![t.val / 2, t.val % 2] :=
  (by decide +kernel : ∀ t : Fin grid0.N, _)

/-- There are 34 points. -/
theorem lt_points (t : Fin cfg0.N) : t.val < 34 := t.isLt

/-- One padded weight. -/
def weight (c : Dev nD) (j : Fin 2304) (k : Fin 1024) : EReal :=
  if h : j.val < 2056 then m ((c : Thread nD τ).loc main_arg2) (ix3 0 k ⟨j.val, h⟩) else 0

/-- One padded bias. -/
def bias (c : Dev nD) (j : Fin 256) : EReal :=
  if h : j.val < 8 then m ((c : Thread nD τ).loc main_arg3) (ix2 0 ⟨j.val, h⟩) else 0

/-- The padded weights the run begins with. -/
theorem weights_eq (c : Dev nD) (k : Fin 1024) (j : Fin 2304) :
    (V m c main_v2 : FVec Ideal S1024x2304 .bf16) (ix2 k j) = weight m c j k := by
  simp only [V, List.flatten_cons, List.flatten_nil, hostOps0, hostOps0_1, hostOps0_2, List.cons_append, List.nil_append, List.append_nil]
  entry_read
  refine (pad_apply (shapeCast S1024x2056 (m ((c : Thread nD τ).loc main_arg2) : FVec Ideal S1x1024x2056 .f32) shapeCasts_S1x1024x2056_S1024x2056)
    (sitofp (F := Ideal) .f32 (constantI S_ 32 0#32)) k j).trans ?_
  unfold weight
  split
  · exact cast_apply _ _ _
  · exact zero_apply

/-- The padded bias the run begins with. -/
theorem bias_eq (c : Dev nD) (j : Fin 256) :
    (V m c main_v8 : FVec Ideal S1x256 .f32) (ix2 0 j) = bias m c j := by
  simp only [V, List.flatten_cons, List.flatten_nil, hostOps0, hostOps0_1, hostOps0_2, List.cons_append, List.nil_append, List.append_nil]
  entry_read
  refine (scatter_apply _ _ (funext fun i => ?_) _ j).trans ?_
  · idx_vars i
    fin_cases i0 <;> rfl
  unfold bias
  split
  · exact cast_bias _ _
  · exact zeros_apply _

/-- The gain the run begins with. -/
theorem gain_eq (c : Dev nD) (i : Fin 2) (k : Fin 1024) :
    (V m c main_v9 : FVec Ideal S2x1x1024 .f32) (ix3 i 0 k) = m ((c : Thread nD τ).loc main_arg1) (ix2 i k) := by
  simp only [V, List.flatten_cons, List.flatten_nil, hostOps0, hostOps0_1, hostOps0_2, List.cons_append, List.nil_append, List.append_nil]
  entry_read
  pointwise

/-- The rows of a point. -/
theorem read_x (c : Dev nD) (t : Fin cfg0.N) (r k : Fin 1024) :
    iblk m c 0 t (ix2 r k) = m ((c : Thread nD τ).loc main_arg0)
      (ix2 (⟨t.val / 2 * 1024 + r.val, by have := lt_points t; omega⟩ : Fin 17408) k) := by
  have := lt_points t
  refine Eq.trans ?_ (congrFun (V_main_arg0 m c) _)
  blk_ext [iblk, idx t]

/-- The gain of a point. -/
theorem read_gain (c : Dev nD) (t : Fin cfg0.N) (k : Fin 1024) :
    iblk m c 1 t (ix3 0 0 k) = m ((c : Thread nD τ).loc main_arg1) (ix2 0 k) := by
  have := lt_points t
  refine Eq.trans ?_ (gain_eq m c 0 k)
  blk_ext [iblk, idx t]

/-- The weights of a point. -/
theorem read_w (c : Dev nD) (t : Fin cfg0.N) (k : Fin 1024) (j : Fin 1152) :
    iblk m c 2 t (ix2 k j) = weight m c ⟨t.val % 2 * 1152 + j.val, by omega⟩ k := by
  have := lt_points t
  refine Eq.trans ?_ (weights_eq m c k _)
  blk_ext [iblk, idx t]

/-- The bias of a point. -/
theorem read_b (c : Dev nD) (t : Fin cfg0.N) (j : Fin 256) :
    iblk m c 3 t (ix2 0 j) = bias m c j := by
  have := lt_points t
  refine Eq.trans ?_ (bias_eq m c j)
  blk_ext [iblk, idx t]

end Cert.PabIdeal.Att

end
-- ==== Proof.PabRef.lean ====
/- The first layer's projection reference read at one element of its result. -/
module

public import proofs.«01_k».proof.Proof.Gen.PabRefIdeal.Read
public import proofs.«01_k».proof.Proof.ProjMath
public import Idealize.ShloMosaic.Lib.Pipeline.ValueKit
public import Idealize.ShloMosaic.Lib.Pointwise

@[expose] public section

set_option maxRecDepth 16384

noncomputable section

namespace Cert.PabRefIdeal.Att

open Idealize.ShloMosaic Idealize.ShloMosaic.TcCoe Idealize.SL.Sem
open Cert.PabRefIdeal Cert.PabRefIdeal.Read Cert.PabRefIdeal.Gen

/-- The rows normalised. -/
theorem gen14 (X : FVec Ideal S17408x1024 .f32) (G : FVec Ideal S1024 .f32) (r : Fin 17408) (k : Fin 1024) :
    mulf (mulf X (broadcastInDim S17408x1024 ![0, 1] bcast_S17408x1_S17408x1024_0_1 (Host.rsqrt (addf (Host.divf
      (broadcastInDim S17408x1 ![0] bcast_S17408_S17408x1_0 (Host.reduceAdd (mulf X X) (val_main_cst (F := Ideal))
        reducesTo_S17408x1024_S17408_d1 h_S_)) (val_main_v5 (F := Ideal))) (val_main_v7 (F := Ideal))))))
      (broadcastInDim S17408x1024 ![0, 1] bcast_S1x1024_S17408x1024_0_1 (broadcastInDim S1x1024 ![1] bcast_S1024_S1x1024_1 G))
      (ix2 r k) = FfnMath.norm (fun k => X (ix2 r k)) (fun k => G (ix1 k)) k := by
  pointwise [val_main_cst, val_main_v5, val_main_v7, val_main_cst_0, val_main_cst_1]
  rfl

/-- The gain is the first row of its array. -/
theorem gen1 (G : FVec Ideal S2x1024 .f32) (k : Fin 1024) :
    val_main_v1 (F := Ideal) G (ix1 k) = G (ix2 0 k) := by
  pointwise [val_main_v1, val_main_v0]

/-- The product of normalised rows with the weights. -/
theorem gen16 (X : FVec Ideal S17408x1024 .f32) (W : FVec Ideal S1x1024x2056 .f32) (r : Fin 17408) (j : Fin 2056) :
    Host.dotGeneral (F := Ideal) (φ₁ := .f32) (φ₂ := .f32) dot_S17408x1024_S1024x2056_S17408x2056_1_0_0_1_n_n none X (val_main_v15 (F := Ideal) W) (ix2 r j)
      = ∑ k : Fin 1024, X (ix2 r k) * W (ix3 0 k j) := by
  pointwise [val_main_v15]

/-- The gate's columns with the bias. -/
theorem gen21 (A : FVec Ideal S17408x2056 .f32) (B : FVec Ideal S1x8 .f32) (r : Fin 17408) (j : Fin 8) :
    addf (extractStridedSlice S17408x8 ![0, 2048] A slices_S17408x2056_S17408x8_0_2048) (val_main_v20 (F := Ideal) B) (ix2 r j)
      = A (ix2 r (⟨2048 + j.val, by omega⟩ : Fin 2056)) + B (ix2 0 j) := by
  pointwise [val_main_v20, val_main_v19, val_main_v18]

/-- The gate's columns padded with zeros. -/
theorem gen22 (D : FVec Ideal S17408x8 .f32) (r : Fin 17408) (j : Fin 256) :
    pad S17408x256 ![0, 0] ![0, 248] ![0, 0] D (val_main_call0_v0 (F := Ideal)) pads_S17408x8_S17408x256_000_02480 h_S_ (ix2 r j)
      = if h : j.val < 8 then D (ix2 r ⟨j.val, h⟩) else (0 : EReal) := by
  by_cases h : j.val < 8
  · rw [dif_pos h]
    pointwise
    rw [dif_pos h]
  · rw [dif_neg h]
    pointwise
    rw [dif_neg h]
    simp [val_main_call0_v0, val_main_c, sitofp, constantI, FloatOps.sitofp]

/-- The gate's function. -/
theorem gen24 (D : FVec Ideal S17408x256 .f32) (r : Fin 17408) (j : Fin 256) :
    Host.negf (select (cmpf .une (subf (Host.negf D) (val_main_call1_call0_v2 (F := Ideal))) (subf (Host.negf D) (val_main_call1_call0_v2 (F := Ideal))))
      (addf (Host.negf D) (val_main_call1_call0_v5 (F := Ideal)))
      (addf (maximumf (Host.negf D) (val_main_call1_call0_v0 (F := Ideal)))
        (Host.log1p (Host.exp (Host.negf (Host.absf (subf (Host.negf D) (val_main_call1_call0_v2 (F := Ideal))))))))) (ix2 r j)
      = ProjMath.logSigmoid (D (ix2 r j)) := by
  pointwise [val_main_call1_call0_v2, val_main_call1_call0_v5, val_main_call1_call0_v0, val_main_call1_call0_cst]
  rw [if_neg (fun h => h rfl)]
  rfl

/-- The two parts side by side. -/
theorem gen25 (A : FVec Ideal S17408x2056 .f32) (D : FVec Ideal S17408x256 .f32) (r : Fin 17408) (j : Fin 2304) :
    concatenate S17408x2304 1 [⟨S17408x2048, extractStridedSlice S17408x2048 ![0, 0] A slices_S17408x2056_S17408x2048_0_0⟩, ⟨S17408x256, D⟩]
      concatenates_S17408x2048_S17408x256_S17408x2304_d1 (ix2 r j)
      = if h : j.val < 2048 then A (ix2 r (⟨j.val, by omega⟩ : Fin 2056)) else D (ix2 r (⟨j.val - 2048, by omega⟩ : Fin 256)) := by
  by_cases h : j.val < 2048
  · rw [dif_pos h]
    pointwise
    rw [dif_pos h]
  · rw [dif_neg h]
    pointwise
    rw [dif_neg h]

section

variable (x0 : FVec Ideal S17408x1024 .f32) (x1 : FVec Ideal S2x1024 .f32) (x2 : FVec Ideal S1x1024x2056 .f32)
  (x3 : FVec Ideal S1x8 .f32)

/-- A row normalised. -/
theorem normed_apply (r : Fin 17408) (k : Fin 1024) :
    val_main_v14 (F := Ideal) x0 x1 (ix2 r k) = FfnMath.norm (fun k => x0 (ix2 r k)) (fun k => x1 (ix2 0 k)) k := by
  refine (gen14 x0 (val_main_v1 (F := Ideal) x1) r k).trans ?_
  simp only [gen1]

/-- One element of the product. -/
theorem product_apply (r : Fin 17408) (j : Fin 2056) :
    val_main_v16 (F := Ideal) x0 x1 x2 (ix2 r j)
      = ∑ k : Fin 1024, FfnMath.norm (fun k => x0 (ix2 r k)) (fun k => x1 (ix2 0 k)) k * x2 (ix3 0 k j) := by
  refine (gen16 (val_main_v14 (F := Ideal) x0 x1) x2 r j).trans ?_
  simp only [normed_apply]

/-- One element of the gate before its function. -/
theorem gate_apply (r : Fin 17408) (j : Fin 256) :
    val_main_v22 (F := Ideal) x0 x1 x2 x3 (ix2 r j)
      = if h : j.val < 8 then (∑ k : Fin 1024, FfnMath.norm (fun k => x0 (ix2 r k)) (fun k => x1 (ix2 0 k)) k
          * x2 (ix3 0 k (⟨2048 + j.val, by omega⟩ : Fin 2056))) + x3 (ix2 0 ⟨j.val, h⟩) else (0 : EReal) := by
  refine (gen22 (val_main_v21 (F := Ideal) x0 x1 x2 x3) r j).trans ?_
  split
  · next h =>
    refine (gen21 (val_main_v16 (F := Ideal) x0 x1 x2) x3 r ⟨j.val, h⟩).trans ?_
    exact congrArg (· + x3 (ix2 0 ⟨j.val, h⟩)) (product_apply x0 x1 x2 r _)
  · rfl

/-- One element of the result. -/
theorem result_apply (r : Fin 17408) (j : Fin 2304) :
    val_main_v25 (F := Ideal) x0 x1 x2 x3 (ix2 r j)
      = if h : j.val < 2048 then ∑ k : Fin 1024, FfnMath.norm (fun k => x0 (ix2 r k)) (fun k => x1 (ix2 0 k)) k
            * x2 (ix3 0 k (⟨j.val, by omega⟩ : Fin 2056))
        else ProjMath.logSigmoid (val_main_v22 (F := Ideal) x0 x1 x2 x3 (ix2 r (⟨j.val - 2048, by omega⟩ : Fin 256))) := by
  refine (gen25 (val_main_v16 (F := Ideal) x0 x1 x2) (val_main_v24 (F := Ideal) x0 x1 x2 x3) r j).trans ?_
  split
  · exact product_apply x0 x1 x2 r _
  · exact gen24 (val_main_v22 (F := Ideal) x0 x1 x2 x3) r _

/-- The narrow result holds the same numbers. -/
theorem narrow_apply (r : Fin 17408) (j : Fin 2304) :
    val_main_v26 (F := Ideal) x0 x1 x2 x3 (ix2 r j) = val_main_v25 (F := Ideal) x0 x1 x2 x3 (ix2 r j) := rfl

end

end Cert.PabRefIdeal.Att

end
-- ==== Proof.PabValue.lean ====
/- The first layer's input projection: the blocks it writes, and the arrays it leaves. -/
module

public import proofs.«01_k».proof.Proof.Gen.PabIdeal.Value
public import proofs.«01_k».proof.Proof.PabKernel
public import proofs.«01_k».proof.Proof.PabRef
public import Idealize.ShloMosaic.Lib.Pipeline.ReadBack

@[expose] public section

set_option maxRecDepth 16384

noncomputable section

namespace Cert.PabIdeal.Att

open Idealize.ShloMosaic Idealize.ShloMosaic.TcCoe Idealize.SL.Sem
open Cert.PabIdeal Cert.PabIdeal.Gen

variable (m : (ℓ : Loc nD τ sig) → Buf (Elt Ideal) ℓ)

/-- A row of the tile `i`, normalised. -/
def normed (c : Dev nD) (i : Fin 17) (r k : Fin 1024) : EReal :=
  FfnMath.norm (fun k => m ((c : Thread nD τ).loc main_arg0) (ix2 (⟨i.val * 1024 + r.val, by omega⟩ : Fin 17408) k))
    (fun k => m ((c : Thread nD τ).loc main_arg1) (ix2 0 k)) k

/-- One element of the product. -/
def product (c : Dev nD) (i : Fin 17) (r : Fin 1024) (j : Fin 2304) : EReal :=
  ∑ k : Fin 1024, normed m c i r k * weight m c j k

/-- One element of the result. -/
def out (c : Dev nD) (i : Fin 17) (r : Fin 1024) (j : Fin 2304) : EReal :=
  if h : j.val < 2048 then product m c i r j
  else ProjMath.logSigmoid (product m c i r j + bias m c ⟨j.val - 2048, by omega⟩)

/-- The tile of a point. -/
def tile (t : Fin cfg0.N) : Fin 17 := ⟨t.val / 2, by have := lt_points t; omega⟩

/-- The column of the result that column `j` of a point's block is. -/
def col (t : Fin cfg0.N) (j : Fin 1152) : Fin 2304 := ⟨t.val % 2 * 1152 + j.val, by omega⟩

/-- The normalised rows a tile begins with. -/
theorem start_apply (c : Dev nD) (t : Fin cfg0.N) (r k : Fin 1024) :
    k0_pay1 (iblk m c 0 t) (iblk m c 1 t) (ix2 r k) = normed m c (tile t) r k := by
  rw [pay1_apply]
  simp only [read_x, read_gain]
  rfl

/-- The product at a point. -/
theorem product_apply (c : Dev nD) (t : Fin cfg0.N) (x : Vec Ideal S1024x1024 .bf16)
    (hx : ∀ r k, x (ix2 r k) = normed m c (tile t) r k) (r : Fin 1024) (j : Fin 1152) :
    k0_pay2 x (iblk m c 2 t) (ix2 r j) = product m c (tile t) r (col t j) := by
  rw [pay2_apply]
  simp only [hx, read_w]
  rfl

/-- The narrow form of the product. -/
theorem narrow2_apply (x : Vec Ideal S1024x1024 .bf16) (w : Vec Ideal S1024x1152 .bf16) (r : Fin 1024) (j : Fin 1152) :
    k0_pay3 x w (ix2 r j) = k0_pay2 x w (ix2 r j) := by
  unfold k0_pay3
  pointwise

/-- The narrow form of the gate. -/
theorem narrow4_apply (x : Vec Ideal S1024x1024 .bf16) (w : Vec Ideal S1024x1152 .bf16) (b : Vec Ideal S1x256 .f32) (r : Fin 1024) (j : Fin 256) :
    k0_pay5 x w b (ix2 r j) = k0_pay4 x w b (ix2 r j) := by
  unfold k0_pay5
  pointwise

/-- The gate at the second point of a tile. -/
theorem gate_apply (c : Dev nD) (t : Fin cfg0.N) (h1 : t.val % 2 = 1) (x : Vec Ideal S1024x1024 .bf16)
    (hx : ∀ r k, x (ix2 r k) = normed m c (tile t) r k) (r : Fin 1024) (j : Fin 256) (l : Fin 1152) (hl : l.val = 896 + j.val) :
    k0_pay4 x (iblk m c 2 t) (iblk m c 3 t) (ix2 r j) = out m c (tile t) r (col t l) := by
  have e : (⟨896 + j.val, by omega⟩ : Fin 1152) = l := Fin.ext hl.symm
  have hc : ¬(col t l).val < 2048 := by simp only [col]; omega
  have hb : (⟨(col t l).val - 2048, by omega⟩ : Fin 256) = j := Fin.ext (by simp only [col]; omega)
  rw [pay4_apply, out, dif_neg hc, hb, e]
  simp only [hx, read_w, read_b]
  rfl

/-- The normalised rows at the second point of a tile. -/
theorem kept_apply (c : Dev nD) (t : Fin cfg0.N) (h1 : t.val % 2 = 1) (r k : Fin 1024) :
    (outsAt0 m c (t.val - 1) (by omega)).2.2 (ix2 r k) = normed m c (tile t) r k := by
  have et : tile ⟨t.val - 1, by omega⟩ = tile t := Fin.ext (by simp only [tile]; omega)
  have h0 : (⟨t.val - 1, by omega⟩ : Fin cfg0.N).val % 2 = 0 := by simp only; omega
  have e := outsAt0_A m c ⟨t.val - 1, by omega⟩ h0 (by omega)
  refine (congrFun (congrArg (fun p => p.2.2) e) (ix2 r k)).trans ?_
  dsimp only
  frame_out
  rw [← et]
  exact start_apply m c ⟨t.val - 1, by omega⟩ r k

/-- The block a point writes. -/
theorem block_apply (c : Dev nD) (t : Fin cfg0.N) (r : Fin 1024) (j : Fin 1152) :
    (outsAt0 m c t.val t.isLt).1 (ix2 r j) = out m c (tile t) r (col t j) ∧
    (outsAt0 m c t.val t.isLt).2.1 (ix2 r j) = out m c (tile t) r (col t j) := by
  by_cases a0 : t.val % 2 = 0
  · have h1 : ¬t.val % 2 = 1 := by omega
    have hj : (col t j).val < 2048 := by simp only [col]; omega
    rw [outsAt0_A m c t a0 h1, out, dif_pos hj]
    have p := product_apply m c t _ (start_apply m c t) r j
    refine ⟨?_, ?_⟩
    · dsimp only
      frame_out
      exact p
    · dsimp only
      frame_out
      exact (narrow2_apply _ _ r j).trans p
  · have a1 : t.val % 2 = 1 := by omega
    rw [outsAt0_B m c t a0 a1]
    have p := product_apply m c t _ (kept_apply m c t a1) r j
    have q := gate_apply m c t a1 _ (kept_apply m c t a1) r
    have s : j.val < 896 → out m c (tile t) r (col t j) = product m c (tile t) r (col t j) := fun l => by
      rw [out, dif_pos (by simp only [col]; omega)]
    refine ⟨?_, ?_⟩
    · dsimp only
      frame_out
      rw [read_unread_whole]
      by_cases l : j.val < 896
      · rw [View.canon_cons_of_not_mem _ _ (by
          intro z
          have z1 := ((Rect.mem_set_unit (inb := inb_S1024x1152_S1024x256_0_896)).mp z 1).1
          simp at z1
          omega)]
        refine (congrFun (View.canon_cons_unit_lit _ _ _ (by decide)) (ix2 r j)).trans ?_
        exact (rfl).trans (p.trans (s l).symm)
      · have e : ix2 r j = (Rect.unit ![0, 896] ![1024, 256] inb_S1024x1152_S1024x256_0_896).emb
            (ix2 r (⟨j.val - 896, by omega⟩ : Fin 256)) := by
          blk_ext
        refine (congrArg _ e).trans ((View.canon_cons_emb _ _ _ _).trans ?_)
        exact (rfl).trans (q ⟨j.val - 896, by omega⟩ j (by simp only; omega))
    · dsimp only
      frame_out
      rw [read_unread_whole]
      by_cases l : j.val < 896
      · rw [View.canon_cons_of_not_mem _ _ (by
          intro z
          have z1 := ((Rect.mem_set_unit (inb := inb_S1024x1152_S1024x256_0_896)).mp z 1).1
          simp at z1
          omega)]
        refine (congrFun (View.canon_cons_unit_lit _ _ _ (by decide)) (ix2 r j)).trans ?_
        exact (narrow2_apply _ _ r j).trans (p.trans (s l).symm)
      · have e : ix2 r j = (Rect.unit ![0, 896] ![1024, 256] inb_S1024x1152_S1024x256_0_896).emb
            (ix2 r (⟨j.val - 896, by omega⟩ : Fin 256)) := by
          blk_ext
        refine (congrArg _ e).trans ((View.canon_cons_emb _ _ _ _).trans ?_)
        exact (narrow4_apply _ _ _ r _).trans (q ⟨j.val - 896, by omega⟩ j (by simp only; omega))

/-- The kernel's element is the reference's. -/
theorem out_eq (c : Dev nD) (i : Fin 17) (r : Fin 1024) (j : Fin 2304) :
    out m c i r j = Cert.PabRefIdeal.Read.val_main_v25 (F := Ideal) (m ((c : Thread nD τ).loc main_arg0))
      (m ((c : Thread nD τ).loc main_arg1)) (m ((c : Thread nD τ).loc main_arg2)) (m ((c : Thread nD τ).loc main_arg3))
      (ix2 (⟨i.val * 1024 + r.val, by omega⟩ : Fin 17408) j) := by
  refine Eq.trans ?_ (PabRefIdeal.Att.result_apply _ _ _ _ _ _).symm
  unfold out
  by_cases h : j.val < 2048
  · rw [dif_pos h, dif_pos h]
    unfold product weight
    simp only [dif_pos (show j.val < 2056 by omega)]
    rfl
  · rw [dif_neg h, dif_neg h]
    refine congrArg ProjMath.logSigmoid (Eq.trans ?_ (PabRefIdeal.Att.gate_apply _ _ _ _ _ _).symm)
    unfold product weight bias
    by_cases l : j.val < 2056
    · have e : (⟨2048 + (j.val - 2048), by omega⟩ : Fin 2056) = ⟨j.val, l⟩ := Fin.ext (by simp only; omega)
      simp only [dif_pos l, dif_pos (show j.val - 2048 < 8 by omega), e]
      rfl
    · simp only [dif_neg l, dif_neg (show ¬j.val - 2048 < 8 by omega), mul_zero, Finset.sum_const_zero, add_zero]

set_option maxHeartbeats 1600000 in
/-- The wide result after the run. -/
theorem final4 (c : Dev nD) :
    (dats m 0 c).arrAt 4 cfg0.N
      = Cert.PabRefIdeal.Read.val_main_v25 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht := lt_points t
  blk_simp
  rw [after0_4]
  idx_vars y
  have e : ((View.whole main_v10_0).slice (win0_4.rect t)).emb (ix2 y0 y1)
      = ix2 (⟨(tile t).val * 1024 + y0.val, by omega⟩ : Fin 17408) (col t y1) := by
    blk_ext [idx t, tile, col]
  rw [e]
  exact (block_apply m c t y0 y1).1.trans (out_eq m c _ _ _)

set_option maxHeartbeats 1600000 in
/-- The narrow result after the run. -/
theorem final5 (c : Dev nD) :
    (dats m 0 c).arrAt 5 cfg0.N
      = Cert.PabRefIdeal.Read.val_main_v26 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht := lt_points t
  blk_simp
  rw [after0_5]
  idx_vars y
  have e : ((View.whole main_v10_1).slice (win0_5.rect t)).emb (ix2 y0 y1)
      = ix2 (⟨(tile t).val * 1024 + y0.val, by omega⟩ : Fin 17408) (col t y1) := by
    blk_ext [idx t, tile, col]
  rw [e]
  exact ((block_apply m c t y0 y1).2.trans (out_eq m c _ _ _)).trans (PabRefIdeal.Att.narrow_apply _ _ _ _ _ _).symm

end Cert.PabIdeal.Att

end
-- ==== Proof.PabClaim.lean ====
/- The first input projection's claims, each as the generated statement has it. -/
module

public import proofs.«01_k».proof.Defs
public import proofs.«01_k».proof.Proof.PabValue
public import proofs.«01_k».proof.Proof.Gen.PabRefIdeal.Run
public import proofs.«01_k».proof.Proof.Gen.Pab.Frame
public import Idealize.ShloMosaic.Lib.Claim

@[expose] public section

set_option maxRecDepth 16384

noncomputable section

namespace Cert.PabClaim

open Idealize.ShloMosaic Idealize.SL.Sem

/-- The reference runs and leaves its arguments. -/
theorem reference_frame : @Cert.quiescent_PabRefIdeal Cert.PabRefIdeal.Gen.facts := by
  intro m g _
  exact (θ_run _ _ _).mono (fun r h => ⟨fun c => (h c).2.2, sem_eq_zero_of_no_sems rfl r.2⟩) (Cert.PabRefIdeal.Value.run m g)

set_option maxHeartbeats 1600000 in
/-- The idealized kernel and the reference leave the same two arrays. -/
theorem algebraic : @Cert.algebraic_PabIdeal_PabRefIdeal Cert.PabIdeal.Gen.facts Cert.PabRefIdeal.Gen.facts := by
  intro m g m' g' _ hagree
  refine ⟨fun c => (Cert.PabIdeal.Gen.dats m 0 c).arrAt 4 Cert.PabIdeal.cfg0.N,
    fun c => (Cert.PabIdeal.Gen.dats m 0 c).arrAt 5 Cert.PabIdeal.cfg0.N, ?_, ?_⟩
  · run_from Cert.PabIdeal.Value.run_blocks m g
  · run_from Cert.PabRefIdeal.Value.run m' g'
    · obtain ⟨a0, a1, a2, a3⟩ := hagree c
      refine (Cert.PabRefIdeal.Read.val_main_v25_eq m' c).trans ?_
      rw [a0, a1, a2, a3]
      exact (Cert.PabIdeal.Att.final4 m c).symm
    · obtain ⟨a0, a1, a2, a3⟩ := hagree c
      refine (Cert.PabRefIdeal.Read.val_main_v26_eq m' c).trans ?_
      rw [a0, a1, a2, a3]
      exact (Cert.PabIdeal.Att.final5 m c).symm

end Cert.PabClaim

end
-- ==== Proof.PcdKernel.lean ====
/- What the second layer's input projection computes at one grid point, read at one element. -/
module

public import proofs.«01_k».proof.Proof.Gen.PcdIdeal.Frame
public import proofs.«01_k».proof.Proof.ProjMath
public import Idealize.ShloMosaic.Lib.Pipeline.ValueKit
public import Idealize.ShloMosaic.Lib.Pointwise
public import Idealize.ShloMosaic.Lib.Claim
public import Idealize.ShloMosaic.Lib.Routing.OpsSet

@[expose] public section

set_option maxRecDepth 16384

noncomputable section

namespace Cert.PcdIdeal.Att

open Idealize.ShloMosaic Idealize.ShloMosaic.TcCoe Idealize.SL.Sem
open Cert.PcdIdeal Cert.PcdIdeal.Gen

/-- The normalised rows kept for the second column block. -/
theorem pay1_apply (x : Vec Ideal S1024x1024 .f32) (g : Vec Ideal S1x1x1024 .f32) (r k : Fin 1024) :
    k0_pay1 x g (ix2 r k) = FfnMath.norm (fun k => x (ix2 r k)) (fun k => g (ix3 0 0 k)) k := by
  unfold k0_pay1
  pointwise
  rfl

/-- The product. -/
theorem pay2_apply (x : Vec Ideal S1024x1024 .bf16) (w : Vec Ideal S1024x1664 .bf16) (r : Fin 1024) (j : Fin 1664) :
    k0_pay2 x w (ix2 r j) = ∑ k : Fin 1024, x (ix2 r k) * w (ix2 k j) := by
  unfold k0_pay2
  pointwise

/-- The last columns of the product, with the bias and the gate's function. -/
theorem pay4_apply (x : Vec Ideal S1024x1024 .bf16) (w : Vec Ideal S1024x1664 .bf16) (b : Vec Ideal S1x256 .f32) (r : Fin 1024) (j : Fin 256) :
    k0_pay4 x w b (ix2 r j)
      = ProjMath.softplus ((∑ k : Fin 1024, x (ix2 r k) * w (ix2 k (⟨1408 + j.val, by omega⟩ : Fin 1664))) + b (ix2 0 j)) := by
  unfold k0_pay4 k0_pay2
  pointwise
  simp only [ProjMath.softplus, zero_sub]

/-- The padded weights. -/
theorem pad_apply (x : FVec Ideal S1024x3080 .f32) (v : FVec Ideal S_ .f32) (k : Fin 1024) (j : Fin 3328) :
    pad S1024x3328 ![0, 0] ![0, 248] ![0, 0] x v pads_S1024x3080_S1024x3328_000_02480 h_S_ (ix2 k j) =
      if h : j.val < 3080 then x (ix2 k ⟨j.val, h⟩) else v ix0 := by
  by_cases h : j.val < 3080
  · rw [dif_pos h]
    pointwise
    rw [dif_pos h]
  · rw [dif_neg h]
    pointwise
    rw [dif_neg h]
    exact congrArg v (funext fun i => i.elim0)

/-- The weights without their leading axis. -/
theorem cast_apply (x : FVec Ideal S1x1024x3080 .f32) (k : Fin 1024) (j : Fin 3080) :
    shapeCast S1024x3080 x shapeCasts_S1x1024x3080_S1024x3080 (ix2 k j) = x (ix3 0 k j) := by
  pointwise

/-- The weights' columns in the order the program keeps. -/
theorem cat_apply (x : FVec Ideal S1024x3080 .f32) (k : Fin 1024) (j : Fin 3080) :
    concatenate S1024x3080 1 [⟨S1024x1024, extractStridedSlice S1024x1024 ![0, 512] x slices_S1024x3080_S1024x1024_0_512⟩,
      ⟨S1024x512, extractStridedSlice S1024x512 ![0, 0] x slices_S1024x3080_S1024x512_0_0⟩,
      ⟨S1024x1536, extractStridedSlice S1024x1536 ![0, 1544] x slices_S1024x3080_S1024x1536_0_1544⟩,
      ⟨S1024x8, extractStridedSlice S1024x8 ![0, 1536] x slices_S1024x3080_S1024x8_0_1536⟩]
      concatenates_S1024x1024_S1024x512_S1024x1536_S1024x8_S1024x3080_d1 (ix2 k j) = x (ix2 k (ProjMath.perm j)) := by
  pointwise
  by_cases a : j.val < 1024
  · simp only [dif_pos a, ProjMath.perm]
  by_cases b : j.val < 1536
  · simp only [dif_neg a, dif_pos (show j.val - 1024 < 512 by omega), ProjMath.perm, dif_pos b]
  by_cases d : j.val < 3072
  · simp only [dif_neg a, dif_neg (show ¬j.val - 1024 < 512 by omega), dif_pos (show j.val - 1024 - 512 < 1536 by omega),
      ProjMath.perm, dif_neg b, dif_pos d]
    exact congrArg (fun l => x (ix2 k l)) (Fin.ext (by simp only; omega))
  · simp only [dif_neg a, dif_neg (show ¬j.val - 1024 < 512 by omega), dif_neg (show ¬j.val - 1024 - 512 < 1536 by omega),
      ProjMath.perm, dif_neg b, dif_neg d]
    exact congrArg (fun l => x (ix2 k l)) (Fin.ext (by simp only; omega))

/-- The padding is zero. -/
theorem zero_apply : sitofp (F := Ideal) (s := S_) .f32 (constantI S_ 32 0#32) ix0 = 0 := by
  pointwise
  simp [FloatOps.sitofp]

/-- Where an update of the bias row lands. -/
theorem lands : ∀ k : Fin 8, scatter_S1x256_S2_S8_0_0_01_0.resultIdx? (w := 32) (ix1 k) (fun _ => 0#32) = some (ix2 0 ⟨k.val, by omega⟩) := by
  decide +kernel

/-- The bias row with the update written at its start. -/
theorem scatter_apply (x : FVec Ideal S1x256 .f32) (i : IVec S2 32) (hi : i = fun _ => 0#32) (u : FVec Ideal S8 .f32) (j : Fin 256) :
    Host.scatter scatter_S1x256_S2_S8_0_0_01_0 (fun _ b => b) x i u (ix2 0 j) =
      if h : j.val < 8 then u (ix1 ⟨j.val, h⟩) else x (ix2 0 j) := by
  subst hi
  by_cases h : j.val < 8
  · rw [dif_pos h]
    refine Routing.scatter_set_hit _ x _ u _ _ (fun k hk => ?_) (ix1 ⟨j.val, h⟩) (lands ⟨j.val, h⟩)
    idx_vars k
    rw [lands k0] at hk
    have e := congrFun (Option.some.inj hk) 1
    have e' : k0.val = j.val := congrArg Fin.val e
    congr 2
    exact Fin.ext e'
  · rw [dif_neg h]
    refine Routing.scatter_set_miss _ x _ u _ (fun k hk => ?_)
    idx_vars k
    rw [lands k0] at hk
    have e := congrFun (Option.some.inj hk) 1
    have e' : k0.val = j.val := congrArg Fin.val e
    have := k0.isLt
    omega

/-- The bias without its leading axis. -/
theorem cast_bias (x : FVec Ideal S1x8 .f32) (j : Fin 8) :
    shapeCast S8 x shapeCasts_S1x8_S8 (ix1 j) = x (ix2 0 j) := by
  pointwise

/-- The row the bias is written into. -/
theorem zeros_apply (j : Fin 256) :
    broadcastInDim S1x256 ![] bcast_S_S1x256 (constant (F := Ideal) S_ .f32 0x00000000#32) (ix2 0 j) = (0 : EReal) := by
  pointwise

variable (m : (ℓ : Loc nD τ sig) → Buf (Elt Ideal) ℓ)

/-- Which block of its array each window holds at a point. -/
theorem idx : ∀ t : Fin cfg0.N,
    win0_0.index t = ![t.val / 2, 0] ∧ win0_1.index t = ![1, 0, 0] ∧
    win0_2.index t = ![0, t.val % 2] ∧ win0_3.index t = ![0, 0] ∧
    win0_4.index t = ![t.val / 2, t.val % 2] ∧ win0_5.index t = ![t.val / 2, t.val % 2] :=
  (by decide +kernel : ∀ t : Fin grid0.N, _)

/-- There are 34 points. -/
theorem lt_points (t : Fin cfg0.N) : t.val < 34 := t.isLt

/-- One padded weight. -/
def weight (c : Dev nD) (j : Fin 3328) (k : Fin 1024) : EReal :=
  if h : j.val < 3080 then m ((c : Thread nD τ).loc main_arg2) (ix3 0 k (ProjMath.perm ⟨j.val, h⟩)) else 0

/-- One padded bias. -/
def bias (c : Dev nD) (j : Fin 256) : EReal :=
  if h : j.val < 8 then m ((c : Thread nD τ).loc main_arg3) (ix2 0 ⟨j.val, h⟩) else 0

/-- The first stretch leaves the weights reordered. -/
theorem first_eq (σ : Valuation τ sig (Elt Ideal)) :
    (StableHlo.after (hostOps0 (F := Ideal)) σ (Proc.tc.devRef main_v5) : FVec Ideal S1024x3080 .f32) =
      concatenate S1024x3080 1 [⟨S1024x1024, extractStridedSlice S1024x1024 ![0, 512] (shapeCast S1024x3080 (σ (Proc.tc.devRef main_arg2) : FVec Ideal S1x1024x3080 .f32) shapeCasts_S1x1024x3080_S1024x3080) slices_S1024x3080_S1024x1024_0_512⟩,
      ⟨S1024x512, extractStridedSlice S1024x512 ![0, 0] (shapeCast S1024x3080 (σ (Proc.tc.devRef main_arg2) : FVec Ideal S1x1024x3080 .f32) shapeCasts_S1x1024x3080_S1024x3080) slices_S1024x3080_S1024x512_0_0⟩,
      ⟨S1024x1536, extractStridedSlice S1024x1536 ![0, 1544] (shapeCast S1024x3080 (σ (Proc.tc.devRef main_arg2) : FVec Ideal S1x1024x3080 .f32) shapeCasts_S1x1024x3080_S1024x3080) slices_S1024x3080_S1024x1536_0_1544⟩,
      ⟨S1024x8, extractStridedSlice S1024x8 ![0, 1536] (shapeCast S1024x3080 (σ (Proc.tc.devRef main_arg2) : FVec Ideal S1x1024x3080 .f32) shapeCasts_S1x1024x3080_S1024x3080) slices_S1024x3080_S1024x8_0_1536⟩]
      concatenates_S1024x1024_S1024x512_S1024x1536_S1024x8_S1024x3080_d1 := by
  after_results
  rfl

/-- The padding's integer. -/
theorem first_c (σ : Valuation τ sig (Elt Ideal)) :
    (StableHlo.after (hostOps0 (F := Ideal)) σ (Proc.tc.devRef main_c) : IVec S_ 32) = constantI S_ 32 0#32 := by
  after_results

/-- The second stretch pads the weights. -/
theorem second_eq (σ : Valuation τ sig (Elt Ideal)) :
    (StableHlo.after (hostOps0_1 (F := Ideal)) σ (Proc.tc.devRef main_v6) : FVec Ideal S1024x3328 .f32) =
      pad S1024x3328 ![0, 0] ![0, 248] ![0, 0] (σ (Proc.tc.devRef main_v5) : FVec Ideal S1024x3080 .f32)
        (sitofp (F := Ideal) .f32 (σ (Proc.tc.devRef main_c) : IVec S_ 32)) pads_S1024x3080_S1024x3328_000_02480 h_S_ := by
  after_results
  rfl

/-- The third stretch narrows them. -/
theorem third_eq (σ : Valuation τ sig (Elt Ideal)) (k : Fin 1024) (j : Fin 3328) :
    (StableHlo.after (hostOps0_2 (F := Ideal)) σ (Proc.tc.devRef main_v7) : FVec Ideal S1024x3328 .bf16) (ix2 k j) =
      (σ (Proc.tc.devRef main_v6) : FVec Ideal S1024x3328 .f32) (ix2 k j) := by
  after_results
  rfl

/-- The padded weights the run begins with. -/
theorem weights_eq (c : Dev nD) (k : Fin 1024) (j : Fin 3328) :
    (V m c main_v7 : FVec Ideal S1024x3328 .bf16) (ix2 k j) = weight m c j k := by
  unfold V
  rw [List.flatten_cons, List.flatten_cons, List.flatten_cons, List.flatten_nil, List.append_nil, StableHlo.after_append, StableHlo.after_append]
  rw [third_eq, second_eq, first_eq, first_c]
  refine (pad_apply _ (sitofp (F := Ideal) .f32 (constantI S_ 32 0#32)) k j).trans ?_
  unfold weight
  split
  · exact (cat_apply (shapeCast S1024x3080 (m ((c : Thread nD τ).loc main_arg2) : FVec Ideal S1x1024x3080 .f32)
      shapeCasts_S1x1024x3080_S1024x3080) k _).trans (cast_apply _ _ _)
  · exact zero_apply

/-- The padded bias the run begins with. -/
theorem bias_eq (c : Dev nD) (j : Fin 256) :
    (V m c main_v13 : FVec Ideal S1x256 .f32) (ix2 0 j) = bias m c j := by
  unfold V
  rw [List.flatten_cons, List.flatten_cons, List.flatten_cons, List.flatten_nil, List.append_nil, StableHlo.after_append, StableHlo.after_append]
  entry_read
  refine (scatter_apply _ _ (funext fun i => ?_) _ j).trans ?_
  · idx_vars i
    fin_cases i0 <;> rfl
  unfold bias
  split
  · exact cast_bias _ _
  · exact zeros_apply _

/-- The gain the run begins with. -/
theorem gain_eq (c : Dev nD) (i : Fin 2) (k : Fin 1024) :
    (V m c main_v14 : FVec Ideal S2x1x1024 .f32) (ix3 i 0 k) = m ((c : Thread nD τ).loc main_arg1) (ix2 i k) := by
  unfold V
  rw [List.flatten_cons, List.flatten_cons, List.flatten_cons, List.flatten_nil, List.append_nil, StableHlo.after_append, StableHlo.after_append]
  entry_read
  pointwise

/-- The rows of a point. -/
theorem read_x (c : Dev nD) (t : Fin cfg0.N) (r k : Fin 1024) :
    iblk m c 0 t (ix2 r k) = m ((c : Thread nD τ).loc main_arg0)
      (ix2 (⟨t.val / 2 * 1024 + r.val, by have := lt_points t; omega⟩ : Fin 17408) k) := by
  have := lt_points t
  refine Eq.trans ?_ (congrFun (V_main_arg0 m c) _)
  blk_ext [iblk, idx t]

/-- The gain of a point. -/
theorem read_gain (c : Dev nD) (t : Fin cfg0.N) (k : Fin 1024) :
    iblk m c 1 t (ix3 0 0 k) = m ((c : Thread nD τ).loc main_arg1) (ix2 1 k) := by
  have := lt_points t
  refine Eq.trans ?_ (gain_eq m c 1 k)
  blk_ext [iblk, idx t]

/-- The weights of a point. -/
theorem read_w (c : Dev nD) (t : Fin cfg0.N) (k : Fin 1024) (j : Fin 1664) :
    iblk m c 2 t (ix2 k j) = weight m c ⟨t.val % 2 * 1664 + j.val, by omega⟩ k := by
  have := lt_points t
  refine Eq.trans ?_ (weights_eq m c k _)
  blk_ext [iblk, idx t]

/-- The bias of a point. -/
theorem read_b (c : Dev nD) (t : Fin cfg0.N) (j : Fin 256) :
    iblk m c 3 t (ix2 0 j) = bias m c j := by
  have := lt_points t
  refine Eq.trans ?_ (bias_eq m c j)
  blk_ext [iblk, idx t]

end Cert.PcdIdeal.Att

end
-- ==== Proof.PcdRef.lean ====
/- The second layer's projection reference read at one element of its result. -/
module

public import proofs.«01_k».proof.Proof.Gen.PcdRefIdeal.Read
public import proofs.«01_k».proof.Proof.ProjMath
public import Idealize.ShloMosaic.Lib.Pipeline.ValueKit
public import Idealize.ShloMosaic.Lib.Pointwise

@[expose] public section

set_option maxRecDepth 16384

noncomputable section

namespace Cert.PcdRefIdeal.Att

open Idealize.ShloMosaic Idealize.ShloMosaic.TcCoe Idealize.SL.Sem
open Cert.PcdRefIdeal Cert.PcdRefIdeal.Read Cert.PcdRefIdeal.Gen

/-- The rows normalised. -/
theorem gen14 (X : FVec Ideal S17408x1024 .f32) (G : FVec Ideal S1024 .f32) (r : Fin 17408) (k : Fin 1024) :
    mulf (mulf X (broadcastInDim S17408x1024 ![0, 1] bcast_S17408x1_S17408x1024_0_1 (Host.rsqrt (addf (Host.divf
      (broadcastInDim S17408x1 ![0] bcast_S17408_S17408x1_0 (Host.reduceAdd (mulf X X) (val_main_cst (F := Ideal))
        reducesTo_S17408x1024_S17408_d1 h_S_)) (val_main_v5 (F := Ideal))) (val_main_v7 (F := Ideal))))))
      (broadcastInDim S17408x1024 ![0, 1] bcast_S1x1024_S17408x1024_0_1 (broadcastInDim S1x1024 ![1] bcast_S1024_S1x1024_1 G))
      (ix2 r k) = FfnMath.norm (fun k => X (ix2 r k)) (fun k => G (ix1 k)) k := by
  pointwise [val_main_cst, val_main_v5, val_main_v7, val_main_cst_0, val_main_cst_1]
  rfl

/-- The gain is the second row of its array. -/
theorem gen1 (G : FVec Ideal S2x1024 .f32) (k : Fin 1024) :
    val_main_v1 (F := Ideal) G (ix1 k) = G (ix2 1 k) := by
  pointwise [val_main_v1, val_main_v0]

/-- The product of normalised rows with the weights. -/
theorem gen16 (X : FVec Ideal S17408x1024 .f32) (W : FVec Ideal S1x1024x3080 .f32) (r : Fin 17408) (j : Fin 3080) :
    Host.dotGeneral (F := Ideal) (φ₁ := .f32) (φ₂ := .f32) dot_S17408x1024_S1024x3080_S17408x3080_1_0_0_1_n_n none X (val_main_v15 (F := Ideal) W) (ix2 r j)
      = ∑ k : Fin 1024, X (ix2 r k) * W (ix3 0 k j) := by
  pointwise [val_main_v15]

/-- The gate's columns with the bias. -/
theorem gen21 (A : FVec Ideal S17408x3080 .f32) (B : FVec Ideal S1x8 .f32) (r : Fin 17408) (j : Fin 8) :
    addf (extractStridedSlice S17408x8 ![0, 1536] A slices_S17408x3080_S17408x8_0_1536) (val_main_v23 (F := Ideal) B) (ix2 r j)
      = A (ix2 r (⟨1536 + j.val, by omega⟩ : Fin 3080)) + B (ix2 0 j) := by
  pointwise [val_main_v23, val_main_v22, val_main_v21]

/-- The gate's columns padded with zeros. -/
theorem gen22 (D : FVec Ideal S17408x8 .f32) (r : Fin 17408) (j : Fin 256) :
    pad S17408x256 ![0, 0] ![0, 248] ![0, 0] D (val_main_call0_v0 (F := Ideal)) pads_S17408x8_S17408x256_000_02480 h_S_ (ix2 r j)
      = if h : j.val < 8 then D (ix2 r ⟨j.val, h⟩) else (0 : EReal) := by
  by_cases h : j.val < 8
  · rw [dif_pos h]
    pointwise
    rw [dif_pos h]
  · rw [dif_neg h]
    pointwise
    rw [dif_neg h]
    simp [val_main_call0_v0, val_main_c, sitofp, constantI, FloatOps.sitofp]

/-- The gate's function. -/
theorem gen26 (D : FVec Ideal S17408x256 .f32) (r : Fin 17408) (j : Fin 256) :
    select (cmpf .une (subf D (val_main_call1_v2 (F := Ideal))) (subf D (val_main_call1_v2 (F := Ideal))))
      (addf D (val_main_call1_v5 (F := Ideal)))
      (addf (maximumf D (val_main_call1_v0 (F := Ideal)))
        (Host.log1p (Host.exp (Host.negf (Host.absf (subf D (val_main_call1_v2 (F := Ideal)))))))) (ix2 r j)
      = ProjMath.softplus (D (ix2 r j)) := by
  pointwise [val_main_call1_v2, val_main_call1_v5, val_main_call1_v0, val_main_call1_cst]
  rw [if_neg (fun h => h rfl)]
  rfl

/-- The four parts side by side. -/
theorem gen27 (A : FVec Ideal S17408x3080 .f32) (D : FVec Ideal S17408x256 .f32) (r : Fin 17408) (j : Fin 3328) :
    concatenate S17408x3328 1 [⟨S17408x1024, extractStridedSlice S17408x1024 ![0, 512] A slices_S17408x3080_S17408x1024_0_512⟩,
      ⟨S17408x512, extractStridedSlice S17408x512 ![0, 0] A slices_S17408x3080_S17408x512_0_0⟩,
      ⟨S17408x1536, extractStridedSlice S17408x1536 ![0, 1544] A slices_S17408x3080_S17408x1536_0_1544⟩, ⟨S17408x256, D⟩]
      concatenates_S17408x1024_S17408x512_S17408x1536_S17408x256_S17408x3328_d1 (ix2 r j)
      = if h : j.val < 3072 then A (ix2 r (ProjMath.perm ⟨j.val, by omega⟩)) else D (ix2 r (⟨j.val - 3072, by omega⟩ : Fin 256)) := by
  pointwise
  by_cases a : j.val < 1024
  · simp only [dif_pos a, ProjMath.perm, dif_pos (show j.val < 3072 by omega)]
  by_cases b : j.val < 1536
  · simp only [dif_neg a, dif_pos (show j.val - 1024 < 512 by omega), ProjMath.perm, dif_pos b, dif_pos (show j.val < 3072 by omega)]
  by_cases d : j.val < 3072
  · simp only [dif_neg a, dif_neg (show ¬j.val - 1024 < 512 by omega), dif_pos (show j.val - 1024 - 512 < 1536 by omega),
      ProjMath.perm, dif_neg b, dif_pos d]
    exact congrArg (fun l => A (ix2 r l)) (Fin.ext (by simp only; omega))
  · simp only [dif_neg a, dif_neg (show ¬j.val - 1024 < 512 by omega), dif_neg (show ¬j.val - 1024 - 512 < 1536 by omega), dif_neg d]
    exact congrArg (fun l => D (ix2 r l)) (Fin.ext (by simp only; omega))

section

variable (x0 : FVec Ideal S17408x1024 .f32) (x1 : FVec Ideal S2x1024 .f32) (x2 : FVec Ideal S1x1024x3080 .f32)
  (x3 : FVec Ideal S1x8 .f32)

/-- A row normalised. -/
theorem normed_apply (r : Fin 17408) (k : Fin 1024) :
    val_main_v14 (F := Ideal) x0 x1 (ix2 r k) = FfnMath.norm (fun k => x0 (ix2 r k)) (fun k => x1 (ix2 1 k)) k := by
  refine (gen14 x0 (val_main_v1 (F := Ideal) x1) r k).trans ?_
  simp only [gen1]

/-- One element of the product. -/
theorem product_apply (r : Fin 17408) (j : Fin 3080) :
    val_main_v16 (F := Ideal) x0 x1 x2 (ix2 r j)
      = ∑ k : Fin 1024, FfnMath.norm (fun k => x0 (ix2 r k)) (fun k => x1 (ix2 1 k)) k * x2 (ix3 0 k j) := by
  refine (gen16 (val_main_v14 (F := Ideal) x0 x1) x2 r j).trans ?_
  simp only [normed_apply]

/-- One element of the gate before its function. -/
theorem gate_apply (r : Fin 17408) (j : Fin 256) :
    val_main_v25 (F := Ideal) x0 x1 x2 x3 (ix2 r j)
      = if h : j.val < 8 then (∑ k : Fin 1024, FfnMath.norm (fun k => x0 (ix2 r k)) (fun k => x1 (ix2 1 k)) k
          * x2 (ix3 0 k (⟨1536 + j.val, by omega⟩ : Fin 3080))) + x3 (ix2 0 ⟨j.val, h⟩) else (0 : EReal) := by
  refine (gen22 (val_main_v24 (F := Ideal) x0 x1 x2 x3) r j).trans ?_
  split
  · next h =>
    refine (gen21 (val_main_v16 (F := Ideal) x0 x1 x2) x3 r ⟨j.val, h⟩).trans ?_
    exact congrArg (· + x3 (ix2 0 ⟨j.val, h⟩)) (product_apply x0 x1 x2 r _)
  · rfl

/-- One element of the result. -/
theorem result_apply (r : Fin 17408) (j : Fin 3328) :
    val_main_v27 (F := Ideal) x0 x1 x2 x3 (ix2 r j)
      = if h : j.val < 3072 then ∑ k : Fin 1024, FfnMath.norm (fun k => x0 (ix2 r k)) (fun k => x1 (ix2 1 k)) k
            * x2 (ix3 0 k (ProjMath.perm ⟨j.val, by omega⟩))
        else ProjMath.softplus (val_main_v25 (F := Ideal) x0 x1 x2 x3 (ix2 r (⟨j.val - 3072, by omega⟩ : Fin 256))) := by
  refine (gen27 (val_main_v16 (F := Ideal) x0 x1 x2) (val_main_v26 (F := Ideal) x0 x1 x2 x3) r j).trans ?_
  split
  · exact product_apply x0 x1 x2 r _
  · exact gen26 (val_main_v25 (F := Ideal) x0 x1 x2 x3) r _

/-- The narrow result holds the same numbers. -/
theorem narrow_apply (r : Fin 17408) (j : Fin 3328) :
    val_main_v28 (F := Ideal) x0 x1 x2 x3 (ix2 r j) = val_main_v27 (F := Ideal) x0 x1 x2 x3 (ix2 r j) := rfl

end

end Cert.PcdRefIdeal.Att

end
-- ==== Proof.PcdValue.lean ====
/- The second layer's input projection: the blocks it writes, and the arrays it leaves. -/
module

public import proofs.«01_k».proof.Proof.Gen.PcdIdeal.Value
public import proofs.«01_k».proof.Proof.PcdKernel
public import proofs.«01_k».proof.Proof.PcdRef
public import Idealize.ShloMosaic.Lib.Pipeline.ReadBack

@[expose] public section

set_option maxRecDepth 16384

noncomputable section

namespace Cert.PcdIdeal.Att

open Idealize.ShloMosaic Idealize.ShloMosaic.TcCoe Idealize.SL.Sem
open Cert.PcdIdeal Cert.PcdIdeal.Gen

variable (m : (ℓ : Loc nD τ sig) → Buf (Elt Ideal) ℓ)

/-- A row of the tile `i`, normalised. -/
def normed (c : Dev nD) (i : Fin 17) (r k : Fin 1024) : EReal :=
  FfnMath.norm (fun k => m ((c : Thread nD τ).loc main_arg0) (ix2 (⟨i.val * 1024 + r.val, by omega⟩ : Fin 17408) k))
    (fun k => m ((c : Thread nD τ).loc main_arg1) (ix2 1 k)) k

/-- One element of the product. -/
def product (c : Dev nD) (i : Fin 17) (r : Fin 1024) (j : Fin 3328) : EReal :=
  ∑ k : Fin 1024, normed m c i r k * weight m c j k

/-- One element of the result. -/
def out (c : Dev nD) (i : Fin 17) (r : Fin 1024) (j : Fin 3328) : EReal :=
  if h : j.val < 3072 then product m c i r j
  else ProjMath.softplus (product m c i r j + bias m c ⟨j.val - 3072, by omega⟩)

/-- The tile of a point. -/
def tile (t : Fin cfg0.N) : Fin 17 := ⟨t.val / 2, by have := lt_points t; omega⟩

/-- The column of the result that column `j` of a point's block is. -/
def col (t : Fin cfg0.N) (j : Fin 1664) : Fin 3328 := ⟨t.val % 2 * 1664 + j.val, by omega⟩

/-- The normalised rows a tile begins with. -/
theorem start_apply (c : Dev nD) (t : Fin cfg0.N) (r k : Fin 1024) :
    k0_pay1 (iblk m c 0 t) (iblk m c 1 t) (ix2 r k) = normed m c (tile t) r k := by
  rw [pay1_apply]
  simp only [read_x, read_gain]
  rfl

/-- The product at a point. -/
theorem product_apply (c : Dev nD) (t : Fin cfg0.N) (x : Vec Ideal S1024x1024 .bf16)
    (hx : ∀ r k, x (ix2 r k) = normed m c (tile t) r k) (r : Fin 1024) (j : Fin 1664) :
    k0_pay2 x (iblk m c 2 t) (ix2 r j) = product m c (tile t) r (col t j) := by
  rw [pay2_apply]
  simp only [hx, read_w]
  rfl

/-- The narrow form of the product. -/
theorem narrow2_apply (x : Vec Ideal S1024x1024 .bf16) (w : Vec Ideal S1024x1664 .bf16) (r : Fin 1024) (j : Fin 1664) :
    k0_pay3 x w (ix2 r j) = k0_pay2 x w (ix2 r j) := by
  unfold k0_pay3
  pointwise

/-- The narrow form of the gate. -/
theorem narrow4_apply (x : Vec Ideal S1024x1024 .bf16) (w : Vec Ideal S1024x1664 .bf16) (b : Vec Ideal S1x256 .f32) (r : Fin 1024) (j : Fin 256) :
    k0_pay5 x w b (ix2 r j) = k0_pay4 x w b (ix2 r j) := by
  unfold k0_pay5
  pointwise

/-- The gate at the second point of a tile. -/
theorem gate_apply (c : Dev nD) (t : Fin cfg0.N) (h1 : t.val % 2 = 1) (x : Vec Ideal S1024x1024 .bf16)
    (hx : ∀ r k, x (ix2 r k) = normed m c (tile t) r k) (r : Fin 1024) (j : Fin 256) (l : Fin 1664) (hl : l.val = 1408 + j.val) :
    k0_pay4 x (iblk m c 2 t) (iblk m c 3 t) (ix2 r j) = out m c (tile t) r (col t l) := by
  have e : (⟨1408 + j.val, by omega⟩ : Fin 1664) = l := Fin.ext hl.symm
  have hc : ¬(col t l).val < 3072 := by simp only [col]; omega
  have hb : (⟨(col t l).val - 3072, by omega⟩ : Fin 256) = j := Fin.ext (by simp only [col]; omega)
  rw [pay4_apply, out, dif_neg hc, hb, e]
  simp only [hx, read_w, read_b]
  rfl

/-- The normalised rows at the second point of a tile. -/
theorem kept_apply (c : Dev nD) (t : Fin cfg0.N) (h1 : t.val % 2 = 1) (r k : Fin 1024) :
    (outsAt0 m c (t.val - 1) (by omega)).2.2 (ix2 r k) = normed m c (tile t) r k := by
  have et : tile ⟨t.val - 1, by omega⟩ = tile t := Fin.ext (by simp only [tile]; omega)
  have h0 : (⟨t.val - 1, by omega⟩ : Fin cfg0.N).val % 2 = 0 := by simp only; omega
  have e := outsAt0_A m c ⟨t.val - 1, by omega⟩ h0 (by omega)
  refine (congrFun (congrArg (fun p => p.2.2) e) (ix2 r k)).trans ?_
  dsimp only
  frame_out
  rw [← et]
  exact start_apply m c ⟨t.val - 1, by omega⟩ r k

/-- The block a point writes. -/
theorem block_apply (c : Dev nD) (t : Fin cfg0.N) (r : Fin 1024) (j : Fin 1664) :
    (outsAt0 m c t.val t.isLt).1 (ix2 r j) = out m c (tile t) r (col t j) ∧
    (outsAt0 m c t.val t.isLt).2.1 (ix2 r j) = out m c (tile t) r (col t j) := by
  by_cases a0 : t.val % 2 = 0
  · have h1 : ¬t.val % 2 = 1 := by omega
    have hj : (col t j).val < 3072 := by simp only [col]; omega
    rw [outsAt0_A m c t a0 h1, out, dif_pos hj]
    have p := product_apply m c t _ (start_apply m c t) r j
    refine ⟨?_, ?_⟩
    · dsimp only
      frame_out
      exact p
    · dsimp only
      frame_out
      exact (narrow2_apply _ _ r j).trans p
  · have a1 : t.val % 2 = 1 := by omega
    rw [outsAt0_B m c t a0 a1]
    have p := product_apply m c t _ (kept_apply m c t a1) r j
    have q := gate_apply m c t a1 _ (kept_apply m c t a1) r
    have s : j.val < 1408 → out m c (tile t) r (col t j) = product m c (tile t) r (col t j) := fun l => by
      rw [out, dif_pos (by simp only [col]; omega)]
    refine ⟨?_, ?_⟩
    · dsimp only
      frame_out
      rw [read_unread_whole]
      by_cases l : j.val < 1408
      · rw [View.canon_cons_of_not_mem _ _ (by
          intro z
          have z1 := ((Rect.mem_set_unit (inb := inb_S1024x1664_S1024x256_0_1408)).mp z 1).1
          simp at z1
          omega)]
        refine (congrFun (View.canon_cons_unit_lit _ _ _ (by decide)) (ix2 r j)).trans ?_
        exact (rfl).trans (p.trans (s l).symm)
      · have e : ix2 r j = (Rect.unit ![0, 1408] ![1024, 256] inb_S1024x1664_S1024x256_0_1408).emb
            (ix2 r (⟨j.val - 1408, by omega⟩ : Fin 256)) := by
          blk_ext
        refine (congrArg _ e).trans ((View.canon_cons_emb _ _ _ _).trans ?_)
        exact (rfl).trans (q ⟨j.val - 1408, by omega⟩ j (by simp only; omega))
    · dsimp only
      frame_out
      rw [read_unread_whole]
      by_cases l : j.val < 1408
      · rw [View.canon_cons_of_not_mem _ _ (by
          intro z
          have z1 := ((Rect.mem_set_unit (inb := inb_S1024x1664_S1024x256_0_1408)).mp z 1).1
          simp at z1
          omega)]
        refine (congrFun (View.canon_cons_unit_lit _ _ _ (by decide)) (ix2 r j)).trans ?_
        exact (narrow2_apply _ _ r j).trans (p.trans (s l).symm)
      · have e : ix2 r j = (Rect.unit ![0, 1408] ![1024, 256] inb_S1024x1664_S1024x256_0_1408).emb
            (ix2 r (⟨j.val - 1408, by omega⟩ : Fin 256)) := by
          blk_ext
        refine (congrArg _ e).trans ((View.canon_cons_emb _ _ _ _).trans ?_)
        exact (narrow4_apply _ _ _ r _).trans (q ⟨j.val - 1408, by omega⟩ j (by simp only; omega))

/-- The kernel's element is the reference's. -/
theorem out_eq (c : Dev nD) (i : Fin 17) (r : Fin 1024) (j : Fin 3328) :
    out m c i r j = Cert.PcdRefIdeal.Read.val_main_v27 (F := Ideal) (m ((c : Thread nD τ).loc main_arg0))
      (m ((c : Thread nD τ).loc main_arg1)) (m ((c : Thread nD τ).loc main_arg2)) (m ((c : Thread nD τ).loc main_arg3))
      (ix2 (⟨i.val * 1024 + r.val, by omega⟩ : Fin 17408) j) := by
  refine Eq.trans ?_ (PcdRefIdeal.Att.result_apply _ _ _ _ _ _).symm
  unfold out
  by_cases h : j.val < 3072
  · rw [dif_pos h, dif_pos h]
    unfold product weight
    simp only [dif_pos (show j.val < 3080 by omega)]
    rfl
  · rw [dif_neg h, dif_neg h]
    refine congrArg ProjMath.softplus (Eq.trans ?_ (PcdRefIdeal.Att.gate_apply _ _ _ _ _ _).symm)
    unfold product weight bias
    by_cases l : j.val < 3080
    · have e : (⟨1536 + (j.val - 3072), by omega⟩ : Fin 3080) = ProjMath.perm ⟨j.val, l⟩ := by
        simp only [ProjMath.perm, dif_neg (show ¬j.val < 1024 by omega), dif_neg (show ¬j.val < 1536 by omega), dif_neg h]
      simp only [dif_pos l, dif_pos (show j.val - 3072 < 8 by omega), e]
      rfl
    · simp only [dif_neg l, dif_neg (show ¬j.val - 3072 < 8 by omega), mul_zero, Finset.sum_const_zero, add_zero]

set_option maxHeartbeats 1600000 in
/-- The wide result after the run. -/
theorem final4 (c : Dev nD) :
    (dats m 0 c).arrAt 4 cfg0.N
      = Cert.PcdRefIdeal.Read.val_main_v27 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht := lt_points t
  blk_simp
  rw [after0_4]
  idx_vars y
  have e : ((View.whole main_v15_0).slice (win0_4.rect t)).emb (ix2 y0 y1)
      = ix2 (⟨(tile t).val * 1024 + y0.val, by omega⟩ : Fin 17408) (col t y1) := by
    blk_ext [idx t, tile, col]
  rw [e]
  exact (block_apply m c t y0 y1).1.trans (out_eq m c _ _ _)

set_option maxHeartbeats 1600000 in
/-- The narrow result after the run. -/
theorem final5 (c : Dev nD) :
    (dats m 0 c).arrAt 5 cfg0.N
      = Cert.PcdRefIdeal.Read.val_main_v28 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht := lt_points t
  blk_simp
  rw [after0_5]
  idx_vars y
  have e : ((View.whole main_v15_1).slice (win0_5.rect t)).emb (ix2 y0 y1)
      = ix2 (⟨(tile t).val * 1024 + y0.val, by omega⟩ : Fin 17408) (col t y1) := by
    blk_ext [idx t, tile, col]
  rw [e]
  exact ((block_apply m c t y0 y1).2.trans (out_eq m c _ _ _)).trans (PcdRefIdeal.Att.narrow_apply _ _ _ _ _ _).symm

end Cert.PcdIdeal.Att

end
-- ==== Proof.PcdClaim.lean ====
/- The second input projection's claims, each as the generated statement has it. -/
module

public import proofs.«01_k».proof.Defs
public import proofs.«01_k».proof.Proof.PcdValue
public import proofs.«01_k».proof.Proof.Gen.PcdRefIdeal.Run
public import proofs.«01_k».proof.Proof.Gen.Pcd.Frame
public import Idealize.ShloMosaic.Lib.Claim

@[expose] public section

set_option maxRecDepth 16384

noncomputable section

namespace Cert.PcdClaim

open Idealize.ShloMosaic Idealize.SL.Sem

/-- The reference runs and leaves its arguments. -/
theorem reference_frame : @Cert.quiescent_PcdRefIdeal Cert.PcdRefIdeal.Gen.facts := by
  intro m g _
  exact (θ_run _ _ _).mono (fun r h => ⟨fun c => (h c).2.2, sem_eq_zero_of_no_sems rfl r.2⟩) (Cert.PcdRefIdeal.Value.run m g)

set_option maxHeartbeats 1600000 in
/-- The idealized kernel and the reference leave the same two arrays. -/
theorem algebraic : @Cert.algebraic_PcdIdeal_PcdRefIdeal Cert.PcdIdeal.Gen.facts Cert.PcdRefIdeal.Gen.facts := by
  intro m g m' g' _ hagree
  refine ⟨fun c => (Cert.PcdIdeal.Gen.dats m 0 c).arrAt 4 Cert.PcdIdeal.cfg0.N,
    fun c => (Cert.PcdIdeal.Gen.dats m 0 c).arrAt 5 Cert.PcdIdeal.cfg0.N, ?_, ?_⟩
  · run_from Cert.PcdIdeal.Value.run_blocks m g
  · run_from Cert.PcdRefIdeal.Value.run m' g'
    · obtain ⟨a0, a1, a2, a3⟩ := hagree c
      refine (Cert.PcdRefIdeal.Read.val_main_v27_eq m' c).trans ?_
      rw [a0, a1, a2, a3]
      exact (Cert.PcdIdeal.Att.final4 m c).symm
    · obtain ⟨a0, a1, a2, a3⟩ := hagree c
      refine (Cert.PcdRefIdeal.Read.val_main_v28_eq m' c).trans ?_
      rw [a0, a1, a2, a3]
      exact (Cert.PcdIdeal.Att.final5 m c).symm

end Cert.PcdClaim

end
-- ==== Proof.SsdMath.lean ====
/- One step of the state-space mixer over the extended reals: running sums of the decay exponents in one part and in
   three, the state a step leaves and the rows it puts out. -/
module

public import Idealize.ShloMosaic.PureOps.Ideal
public import Idealize.ShloMosaic.Lib.WordCmp
public import Idealize.ShloMosaic.Lib.Pointwise
public import proofs.«01_k».proof.Proof.FoxMath

@[expose] public section

noncomputable section

namespace Cert.SsdMath

open Idealize.ShloMosaic Idealize.ShloMosaic.WordCmp

/-- The sum of the terms up to and including one. -/
def upTo {n : ℕ} (f : Fin n → EReal) (t : Fin n) : EReal := ∑ k, if k.val ≤ t.val then f k else 0

/-- A number that is not plus infinity is its three parts put together. -/
theorem split {x : EReal} (h : x ≠ ⊤) : x + (x - x) + (x - x - (x - x)) = x := by
  by_cases b : x = ⊥
  · subst b
    rw [EReal.bot_add, EReal.bot_add]
  · rw [EReal.sub_self h b]
    simp

/-- A sum without plus infinity is not plus infinity. -/
theorem upTo_ne_top {n : ℕ} {f : Fin n → EReal} (h : ∀ k, f k ≠ ⊤) (t : Fin n) : upTo f t ≠ ⊤ := by
  unfold upTo
  refine Finset.sum_induction _ (fun x : EReal => x ≠ ⊤) (fun a b ha hb => EReal.add_ne_top ha hb) (by simp) fun k _ => ?_
  split
  · exact h k
  · simp

/-- The sum of the terms up to one, taken of the three parts apart. -/
theorem upTo_split {n : ℕ} {f : Fin n → EReal} (h : ∀ k, f k ≠ ⊤) (t : Fin n) :
    upTo f t + upTo (fun k => f k - f k) t + upTo (fun k => f k - f k - (f k - f k)) t = upTo f t := by
  by_cases b : ∃ k : Fin n, k.val ≤ t.val ∧ f k = ⊥
  · obtain ⟨k, hk, e⟩ := b
    have z : upTo f t = ⊥ := by
      unfold upTo
      rw [← Finset.add_sum_erase _ _ (Finset.mem_univ k), if_pos hk, e, EReal.bot_add]
    rw [z, EReal.bot_add, EReal.bot_add]
  · have z : ∀ k : Fin n, k.val ≤ t.val → f k - f k = 0 := fun k hk =>
      EReal.sub_self (h k) fun e => b ⟨k, hk, e⟩
    have z1 : upTo (fun k => f k - f k) t = 0 := by
      unfold upTo
      refine Finset.sum_eq_zero fun k _ => ?_
      split
      · exact z k (by assumption)
      · rfl
    have z2 : upTo (fun k => f k - f k - (f k - f k)) t = 0 := by
      unfold upTo
      refine Finset.sum_eq_zero fun k _ => ?_
      split
      · simp only [z k (by assumption)]
        simp
      · rfl
    rw [z1, z2, add_zero, add_zero]

/-- The gate's function. -/
def silu (x : EReal) : EReal := x * Ideal.div 1 (1 + Ideal.exp (0 - x))

/-- A group of columns divided by the root of its mean square, times a gain. -/
def norm (x g : Fin 256 → EReal) (k : Fin 256) : EReal :=
  x k * Ideal.rsqrt (Ideal.div (∑ i, x i * x i) (Ideal.ofBits .f32 0x43800000#32) + Ideal.ofBits .f32 0x358637BD#32) * g k

/-- One channel: the three kept rows and the new ones after them. -/
def rows (hist : Fin 3 → EReal) (new : Fin 32 → EReal) (i : Fin 35) : EReal :=
  if h : i.val < 3 then hist ⟨i.val, h⟩ else new ⟨i.val - 3, by omega⟩

/-- One channel of the convolution over four rows. -/
def conv (hist : Fin 3 → EReal) (new : Fin 32 → EReal) (w : Fin 4 → EReal) (b : EReal) (t : Fin 32) : EReal :=
  b + rows hist new ⟨t.val, by omega⟩ * w 0 + rows hist new ⟨t.val + 1, by omega⟩ * w 1
    + rows hist new ⟨t.val + 2, by omega⟩ * w 2 + rows hist new ⟨t.val + 3, by omega⟩ * w 3

/-- What a state element becomes: the old one decayed, and the new rows' products decayed from each row on. -/
def kept (a x b : Fin 32 → EReal) (s : EReal) : EReal :=
  Ideal.exp (a 31) * s + ∑ k, x k * Ideal.exp (a 31 - a k) * b k

/-- What a row puts out in one column: the rows up to it, the old state, and the column itself. -/
def mixed (a x : Fin 32 → EReal) (cb : Fin 32 → EReal) (t : Fin 32) (o d v : EReal) : EReal :=
  ∑ s, (if s.val ≤ t.val then cb s * Ideal.exp (a t - a s) * x s else 0) + o * Ideal.exp (a t) + d * v

/-- One head of a pair takes the columns below 64, the other those from 64 on. -/
theorem kept_pair (a0 a1 : Fin 32 → EReal) (x : Fin 32 → Fin 128 → EReal) (b : Fin 32 → EReal) (s : EReal) (r : Fin 128) :
    Scalar.select (IntOp.cmpi .slt (BitVec.ofNat 32 r.val) 64#32) (Ideal.exp (a0 31)) (Ideal.exp (a1 31)) * s
      + ∑ k, (∑ i : Fin 128, Scalar.select (IntOp.cmpi .eq (BitVec.ofNat 32 r.val) (BitVec.ofNat 32 i.val))
          (x k i * Scalar.select (IntOp.cmpi .slt (BitVec.ofNat 32 i.val) 64#32)
            (Ideal.exp (a0 31 - a0 k)) (Ideal.exp (a1 31 - a1 k))) 0) * b k
      = kept (if r.val < 64 then a0 else a1) (fun k => x k r) b s := by
  have e : ∀ (i : Fin 128) (p q : EReal), Scalar.select (IntOp.cmpi .slt (BitVec.ofNat 32 i.val) 64#32) p q
      = if i.val < 64 then p else q := fun i p q => FoxMath.select_slt i.val 64 (by omega) (by omega) p q
  have f : ∀ (i : Fin 128) (p : EReal), Scalar.select (IntOp.cmpi .eq (BitVec.ofNat 32 r.val) (BitVec.ofNat 32 i.val)) p 0
      = if r = i then p else 0 := fun i p => by
    rw [cmpi_eq_ofNat (by omega) (by omega), select_decide]
    simp only [Fin.ext_iff]
  simp only [e, f, Finset.sum_ite_eq, Finset.mem_univ, if_true, kept]
  by_cases h : r.val < 64
  · simp only [if_pos h]
  · simp only [if_neg h]

/-- The same for the rows a pair puts out. -/
theorem mixed_pair (a0 a1 : Fin 32 → EReal) (x : Fin 32 → EReal) (cb : Fin 32 → EReal) (t : Fin 32) (o d v : EReal) (r : Fin 128) :
    ∑ s : Fin 32, Scalar.select (IntOp.cmpi .slt (BitVec.ofNat 32 r.val) 64#32)
        (Scalar.select (IntOp.cmpi .sge (BitVec.ofNat 32 t.val) (BitVec.ofNat 32 s.val))
          (cb s * Ideal.exp (Scalar.select (IntOp.cmpi .sge (BitVec.ofNat 32 t.val) (BitVec.ofNat 32 s.val)) (a0 t - a0 s) 0) * x s) 0) 0
      + ∑ s : Fin 32, Scalar.select (IntOp.xori (IntOp.cmpi .slt (BitVec.ofNat 32 r.val) 64#32) 1#1)
        (Scalar.select (IntOp.cmpi .sge (BitVec.ofNat 32 t.val) (BitVec.ofNat 32 s.val))
          (cb s * Ideal.exp (Scalar.select (IntOp.cmpi .sge (BitVec.ofNat 32 t.val) (BitVec.ofNat 32 s.val)) (a1 t - a1 s) 0) * x s) 0) 0
      + o * Scalar.select (IntOp.cmpi .slt (BitVec.ofNat 32 r.val) 64#32) (Ideal.exp (a0 t)) (Ideal.exp (a1 t)) + d * v
      = mixed (if r.val < 64 then a0 else a1) x cb t o d v := by
  have e : ∀ (a : Fin 32 → EReal) (s : Fin 32),
      Scalar.select (IntOp.cmpi .sge (BitVec.ofNat 32 t.val) (BitVec.ofNat 32 s.val))
        (cb s * Ideal.exp (Scalar.select (IntOp.cmpi .sge (BitVec.ofNat 32 t.val) (BitVec.ofNat 32 s.val)) (a t - a s) 0) * x s) 0
      = if s.val ≤ t.val then cb s * Ideal.exp (a t - a s) * x s else 0 := fun a s => by
    rw [FoxMath.select_sge t.val s.val (by omega) (by omega), FoxMath.select_sge t.val s.val (by omega) (by omega)]
    by_cases h : s.val ≤ t.val
    · simp only [if_pos h]
    · simp only [if_neg h]
  simp only [e, mixed]
  by_cases h : r.val < 64
  · have c : IntOp.cmpi .slt (BitVec.ofNat 32 r.val) 64#32 = 1#1 := by
      refine (cmpi_slt_ofNat (w := 32) (a := r.val) (b := 64) (by omega) (by omega)).trans ?_
      rw [decide_eq_true h]
      rfl
    have c' : IntOp.xori (1#1) (1#1) = 0#1 := by decide
    simp only [c, c', if_pos h, select_of_eq_one rfl, select_of_eq_zero rfl, Finset.sum_const_zero, add_zero]
  · have c : IntOp.cmpi .slt (BitVec.ofNat 32 r.val) 64#32 = 0#1 := by
      refine (cmpi_slt_ofNat (w := 32) (a := r.val) (b := 64) (by omega) (by omega)).trans ?_
      rw [decide_eq_false h]
      rfl
    have c' : IntOp.xori (0#1) (1#1) = 1#1 := by decide
    simp only [c, c', if_neg h, select_of_eq_one rfl, select_of_eq_zero rfl, Finset.sum_const_zero, zero_add]

end Cert.SsdMath

end
-- ==== Proof.SsdKernel.lean ====
/- What the state-space mixer's kernel computes for one sequence, read at one element. -/
module

public import proofs.«01_k».proof.Proof.Gen.SsdIdeal.Frame
public import proofs.«01_k».proof.Proof.SsdMath
public import Idealize.ShloMosaic.Lib.Pipeline.ValueKit
public import Idealize.ShloMosaic.Lib.Pointwise

@[expose] public section

set_option maxRecDepth 16384

noncomputable section

namespace Cert.SsdIdeal.Att

open Idealize.ShloMosaic Idealize.ShloMosaic.TcCoe Idealize.SL.Sem
open Cert.SsdIdeal Cert.SsdIdeal.Gen

/-- The channels after the convolution and the gate's function. -/
theorem pay9_apply (x : FVec Ideal S32x1024 .f32) (y : Vec Ideal S32x1024 .f32) (z : FVec Ideal S32x1024 .f32) (r : Fin 32) (j : Fin 1024) :
    k0_pay9 x y z (ix2 r j) = SsdMath.silu (x (ix2 r j) + y (ix2 r j) * z (ix2 r j)) := by
  unfold k0_pay9 SsdMath.silu
  pointwise

/-- The first 512 channels. -/
theorem pay10_apply (x : FVec Ideal S32x1024 .f32) (y : Vec Ideal S32x1024 .f32) (z : FVec Ideal S32x1024 .f32) (r : Fin 32) (j : Fin 512) :
    k0_pay10 x y z (ix2 r j) = k0_pay9 x y z (ix2 r (⟨j.val, by omega⟩ : Fin 1024)) := by
  unfold k0_pay10
  pointwise

/-- The next 256. -/
theorem pay11_apply (x : FVec Ideal S32x1024 .f32) (y : Vec Ideal S32x1024 .f32) (z : FVec Ideal S32x1024 .f32) (r : Fin 32) (j : Fin 256) :
    k0_pay11 x y z (ix2 r j) = k0_pay9 x y z (ix2 r (⟨512 + j.val, by omega⟩ : Fin 1024)) := by
  unfold k0_pay11
  pointwise

/-- The last 256. -/
theorem pay12_apply (x : FVec Ideal S32x1024 .f32) (y : Vec Ideal S32x1024 .f32) (z : FVec Ideal S32x1024 .f32) (r : Fin 32) (j : Fin 256) :
    k0_pay12 x y z (ix2 r j) = k0_pay9 x y z (ix2 r (⟨768 + j.val, by omega⟩ : Fin 1024)) := by
  unfold k0_pay12
  pointwise

/-- The convolution's first three rows. -/
theorem pay5_apply (b : Vec Ideal S1x1024 .f32) (x0 : Vec Ideal S32x1024 .f32) (w0 : Vec Ideal S1x1024 .f32)
    (x1 : Vec Ideal S32x1024 .f32) (w1 : Vec Ideal S1x1024 .f32) (x2 : Vec Ideal S32x1024 .f32) (w2 : Vec Ideal S1x1024 .f32)
    (r : Fin 32) (j : Fin 1024) :
    k0_pay5 b x0 w0 x1 w1 x2 w2 (ix2 r j)
      = b (ix2 0 j) + x0 (ix2 r j) * w0 (ix2 0 j) + x1 (ix2 r j) * w1 (ix2 0 j) + x2 (ix2 r j) * w2 (ix2 0 j) := by
  unfold k0_pay5
  pointwise

/-- The last row's weights. -/
theorem pay6_apply (w : Vec Ideal S1x1024 .f32) (r : Fin 32) (j : Fin 1024) :
    k0_pay6 w (ix2 r j) = w (ix2 0 j) := by
  unfold k0_pay6
  pointwise

/-- The step sizes: every row counts. -/
theorem pay13_apply (x : Vec Ideal S32x128 .f32) (r : Fin 32) (j : Fin 128) :
    k0_pay13 0#32 x (ix2 r j) = x (ix2 r j) := by
  have e : ∀ k : Fin 32, IntOp.cmpi .slt (IntOp.addi (Scalar.muli 0#32 32#32) (BitVec.ofNat 32 k.val)) 32#32 = 1#1 := by
    decide +kernel
  unfold k0_pay13
  pointwise
  rw [e r]
  rfl

/-- The decay exponents. -/
theorem pay14_apply (x : Vec Ideal S32x128 .f32) (y : Vec Ideal S1x128 .f32) (r : Fin 32) (j : Fin 128) :
    k0_pay14 0#32 x y (ix2 r j) = k0_pay13 0#32 x (ix2 r j) * (0 - Ideal.exp (y (ix2 0 j))) := by
  unfold k0_pay14
  pointwise

/-- A select on the order of two rows. -/
theorem sel (a k : Fin 32) (p q : EReal) :
    Scalar.select (IntOp.cmpi .sge (BitVec.ofNat 32 a.val) (BitVec.ofNat 32 k.val)) p q = if k.val ≤ a.val then p else q :=
  FoxMath.select_sge a.val k.val (by omega) (by omega) p q

/-- The running sums, in three parts. -/
theorem pay16_apply (x : FVec Ideal S32x128 .f32) (r : Fin 32) (j : Fin 128) (h : ∀ k : Fin 32, x (ix2 k j) ≠ (⊤ : EReal)) :
    k0_pay16 x k0_pay15 (ix2 r j) = SsdMath.upTo (fun k => x (ix2 k j)) r := by
  refine Eq.trans ?_ (SsdMath.upTo_split (f := fun k => x (ix2 k j)) h r)
  unfold k0_pay16 SsdMath.upTo
  pointwise [k0_pay15]
  simp only [sel]

/-- The running sums with the columns as rows. -/
theorem pay18_apply (x : FVec Ideal S32x128 .f32) (r : Fin 32) (j : Fin 128) (h : ∀ k : Fin 32, x (ix2 k j) ≠ (⊤ : EReal)) :
    k0_pay18 x k0_pay15 (ix2 j r) = SsdMath.upTo (fun k => x (ix2 k j)) r := by
  have e := pay16_apply x r j h
  have n : k0_pay16 x k0_pay15 (ix2 r j) ≠ (⊤ : EReal) := by
    rw [e]
    exact SsdMath.upTo_ne_top h r
  rw [← e]
  unfold k0_pay18
  generalize k0_pay16 x k0_pay15 = a at n
  refine Eq.trans ?_ (SsdMath.split n)
  have f : ∀ (i : Fin 128) (p : EReal), Scalar.select (IntOp.cmpi .eq (BitVec.ofNat 32 j.val) (BitVec.ofNat 32 i.val)) p 0
      = if j = i then p else 0 := fun i p => by
    rw [WordCmp.cmpi_eq_ofNat (by omega) (by omega), WordCmp.select_decide]
    simp only [Fin.ext_iff]
  pointwise [k0_pay17]
  simp only [f, Finset.sum_ite_eq, Finset.mem_univ, if_true]

/-- The columns of the four pairs of heads, each scaled by its head's step size. -/
theorem scaled_apply (xs : FVec Ideal S32x512 .f32) (dt : Vec Ideal S32x128 .f32) (k : Fin 32) (r : Fin 128) :
    k0_pay29 xs dt k0_pay19 (ix2 k r) = xs (ix2 k (⟨r.val, by omega⟩ : Fin 512)) * (if r.val < 64 then dt (ix2 k 0) else dt (ix2 k 1)) ∧
    k0_pay42 xs dt k0_pay19 (ix2 k r) = xs (ix2 k (⟨128 + r.val, by omega⟩ : Fin 512)) * (if r.val < 64 then dt (ix2 k 2) else dt (ix2 k 3)) ∧
    k0_pay59 xs dt k0_pay19 (ix2 k r) = xs (ix2 k (⟨256 + r.val, by omega⟩ : Fin 512)) * (if r.val < 64 then dt (ix2 k 4) else dt (ix2 k 5)) ∧
    k0_pay76 xs dt k0_pay19 (ix2 k r) = xs (ix2 k (⟨384 + r.val, by omega⟩ : Fin 512)) * (if r.val < 64 then dt (ix2 k 6) else dt (ix2 k 7)) := by
  have s : ∀ p q : EReal, Scalar.select (IntOp.cmpi .slt (BitVec.ofNat 32 r.val) 64#32) p q = if r.val < 64 then p else q :=
    FoxMath.select_slt r.val 64 (by omega) (by omega)
  simp only [← s]
  refine ⟨?_, ?_, ?_, ?_⟩
  · unfold k0_pay29
    pointwise [k0_pay26, k0_pay19]
  · unfold k0_pay42
    pointwise [k0_pay39, k0_pay19]
  · unfold k0_pay59
    pointwise [k0_pay56, k0_pay19]
  · unfold k0_pay76
    pointwise [k0_pay73, k0_pay19]

/-- The first pair's state. -/
theorem state0 (bm : FVec Ideal S32x256 .bf16) (acs : FVec Ideal S32x128 .f32) (x : FVec Ideal S32x128 .f32)
    (st : Vec Ideal S128x128 .f32) (r j : Fin 128) :
    k0_pay35 (k0_pay34 k0_pay17 k0_pay19 k0_pay20 (k0_pay25 bm) (k0_pay27 acs) (k0_pay28 acs) x st) (ix2 r j)
      = SsdMath.kept (if r.val < 64 then fun k => acs (ix2 k 0) else fun k => acs (ix2 k 1)) (fun k => x (ix2 k r))
          (fun k => bm (ix2 k (⟨j.val, by omega⟩ : Fin 256))) (st (ix2 r j)) := by
  refine Eq.trans ?_ (SsdMath.kept_pair _ _ (fun k i => x (ix2 k i)) _ _ r)
  unfold k0_pay35 k0_pay34
  pointwise [k0_pay17, k0_pay19, k0_pay20, k0_pay25, k0_pay27, k0_pay28]

/-- The second pair's state. -/
theorem state1 (bm : FVec Ideal S32x256 .bf16) (acs : FVec Ideal S32x128 .f32) (x : FVec Ideal S32x128 .f32)
    (st : Vec Ideal S128x128 .f32) (r j : Fin 128) :
    k0_pay52 k0_pay20 (k0_pay38 bm) st (k0_pay49 k0_pay17 k0_pay19 (k0_pay40 acs) (k0_pay41 acs) x)
        (k0_pay50 (k0_pay40 acs)) (k0_pay51 (k0_pay41 acs)) (ix2 r j)
      = SsdMath.kept (if r.val < 64 then fun k => acs (ix2 k 2) else fun k => acs (ix2 k 3)) (fun k => x (ix2 k r))
          (fun k => bm (ix2 k (⟨j.val, by omega⟩ : Fin 256))) (st (ix2 r j)) := by
  refine Eq.trans ?_ (SsdMath.kept_pair _ _ (fun k i => x (ix2 k i)) _ _ r)
  unfold k0_pay52 k0_pay49 k0_pay50 k0_pay51 k0_pay48 k0_pay47
  pointwise [k0_pay17, k0_pay19, k0_pay20, k0_pay38, k0_pay40, k0_pay41]

/-- The third pair's state. -/
theorem state2 (bm : FVec Ideal S32x256 .bf16) (acs : FVec Ideal S32x128 .f32) (x : FVec Ideal S32x128 .f32)
    (st : Vec Ideal S128x128 .f32) (r j : Fin 128) :
    k0_pay69 k0_pay17 k0_pay20 (k0_pay55 bm) x st (k0_pay64 (k0_pay57 acs)) (k0_pay65 (k0_pay58 acs)) (k0_pay66 (k0_pay58 acs))
        (k0_pay67 k0_pay19) (k0_pay68 (k0_pay57 acs)) (ix2 r j)
      = SsdMath.kept (if r.val < 64 then fun k => acs (ix2 k 4) else fun k => acs (ix2 k 5)) (fun k => x (ix2 k r))
          (fun k => bm (ix2 k (⟨128 + j.val, by omega⟩ : Fin 256))) (st (ix2 r j)) := by
  refine Eq.trans ?_ (SsdMath.kept_pair _ _ (fun k i => x (ix2 k i)) _ _ r)
  unfold k0_pay69 k0_pay68 k0_pay67 k0_pay66 k0_pay65 k0_pay64
  pointwise [k0_pay17, k0_pay19, k0_pay20, k0_pay55, k0_pay57, k0_pay58]

/-- The fourth pair's state. -/
theorem state3 (bm : FVec Ideal S32x256 .bf16) (acs : FVec Ideal S32x128 .f32) (x : FVec Ideal S32x128 .f32)
    (st : Vec Ideal S128x128 .f32) (r j : Fin 128) :
    k0_pay81 k0_pay17 k0_pay19 k0_pay20 (k0_pay72 bm) (k0_pay74 acs) (k0_pay75 acs) x st (ix2 r j)
      = SsdMath.kept (if r.val < 64 then fun k => acs (ix2 k 6) else fun k => acs (ix2 k 7)) (fun k => x (ix2 k r))
          (fun k => bm (ix2 k (⟨128 + j.val, by omega⟩ : Fin 256))) (st (ix2 r j)) := by
  refine Eq.trans ?_ (SsdMath.kept_pair _ _ (fun k i => x (ix2 k i)) _ _ r)
  unfold k0_pay81
  pointwise [k0_pay17, k0_pay19, k0_pay20, k0_pay72, k0_pay74, k0_pay75]

/-- The first pair's rows. -/
theorem row0 (xs : FVec Ideal S32x512 .f32) (bm cm : FVec Ideal S32x256 .bf16) (dt : Vec Ideal S32x128 .f32)
    (acs : FVec Ideal S32x128 .f32) (acst : FVec Ideal S128x32 .f32) (st : Vec Ideal S128x128 .f32) (d : Vec Ideal S1x128 .f32)
    (t : Fin 32) (r : Fin 128) (h : ∀ s, acst (ix2 0 s) = acs (ix2 s 0)) (h' : ∀ s, acst (ix2 1 s) = acs (ix2 s 1)) :
    k0_pay36 (k0_pay26 xs) (k0_pay33 k0_pay19 (k0_pay24 cm) (k0_pay27 acs) (k0_pay28 acs) (k0_pay29 xs dt k0_pay19)
      (k0_pay30 k0_pay19) (k0_pay31 xs bm dt k0_pay15 acs acst k0_pay19 (k0_pay21 cm))
      (k0_pay32 bm k0_pay15 acs acst (k0_pay21 cm)) st) d (ix2 t r)
      = SsdMath.mixed (if r.val < 64 then fun k => acs (ix2 k 0) else fun k => acs (ix2 k 1))
          (fun k => k0_pay29 xs dt k0_pay19 (ix2 k r))
          (fun s => ∑ n : Fin 128, cm (ix2 t (⟨n.val, by omega⟩ : Fin 256)) * bm (ix2 s (⟨n.val, by omega⟩ : Fin 256)))
          t (∑ n : Fin 128, cm (ix2 t (⟨n.val, by omega⟩ : Fin 256)) * st (ix2 r n)) (d (ix2 0 r)) (xs (ix2 t (⟨r.val, by omega⟩ : Fin 512))) := by
  refine Eq.trans ?_ (SsdMath.mixed_pair _ _ _ _ _ _ _ _ r)
  unfold k0_pay36 k0_pay33 k0_pay32 k0_pay31
  generalize k0_pay29 xs dt k0_pay19 = x
  pointwise [k0_pay15, k0_pay19, k0_pay21, k0_pay22, k0_pay24, k0_pay26, k0_pay27, k0_pay28, k0_pay30]
  simp only [h, h']

/-- The second pair's rows. -/
theorem row1 (xs : FVec Ideal S32x512 .f32) (bm cm : FVec Ideal S32x256 .bf16) (dt : Vec Ideal S32x128 .f32)
    (acs : FVec Ideal S32x128 .f32) (acst : FVec Ideal S128x32 .f32) (st : Vec Ideal S128x128 .f32) (d : Vec Ideal S1x128 .f32)
    (t : Fin 32) (r : Fin 128) (h : ∀ s, acst (ix2 2 s) = acs (ix2 s 2)) (h' : ∀ s, acst (ix2 3 s) = acs (ix2 s 3)) :
    k0_pay53 (k0_pay39 xs) (k0_pay46 k0_pay15 k0_pay19 (k0_pay22 bm (k0_pay21 cm)) (k0_pay37 cm) (k0_pay40 acs) (k0_pay41 acs)
      (k0_pay42 xs dt k0_pay19) (k0_pay43 k0_pay19) (k0_pay44 xs dt k0_pay15 acs acst k0_pay19 (k0_pay22 bm (k0_pay21 cm)))
      (k0_pay45 acst) st) d (ix2 t r)
      = SsdMath.mixed (if r.val < 64 then fun k => acs (ix2 k 2) else fun k => acs (ix2 k 3))
          (fun k => k0_pay42 xs dt k0_pay19 (ix2 k r))
          (fun s => ∑ n : Fin 128, cm (ix2 t (⟨n.val, by omega⟩ : Fin 256)) * bm (ix2 s (⟨n.val, by omega⟩ : Fin 256)))
          t (∑ n : Fin 128, cm (ix2 t (⟨n.val, by omega⟩ : Fin 256)) * st (ix2 r n)) (d (ix2 0 r)) (xs (ix2 t (⟨128 + r.val, by omega⟩ : Fin 512))) := by
  refine Eq.trans ?_ (SsdMath.mixed_pair _ _ _ _ _ _ _ _ r)
  unfold k0_pay53 k0_pay46 k0_pay45 k0_pay44
  generalize k0_pay42 xs dt k0_pay19 = x
  pointwise [k0_pay15, k0_pay19, k0_pay21, k0_pay22, k0_pay37, k0_pay39, k0_pay40, k0_pay41, k0_pay43]
  simp only [h, h']

/-- The third pair's rows. -/
theorem row2 (xs : FVec Ideal S32x512 .f32) (bm cm : FVec Ideal S32x256 .bf16) (dt : Vec Ideal S32x128 .f32)
    (acs : FVec Ideal S32x128 .f32) (acst : FVec Ideal S128x32 .f32) (st : Vec Ideal S128x128 .f32) (d : Vec Ideal S1x128 .f32)
    (t : Fin 32) (r : Fin 128) (h : ∀ s, acst (ix2 4 s) = acs (ix2 s 4)) (h' : ∀ s, acst (ix2 5 s) = acs (ix2 s 5)) :
    k0_pay70 (k0_pay56 xs) (k0_pay63 k0_pay15 acst k0_pay19 (k0_pay23 bm cm) (k0_pay54 cm) (k0_pay57 acs) (k0_pay58 acs)
      (k0_pay59 xs dt k0_pay19) k0_pay60 (k0_pay61 k0_pay19) (k0_pay62 k0_pay15 acs acst (k0_pay23 bm cm)) st) d (ix2 t r)
      = SsdMath.mixed (if r.val < 64 then fun k => acs (ix2 k 4) else fun k => acs (ix2 k 5))
          (fun k => k0_pay59 xs dt k0_pay19 (ix2 k r))
          (fun s => ∑ n : Fin 128, cm (ix2 t (⟨128 + n.val, by omega⟩ : Fin 256)) * bm (ix2 s (⟨128 + n.val, by omega⟩ : Fin 256)))
          t (∑ n : Fin 128, cm (ix2 t (⟨128 + n.val, by omega⟩ : Fin 256)) * st (ix2 r n)) (d (ix2 0 r)) (xs (ix2 t (⟨256 + r.val, by omega⟩ : Fin 512))) := by
  refine Eq.trans ?_ (SsdMath.mixed_pair _ _ _ _ _ _ _ _ r)
  unfold k0_pay70 k0_pay63 k0_pay62
  generalize k0_pay59 xs dt k0_pay19 = x
  pointwise [k0_pay15, k0_pay19, k0_pay23, k0_pay54, k0_pay56, k0_pay57, k0_pay58, k0_pay60, k0_pay61]
  simp only [h, h']

/-- The fourth pair's rows. -/
theorem row3 (xs : FVec Ideal S32x512 .f32) (bm cm : FVec Ideal S32x256 .bf16) (dt : Vec Ideal S32x128 .f32)
    (acs : FVec Ideal S32x128 .f32) (acst : FVec Ideal S128x32 .f32) (st : Vec Ideal S128x128 .f32) (d : Vec Ideal S1x128 .f32)
    (t : Fin 32) (r : Fin 128) (h : ∀ s, acst (ix2 6 s) = acs (ix2 s 6)) (h' : ∀ s, acst (ix2 7 s) = acs (ix2 s 7)) :
    k0_pay82 (k0_pay73 xs) (k0_pay80 k0_pay15 acst k0_pay19 (k0_pay23 bm cm) (k0_pay71 cm) (k0_pay74 acs) (k0_pay75 acs)
      (k0_pay76 xs dt k0_pay19) k0_pay77 (k0_pay78 k0_pay19) (k0_pay79 acst) st) d (ix2 t r)
      = SsdMath.mixed (if r.val < 64 then fun k => acs (ix2 k 6) else fun k => acs (ix2 k 7))
          (fun k => k0_pay76 xs dt k0_pay19 (ix2 k r))
          (fun s => ∑ n : Fin 128, cm (ix2 t (⟨128 + n.val, by omega⟩ : Fin 256)) * bm (ix2 s (⟨128 + n.val, by omega⟩ : Fin 256)))
          t (∑ n : Fin 128, cm (ix2 t (⟨128 + n.val, by omega⟩ : Fin 256)) * st (ix2 r n)) (d (ix2 0 r)) (xs (ix2 t (⟨384 + r.val, by omega⟩ : Fin 512))) := by
  refine Eq.trans ?_ (SsdMath.mixed_pair _ _ _ _ _ _ _ _ r)
  unfold k0_pay82 k0_pay80
  generalize k0_pay76 xs dt k0_pay19 = x
  pointwise [k0_pay15, k0_pay19, k0_pay23, k0_pay71, k0_pay73, k0_pay74, k0_pay75, k0_pay77, k0_pay78, k0_pay79]
  simp only [h, h']

/-- The rows times the gate's function of their gates. -/
theorem pay84_apply (z y : Vec Ideal S32x512 .f32) (t : Fin 32) (r : Fin 512) :
    k0_pay84 z y (k0_pay83 z) (ix2 t r) = y (ix2 t r) * SsdMath.silu (z (ix2 t r)) := by
  unfold k0_pay84 k0_pay83 SsdMath.silu
  pointwise

/-- The first group's normalised rows. -/
theorem pay85_apply (z y : Vec Ideal S32x512 .f32) (g : Vec Ideal S1x256 .f32) (t : Fin 32) (j : Fin 256) :
    k0_pay85 z y (k0_pay83 z) g (ix2 t j)
      = SsdMath.norm (fun k => k0_pay84 z y (k0_pay83 z) (ix2 t (⟨k.val, by omega⟩ : Fin 512))) (fun k => g (ix2 0 k)) j := by
  unfold k0_pay85 SsdMath.norm
  generalize k0_pay84 z y (k0_pay83 z) = a
  pointwise

/-- The second group's normalised rows. -/
theorem pay86_apply (z y : Vec Ideal S32x512 .f32) (g : Vec Ideal S1x256 .f32) (t : Fin 32) (j : Fin 256) :
    k0_pay86 z y (k0_pay83 z) g (ix2 t j)
      = SsdMath.norm (fun k => k0_pay84 z y (k0_pay83 z) (ix2 t (⟨256 + k.val, by omega⟩ : Fin 512))) (fun k => g (ix2 0 k)) j := by
  unfold k0_pay86 SsdMath.norm
  generalize k0_pay84 z y (k0_pay83 z) = a
  pointwise

end Cert.SsdIdeal.Att

end
-- ==== Proof.SsdBlocks.lean ====
/- What the state-space mixer's kernel reads at one grid point: the blocks of its operands at one element. -/
module

public import proofs.«01_k».proof.Proof.SsdKernel
public import Idealize.ShloMosaic.Lib.Claim
public import Idealize.ShloMosaic.Lib.Routing.OpsSet

@[expose] public section

set_option maxRecDepth 16384

noncomputable section

namespace Cert.SsdIdeal.Att

open Idealize.ShloMosaic Idealize.ShloMosaic.TcCoe Idealize.SL.Sem
open Cert.SsdIdeal Cert.SsdIdeal.Gen

/-- Where an update of the row of decay rates lands. -/
theorem lands : ∀ k : Fin 8, scatter_S1x128_S2_S8_0_0_01_0.resultIdx? (w := 32) (ix1 k) (fun _ => 0#32) = some (ix2 0 ⟨k.val, by omega⟩) := by
  decide +kernel

/-- The row of decay rates at one of its first eight elements. -/
theorem scatter_apply (x : FVec Ideal S1x128 .f32) (i : IVec S2 32) (hi : i = fun _ => 0#32) (u : FVec Ideal S8 .f32) (h : Fin 8) :
    Host.scatter scatter_S1x128_S2_S8_0_0_01_0 (fun _ b => b) x i u (ix2 0 (⟨h.val, by omega⟩ : Fin 128)) = u (ix1 h) := by
  subst hi
  refine Routing.scatter_set_hit _ x _ u _ _ (fun k hk => ?_) (ix1 h) (lands h)
  idx_vars k
  rw [lands k0] at hk
  have e := congrFun (Option.some.inj hk) 1
  have e' : k0.val = h.val := congrArg (fun i : Fin 128 => i.val) e
  congr 2
  exact Fin.ext e'

/-- The decay rates without their leading axis. -/
theorem cast8 (x : FVec Ideal S1x8 .f32) (h : Fin 8) : shapeCast S8 x shapeCasts_S1x8_S8 (ix1 h) = x (ix2 0 h) := by
  pointwise

variable (m : (ℓ : Loc nD τ sig) → Buf (Elt Ideal) ℓ)

/-- Which block of its array each window holds at a point. -/
theorem idx : ∀ t : Fin cfg0.N,
    win0_0.index t = ![528 + t.val, 2] ∧ win0_1.index t = ![528 + t.val, 0] ∧ win0_2.index t = ![528 + t.val, 24] ∧
    win0_3.index t = ![t.val, 0, 0] ∧ win0_4.index t = ![t.val, 0, 0] ∧ win0_5.index t = ![0, 0] ∧
    win0_6.index t = ![0, 0] ∧ win0_7.index t = ![0, 0] ∧ win0_8.index t = ![0, 0] ∧ win0_9.index t = ![0, 0] ∧
    win0_10.index t = ![t.val, 0] ∧ win0_11.index t = ![t.val, 0, 0] ∧ win0_12.index t = ![t.val, 0, 0] :=
  (by decide +kernel : ∀ t : Fin grid0.N, _)

/-- There are 16 points. -/
theorem lt_points (t : Fin cfg0.N) : t.val < 16 := t.isLt

/-- One new row's entry. -/
def entry (c : Dev nD) (t : Fin cfg0.N) (r : Fin 32) (j : Fin 3328) : EReal :=
  m ((c : Thread nD τ).loc main_arg0) (ix2 (⟨16896 + (t.val * 32 + r.val), by have := lt_points t; omega⟩ : Fin 17408) j)

/-- The convolution's weights. -/
theorem conv_w (c : Dev nD) (k : Fin 4) (j : Fin 1024) :
    (V m c main_v0 : FVec Ideal S4x1024 .f32) (ix2 k j) = m ((c : Thread nD τ).loc main_arg3) (ix3 0 k j) := by
  simp only [V, List.flatten_cons, List.flatten_nil, hostOps0, List.append_nil]
  entry_read
  pointwise

/-- The convolution's bias. -/
theorem conv_b (c : Dev nD) (j : Fin 1024) :
    (V m c main_v2 : FVec Ideal S1x1024 .f32) (ix2 0 j) = m ((c : Thread nD τ).loc main_arg4) (ix2 0 j) := by
  simp only [V, List.flatten_cons, List.flatten_nil, hostOps0, List.append_nil]
  entry_read
  pointwise

/-- The decay rates. -/
theorem rates (c : Dev nD) (h : Fin 8) :
    (V m c main_v8 : FVec Ideal S1x128 .f32) (ix2 0 (⟨h.val, by omega⟩ : Fin 128)) = m ((c : Thread nD τ).loc main_arg5) (ix2 0 h) := by
  simp only [V, List.flatten_cons, List.flatten_nil, hostOps0, List.append_nil]
  entry_read
  refine (scatter_apply _ _ (funext fun i => ?_) _ h).trans ?_
  · idx_vars i
    fin_cases i0 <;> rfl
  exact cast8 _ _

/-- The skip factors, one for each of the 64 columns of a head. -/
theorem skips (c : Dev nD) (R : Fin 512) :
    (V m c main_v12 : FVec Ideal S1x512 .f32) (ix2 0 R) = m ((c : Thread nD τ).loc main_arg6) (ix2 0 (⟨R.val / 64, by omega⟩ : Fin 8)) := by
  simp only [V, List.flatten_cons, List.flatten_nil, hostOps0, List.append_nil]
  entry_read
  pointwise

/-- The gains. -/
theorem gains (c : Dev nD) (R : Fin 512) :
    (V m c main_v14 : FVec Ideal S1x512 .f32) (ix2 0 R) = m ((c : Thread nD τ).loc main_arg7) (ix2 0 R) := by
  simp only [V, List.flatten_cons, List.flatten_nil, hostOps0, List.append_nil]
  entry_read
  pointwise

/-- The kept rows of the sequences. -/
theorem kept_rows (c : Dev nD) (b : Fin 16) (k : Fin 3) (j : Fin 1024) :
    (V m c main_v15 : FVec Ideal S16x3x1024 .f32) (ix3 b k j) = m ((c : Thread nD τ).loc main_arg2) (ix4 0 b k j) := by
  simp only [V, List.flatten_cons, List.flatten_nil, hostOps0, List.append_nil]
  entry_read
  pointwise

/-- The states of the sequences. -/
theorem states (c : Dev nD) (b : Fin 16) (R : Fin 512) (j : Fin 128) :
    (V m c main_v17 : FVec Ideal S16x512x128 .f32) (ix3 b R j)
      = m ((c : Thread nD τ).loc main_arg1) (ix5 0 b (⟨R.val / 64, by omega⟩ : Fin 8) (⟨R.val % 64, by omega⟩ : Fin 64) j) := by
  simp only [V, List.flatten_cons, List.flatten_nil, hostOps0, List.append_nil]
  entry_read
  pointwise

/-- The gates of a point's rows. -/
theorem read_z (c : Dev nD) (t : Fin cfg0.N) (r : Fin 32) (j : Fin 512) :
    X0_0 m c t (ix2 r j) = entry m c t r ⟨1024 + j.val, by omega⟩ := by
  have := lt_points t
  unfold X0_0 Pipeline.Window.fill
  rw [dif_pos (moved0_0 t _)]
  refine Eq.trans ?_ (congrFun (V_main_arg0 m c) _)
  blk_ext [iblk, idx t]

/-- The channels of a point's rows. -/
theorem read_x (c : Dev nD) (t : Fin cfg0.N) (r : Fin 32) (j : Fin 1024) :
    X0_1 m c t (ix2 r j) = entry m c t r ⟨j.val, by omega⟩ := by
  have := lt_points t
  unfold X0_1 Pipeline.Window.fill
  rw [dif_pos (moved0_1 t _)]
  refine Eq.trans ?_ (congrFun (V_main_arg0 m c) _)
  blk_ext [iblk, idx t]

/-- The step sizes of a point's rows. -/
theorem read_dt (c : Dev nD) (t : Fin cfg0.N) (r : Fin 32) (j : Fin 128) :
    iblk m c 2 t (ix2 r j) = entry m c t r ⟨3072 + j.val, by omega⟩ := by
  have := lt_points t
  refine Eq.trans ?_ (congrFun (V_main_arg0 m c) _)
  blk_ext [iblk, idx t]

/-- The kept rows of a point. -/
theorem read_hist (c : Dev nD) (t : Fin cfg0.N) (k : Fin 3) (j : Fin 1024) :
    iblk m c 3 t (ix3 0 k j) = m ((c : Thread nD τ).loc main_arg2) (ix4 0 (⟨t.val, lt_points t⟩ : Fin 16) k j) := by
  have := lt_points t
  refine Eq.trans ?_ (kept_rows m c ⟨t.val, lt_points t⟩ k j)
  blk_ext [iblk, idx t]

/-- The state of a point. -/
theorem read_state (c : Dev nD) (t : Fin cfg0.N) (R : Fin 512) (j : Fin 128) :
    iblk m c 4 t (ix3 0 R j) = m ((c : Thread nD τ).loc main_arg1)
      (ix5 0 (⟨t.val, lt_points t⟩ : Fin 16) (⟨R.val / 64, by omega⟩ : Fin 8) (⟨R.val % 64, by omega⟩ : Fin 64) j) := by
  have := lt_points t
  refine Eq.trans ?_ (states m c ⟨t.val, lt_points t⟩ R j)
  blk_ext [iblk, idx t]

/-- The weights of a point. -/
theorem read_w (c : Dev nD) (t : Fin cfg0.N) (k : Fin 4) (j : Fin 1024) :
    iblk m c 5 t (ix2 k j) = m ((c : Thread nD τ).loc main_arg3) (ix3 0 k j) := by
  refine Eq.trans ?_ (conv_w m c k j)
  blk_ext [iblk, idx t]

/-- The bias of a point. -/
theorem read_b (c : Dev nD) (t : Fin cfg0.N) (j : Fin 1024) :
    iblk m c 6 t (ix2 0 j) = m ((c : Thread nD τ).loc main_arg4) (ix2 0 j) := by
  refine Eq.trans ?_ (conv_b m c j)
  blk_ext [iblk, idx t]

/-- The decay rates of a point. -/
theorem read_rate (c : Dev nD) (t : Fin cfg0.N) (h : Fin 8) :
    iblk m c 7 t (ix2 0 (⟨h.val, by omega⟩ : Fin 128)) = m ((c : Thread nD τ).loc main_arg5) (ix2 0 h) := by
  refine Eq.trans ?_ (rates m c h)
  blk_ext [iblk, idx t]

/-- The skip factors of a point. -/
theorem read_skip (c : Dev nD) (t : Fin cfg0.N) (R : Fin 512) :
    iblk m c 8 t (ix2 0 R) = m ((c : Thread nD τ).loc main_arg6) (ix2 0 (⟨R.val / 64, by omega⟩ : Fin 8)) := by
  refine Eq.trans ?_ (skips m c R)
  blk_ext [iblk, idx t]

/-- The gains of a point. -/
theorem read_gain (c : Dev nD) (t : Fin cfg0.N) (R : Fin 512) :
    iblk m c 9 t (ix2 0 R) = m ((c : Thread nD τ).loc main_arg7) (ix2 0 R) := by
  refine Eq.trans ?_ (gains m c R)
  blk_ext [iblk, idx t]

end Cert.SsdIdeal.Att

end
-- ==== Proof.SsdStep.lean ====
/- One sequence's step of the state-space mixer, element by element, and its parts' congruences. -/
module

public import proofs.«01_k».proof.Proof.SsdMath

@[expose] public section

noncomputable section

namespace Cert.SsdMath

open Idealize.ShloMosaic

/-- What one sequence's step reads: its rows, its kept rows, the weights, and its state. -/
structure Step where
  entry : Fin 32 → Fin 3328 → EReal
  hist : Fin 3 → Fin 1024 → EReal
  w : Fin 4 → Fin 1024 → EReal
  bias : Fin 1024 → EReal
  rate : Fin 8 → EReal
  skip : Fin 8 → EReal
  gain : Fin 512 → EReal
  start : Fin 512 → Fin 128 → EReal

variable (S : Step)

/-- The head of a column. -/
def head (R : Fin 512) : Fin 8 := ⟨R.val / 64, by omega⟩

/-- The channel that carries the row `n` of a column's group, from the channel `o` on. -/
def chan (o : Fin 769) (R : Fin 512) (n : Fin 128) : Fin 1024 := ⟨o.val + R.val / 256 * 128 + n.val, by omega⟩

/-- A channel after the convolution and its gate. -/
def Step.act (r : Fin 32) (j : Fin 1024) : EReal :=
  silu (conv (fun k => S.hist k j) (fun r => S.entry r ⟨j.val, by omega⟩) (fun k => S.w k j) (S.bias j) r)

/-- The step size of a row at a head. -/
def Step.size (h : Fin 8) (k : Fin 32) : EReal := S.entry k ⟨3072 + h.val, by omega⟩

/-- The decay exponent of a row at a head. -/
def Step.expo (h : Fin 8) (k : Fin 32) : EReal := S.size h k * -Ideal.exp (S.rate h)

/-- The decay exponents up to a row. -/
def Step.decay (h : Fin 8) (r : Fin 32) : EReal := upTo (S.expo h) r

/-- A column scaled by the step size. -/
def Step.scaled (R : Fin 512) (k : Fin 32) : EReal := S.act k ⟨R.val, by omega⟩ * S.size (head R) k

/-- The state the step leaves. -/
def Step.state (R : Fin 512) (n : Fin 128) : EReal :=
  kept (S.decay (head R)) (S.scaled R) (fun k => S.act k (chan 512 R n)) (S.start R n)

/-- A row's column before the gate. -/
def Step.row (t : Fin 32) (R : Fin 512) : EReal :=
  mixed (S.decay (head R)) (S.scaled R) (fun s => ∑ n : Fin 128, S.act t (chan 768 R n) * S.act s (chan 512 R n)) t
    (∑ n : Fin 128, S.act t (chan 768 R n) * S.start R n) (S.skip (head R)) (S.act t ⟨R.val, by omega⟩)

/-- A row's column after the gate. -/
def Step.gated (t : Fin 32) (R : Fin 512) : EReal := S.row t R * silu (S.entry t ⟨1024 + R.val, by omega⟩)

/-- A row's column after the norm of its group. -/
def Step.out (t : Fin 32) (R : Fin 512) : EReal :=
  norm (fun k => S.gated t ⟨R.val / 256 * 256 + k.val, by omega⟩) (fun k => S.gain ⟨R.val / 256 * 256 + k.val, by omega⟩)
    ⟨R.val % 256, by omega⟩

/-- The rows kept for the next step. -/
def Step.last (k : Fin 3) (j : Fin 1024) : EReal := S.entry ⟨29 + k.val, by omega⟩ ⟨j.val, by omega⟩

theorem kept_congr {a a' x x' b b' : Fin 32 → EReal} {s s' : EReal} (ha : a = a') (hx : ∀ k, x k = x' k) (hb : ∀ k, b k = b' k)
    (hs : s = s') : kept a x b s = kept a' x' b' s' := by
  rw [ha, funext hx, funext hb, hs]

theorem mixed_congr {a a' x x' cb cb' : Fin 32 → EReal} {t : Fin 32} {o o' d d' v v' : EReal} (ha : a = a') (hx : ∀ k, x k = x' k)
    (hb : ∀ k, cb k = cb' k) (ho : o = o') (hd : d = d') (hv : v = v') : mixed a x cb t o d v = mixed a' x' cb' t o' d' v' := by
  rw [ha, funext hx, funext hb, ho, hd, hv]

theorem norm_congr {x x' g g' : Fin 256 → EReal} {k k' : Fin 256} (hx : ∀ k, x k = x' k) (hg : ∀ k, g k = g' k) (hk : k = k') :
    norm x g k = norm x' g' k' := by
  rw [funext hx, funext hg, hk]

end Cert.SsdMath

end
-- ==== Proof.SsdValue.lean ====
/- The state-space mixer's step at one grid point: what its kernel's stores hold, element by element. -/
module

public import proofs.«01_k».proof.Proof.Gen.SsdIdeal.Value
public import proofs.«01_k».proof.Proof.SsdBlocks
public import proofs.«01_k».proof.Proof.SsdStep
public import Idealize.ShloMosaic.Lib.Pipeline.ReadBack

@[expose] public section

set_option maxRecDepth 16384

noncomputable section

namespace Cert.SsdIdeal.Att

open Idealize.ShloMosaic Idealize.ShloMosaic.TcCoe Idealize.SL.Sem
open Cert.SsdIdeal Cert.SsdIdeal.Gen
open SsdMath (Step)

/-- A load reads the last store where that store wrote. -/
theorem read_hit {s : Shape} {e : EltTy} (v : View sig .tc .vmem s e) (r : Rect s) (w : r.shape.Idx → Elt Ideal e) (L : List (View.Piece (Elt Ideal) s e))
    (B : Rect s) (x : B.shape.Idx) (y : r.shape.Idx) (h : B.emb x = r.emb y) :
    v.readCov (Val := Elt Ideal) (⟨r, w⟩ :: L) B.toLoadRect x = w y := by
  rw [View.readCov_eq_canon']
  exact (congrArg _ h).trans (View.canon_cons_emb _ _ _ _)

/-- A load reads the stores before the last where that one did not write. -/
theorem read_miss {s : Shape} {e : EltTy} (v : View sig .tc .vmem s e) (r : Rect s) (w : r.shape.Idx → Elt Ideal e) (L : List (View.Piece (Elt Ideal) s e))
    (B : Rect s) (x : B.shape.Idx) (h : B.emb x ∉ r.set) :
    v.readCov (Val := Elt Ideal) (⟨r, w⟩ :: L) B.toLoadRect x = v.readCov (Val := Elt Ideal) L B.toLoadRect x := by
  rw [View.readCov_eq_canon', View.readCov_eq_canon']
  exact View.canon_cons_of_not_mem _ _ h

/-- A load of rows at a row the last store wrote. -/
theorem rows_hit {R C k o k' o' : ℕ} {e : EltTy} (v : View sig .tc .vmem (⟨2, ![R, C]⟩ : Shape) e)
    (inb : ∀ a, (![o, 0] : Fin 2 → ℕ) a + (![k, C] : Fin 2 → ℕ) a ≤ (![R, C] : Fin 2 → ℕ) a)
    (inb' : ∀ a, (![o', 0] : Fin 2 → ℕ) a + (![k', C] : Fin 2 → ℕ) a ≤ (![R, C] : Fin 2 → ℕ) a)
    (w : (⟨2, ![k, C]⟩ : Shape).Idx → Elt Ideal e) (L : List (View.Piece (Elt Ideal) (⟨2, ![R, C]⟩ : Shape) e)) (r : Fin k') (j : Fin C) (r' : Fin k)
    (h : o' + r.val = o + r'.val) :
    v.readCov (Val := Elt Ideal) (⟨Rect.unit (s := (⟨2, ![R, C]⟩ : Shape)) ![o, 0] ![k, C] inb, w⟩ :: L)
      (Rect.unit (s := (⟨2, ![R, C]⟩ : Shape)) ![o', 0] ![k', C] inb').toLoadRect (ix2 r j) = w (ix2 r' j) := by
  refine read_hit v (Rect.unit (s := (⟨2, ![R, C]⟩ : Shape)) ![o, 0] ![k, C] inb) w L
    (Rect.unit (s := (⟨2, ![R, C]⟩ : Shape)) ![o', 0] ![k', C] inb') (ix2 r j) (ix2 r' j) ?_
  funext a
  refine Fin.ext ?_
  fin_cases a
  · show o' + 1 * r.val = o + 1 * r'.val
    omega
  · rfl

/-- A load of rows at a row the last store did not write. -/
theorem rows_miss {R C k o k' o' : ℕ} {e : EltTy} (v : View sig .tc .vmem (⟨2, ![R, C]⟩ : Shape) e)
    (inb : ∀ a, (![o, 0] : Fin 2 → ℕ) a + (![k, C] : Fin 2 → ℕ) a ≤ (![R, C] : Fin 2 → ℕ) a)
    (inb' : ∀ a, (![o', 0] : Fin 2 → ℕ) a + (![k', C] : Fin 2 → ℕ) a ≤ (![R, C] : Fin 2 → ℕ) a)
    (w : (⟨2, ![k, C]⟩ : Shape).Idx → Elt Ideal e) (L : List (View.Piece (Elt Ideal) (⟨2, ![R, C]⟩ : Shape) e)) (r : Fin k') (j : Fin C)
    (h : o' + r.val < o ∨ o + k ≤ o' + r.val) :
    v.readCov (Val := Elt Ideal) (⟨Rect.unit (s := (⟨2, ![R, C]⟩ : Shape)) ![o, 0] ![k, C] inb, w⟩ :: L)
      (Rect.unit (s := (⟨2, ![R, C]⟩ : Shape)) ![o', 0] ![k', C] inb').toLoadRect (ix2 r j)
    = v.readCov (Val := Elt Ideal) L (Rect.unit (s := (⟨2, ![R, C]⟩ : Shape)) ![o', 0] ![k', C] inb').toLoadRect (ix2 r j) := by
  refine read_miss v (Rect.unit (s := (⟨2, ![R, C]⟩ : Shape)) ![o, 0] ![k, C] inb) w L
    (Rect.unit (s := (⟨2, ![R, C]⟩ : Shape)) ![o', 0] ![k', C] inb') (ix2 r j) ?_
  intro z
  have z1 := (Rect.mem_set_unit (inb := inb)).mp z 0
  have a1 : o ≤ o' + 1 * r.val := z1.1
  have a2 : o' + 1 * r.val < o + k := z1.2
  omega

/-- A load of columns at a column the last store wrote. -/
theorem cols_hit {R C k o k' o' : ℕ} {e : EltTy} (v : View sig .tc .vmem (⟨2, ![R, C]⟩ : Shape) e)
    (inb : ∀ a, (![0, o] : Fin 2 → ℕ) a + (![R, k] : Fin 2 → ℕ) a ≤ (![R, C] : Fin 2 → ℕ) a)
    (inb' : ∀ a, (![0, o'] : Fin 2 → ℕ) a + (![R, k'] : Fin 2 → ℕ) a ≤ (![R, C] : Fin 2 → ℕ) a)
    (w : (⟨2, ![R, k]⟩ : Shape).Idx → Elt Ideal e) (L : List (View.Piece (Elt Ideal) (⟨2, ![R, C]⟩ : Shape) e)) (r : Fin R) (j : Fin k') (j' : Fin k)
    (h : o' + j.val = o + j'.val) :
    v.readCov (Val := Elt Ideal) (⟨Rect.unit (s := (⟨2, ![R, C]⟩ : Shape)) ![0, o] ![R, k] inb, w⟩ :: L)
      (Rect.unit (s := (⟨2, ![R, C]⟩ : Shape)) ![0, o'] ![R, k'] inb').toLoadRect (ix2 r j) = w (ix2 r j') := by
  refine read_hit v (Rect.unit (s := (⟨2, ![R, C]⟩ : Shape)) ![0, o] ![R, k] inb) w L
    (Rect.unit (s := (⟨2, ![R, C]⟩ : Shape)) ![0, o'] ![R, k'] inb') (ix2 r j) (ix2 r j') ?_
  funext a
  refine Fin.ext ?_
  fin_cases a
  · rfl
  · show o' + 1 * j.val = o + 1 * j'.val
    omega

/-- A load of columns at a column the last store did not write. -/
theorem cols_miss {R C k o k' o' : ℕ} {e : EltTy} (v : View sig .tc .vmem (⟨2, ![R, C]⟩ : Shape) e)
    (inb : ∀ a, (![0, o] : Fin 2 → ℕ) a + (![R, k] : Fin 2 → ℕ) a ≤ (![R, C] : Fin 2 → ℕ) a)
    (inb' : ∀ a, (![0, o'] : Fin 2 → ℕ) a + (![R, k'] : Fin 2 → ℕ) a ≤ (![R, C] : Fin 2 → ℕ) a)
    (w : (⟨2, ![R, k]⟩ : Shape).Idx → Elt Ideal e) (L : List (View.Piece (Elt Ideal) (⟨2, ![R, C]⟩ : Shape) e)) (r : Fin R) (j : Fin k')
    (h : o' + j.val < o ∨ o + k ≤ o' + j.val) :
    v.readCov (Val := Elt Ideal) (⟨Rect.unit (s := (⟨2, ![R, C]⟩ : Shape)) ![0, o] ![R, k] inb, w⟩ :: L)
      (Rect.unit (s := (⟨2, ![R, C]⟩ : Shape)) ![0, o'] ![R, k'] inb').toLoadRect (ix2 r j)
    = v.readCov (Val := Elt Ideal) L (Rect.unit (s := (⟨2, ![R, C]⟩ : Shape)) ![0, o'] ![R, k'] inb').toLoadRect (ix2 r j) := by
  refine read_miss v (Rect.unit (s := (⟨2, ![R, C]⟩ : Shape)) ![0, o] ![R, k] inb) w L
    (Rect.unit (s := (⟨2, ![R, C]⟩ : Shape)) ![0, o'] ![R, k'] inb') (ix2 r j) ?_
  intro z
  have z1 := (Rect.mem_set_unit (inb := inb)).mp z 1
  have a1 : o ≤ o' + 1 * j.val := z1.1
  have a2 : o' + 1 * j.val < o + k := z1.2
  omega

/-- The kept rows as the scratch holds them. -/
theorem pay2_apply (x : Vec Ideal S1x3x1024 .f32) (k : Fin 3) (j : Fin 1024) : k0_pay2 x (ix2 k j) = x (ix3 0 k j) := by
  unfold k0_pay2
  pointwise

theorem pay4_apply (x : Vec Ideal S32x1024 .f32) (k : Fin 32) (j : Fin 1024) : k0_pay4 x (ix2 k j) = x (ix2 k j) := by
  unfold k0_pay4
  pointwise

/-- The kept rows and the new ones after them, loaded from the row `o` on. -/
theorem window_apply {k' o : ℕ} (new : Vec Ideal S32x1024 .f32) (hist : Vec Ideal S1x3x1024 .f32)
    (inb : ∀ a, (![o, 0] : Fin 2 → ℕ) a + (![k', 1024] : Fin 2 → ℕ) a ≤ (![40, 1024] : Fin 2 → ℕ) a) (h : 5 ≤ o) (r : Fin k') (j : Fin 1024)
    (i : Fin 35) (hi : o + r.val = 5 + i.val) :
    (View.whole cc0_scratch0).readCov (Val := Elt Ideal)
        [⟨Rect.unit (s := S40x1024) ![8, 0] ![32, 1024] inb_S40x1024_S32x1024_8_0, k0_pay4 new⟩,
          ⟨Rect.unit (s := S40x1024) ![5, 0] ![3, 1024] inb_S40x1024_S3x1024_5_0, k0_pay2 hist⟩]
        (Rect.unit (s := S40x1024) ![o, 0] ![k', 1024] inb).toLoadRect (ix2 r j)
      = SsdMath.rows (fun k => hist (ix3 0 k j)) (fun r => new (ix2 r j)) i := by
  unfold SsdMath.rows
  by_cases h : i.val < 3
  · rw [dif_pos h]
    exact (rows_miss (View.whole cc0_scratch0) inb_S40x1024_S32x1024_8_0 inb _ _ r j (by omega)).trans
      ((rows_hit (View.whole cc0_scratch0) inb_S40x1024_S3x1024_5_0 inb _ _ r j ⟨i.val, h⟩ (by simp only; omega)).trans (pay2_apply _ _ _))
  · rw [dif_neg h]
    exact (rows_hit (View.whole cc0_scratch0) inb_S40x1024_S32x1024_8_0 inb _ _ r j ⟨i.val - 3, by omega⟩ (by simp only; omega)).trans
      (pay4_apply _ _ _)

/-- Four blocks of 128 rows, over anything. -/
theorem stack_apply (a0 a1 a2 a3 : Vec Ideal S128x128 .f32) (L : List (View.Piece (Elt Ideal) S512x128 .f32)) (f : Fin 512 → Fin 128 → EReal)
    (h0 : ∀ r j, a0 (ix2 r j) = f ⟨r.val, by omega⟩ j) (h1 : ∀ r j, a1 (ix2 r j) = f ⟨128 + r.val, by omega⟩ j)
    (h2 : ∀ r j, a2 (ix2 r j) = f ⟨256 + r.val, by omega⟩ j) (h3 : ∀ r j, a3 (ix2 r j) = f ⟨384 + r.val, by omega⟩ j)
    (R : Fin 512) (j : Fin 128) :
    (View.whole cc0_scratch1).readCov (Val := Elt Ideal)
        (⟨Rect.unit (s := S512x128) ![384, 0] ![128, 128] inb_S512x128_S128x128_384_0, a3⟩ ::
          ⟨Rect.unit (s := S512x128) ![256, 0] ![128, 128] inb_S512x128_S128x128_256_0, a2⟩ ::
          ⟨Rect.unit (s := S512x128) ![128, 0] ![128, 128] inb_S512x128_S128x128_128_0, a1⟩ ::
          ⟨Rect.unit (s := S512x128) ![0, 0] ![128, 128] inb_S512x128_S128x128_0_0, a0⟩ :: L)
        (Rect.unit (s := S512x128) ![0, 0] ![512, 128] inb_S512x128_S512x128_0_0).toLoadRect (ix2 R j)
      = f R j := by
  by_cases q3 : 384 ≤ R.val
  · refine (rows_hit (View.whole cc0_scratch1) inb_S512x128_S128x128_384_0 inb_S512x128_S512x128_0_0 _ _ R j
      ⟨R.val - 384, by omega⟩ (by simp only; omega)).trans ((h3 _ _).trans (congrArg (f · j) (Fin.ext ?_)))
    simp only
    omega
  refine (rows_miss (View.whole cc0_scratch1) inb_S512x128_S128x128_384_0 inb_S512x128_S512x128_0_0 _ _ R j (by omega)).trans ?_
  by_cases q2 : 256 ≤ R.val
  · refine (rows_hit (View.whole cc0_scratch1) inb_S512x128_S128x128_256_0 inb_S512x128_S512x128_0_0 _ _ R j
      ⟨R.val - 256, by omega⟩ (by simp only; omega)).trans ((h2 _ _).trans (congrArg (f · j) (Fin.ext ?_)))
    simp only
    omega
  refine (rows_miss (View.whole cc0_scratch1) inb_S512x128_S128x128_256_0 inb_S512x128_S512x128_0_0 _ _ R j (by omega)).trans ?_
  by_cases q1 : 128 ≤ R.val
  · refine (rows_hit (View.whole cc0_scratch1) inb_S512x128_S128x128_128_0 inb_S512x128_S512x128_0_0 _ _ R j
      ⟨R.val - 128, by omega⟩ (by simp only; omega)).trans ((h1 _ _).trans (congrArg (f · j) (Fin.ext ?_)))
    simp only
    omega
  refine (rows_miss (View.whole cc0_scratch1) inb_S512x128_S128x128_128_0 inb_S512x128_S512x128_0_0 _ _ R j (by omega)).trans ?_
  exact (rows_hit (View.whole cc0_scratch1) inb_S512x128_S128x128_0_0 inb_S512x128_S512x128_0_0 _ _ R j
      ⟨R.val, by omega⟩ rfl).trans (h0 _ _)

/-- Four blocks of 128 columns. -/
theorem beside_apply (a0 a1 a2 a3 : Vec Ideal S32x128 .f32) (f : Fin 32 → Fin 512 → EReal)
    (h0 : ∀ t r, a0 (ix2 t r) = f t ⟨r.val, by omega⟩) (h1 : ∀ t r, a1 (ix2 t r) = f t ⟨128 + r.val, by omega⟩)
    (h2 : ∀ t r, a2 (ix2 t r) = f t ⟨256 + r.val, by omega⟩) (h3 : ∀ t r, a3 (ix2 t r) = f t ⟨384 + r.val, by omega⟩)
    (t : Fin 32) (R : Fin 512) :
    (View.whole cc0_scratch2).readCov (Val := Elt Ideal)
        [⟨Rect.unit (s := S32x512) ![0, 384] ![32, 128] inb_S32x512_S32x128_0_384, a3⟩,
          ⟨Rect.unit (s := S32x512) ![0, 256] ![32, 128] inb_S32x512_S32x128_0_256, a2⟩,
          ⟨Rect.unit (s := S32x512) ![0, 128] ![32, 128] inb_S32x512_S32x128_0_128, a1⟩,
          ⟨Rect.unit (s := S32x512) ![0, 0] ![32, 128] inb_S32x512_S32x128_0_0, a0⟩]
        (Rect.unit (s := S32x512) ![0, 0] ![32, 512] inb_S32x512_S32x512_0_0).toLoadRect (ix2 t R)
      = f t R := by
  by_cases q3 : 384 ≤ R.val
  · refine (cols_hit (View.whole cc0_scratch2) inb_S32x512_S32x128_0_384 inb_S32x512_S32x512_0_0 _ _ t R
      ⟨R.val - 384, by omega⟩ (by simp only; omega)).trans ((h3 _ _).trans (congrArg (f t) (Fin.ext ?_)))
    simp only
    omega
  refine (cols_miss (View.whole cc0_scratch2) inb_S32x512_S32x128_0_384 inb_S32x512_S32x512_0_0 _ _ t R (by omega)).trans ?_
  by_cases q2 : 256 ≤ R.val
  · refine (cols_hit (View.whole cc0_scratch2) inb_S32x512_S32x128_0_256 inb_S32x512_S32x512_0_0 _ _ t R
      ⟨R.val - 256, by omega⟩ (by simp only; omega)).trans ((h2 _ _).trans (congrArg (f t) (Fin.ext ?_)))
    simp only
    omega
  refine (cols_miss (View.whole cc0_scratch2) inb_S32x512_S32x128_0_256 inb_S32x512_S32x512_0_0 _ _ t R (by omega)).trans ?_
  by_cases q1 : 128 ≤ R.val
  · refine (cols_hit (View.whole cc0_scratch2) inb_S32x512_S32x128_0_128 inb_S32x512_S32x512_0_0 _ _ t R
      ⟨R.val - 128, by omega⟩ (by simp only; omega)).trans ((h1 _ _).trans (congrArg (f t) (Fin.ext ?_)))
    simp only
    omega
  refine (cols_miss (View.whole cc0_scratch2) inb_S32x512_S32x128_0_128 inb_S32x512_S32x512_0_0 _ _ t R (by omega)).trans ?_
  exact (cols_hit (View.whole cc0_scratch2) inb_S32x512_S32x128_0_0 inb_S32x512_S32x512_0_0 _ _ t R
      ⟨R.val, by omega⟩ rfl).trans (h0 _ _)

/-- One row of an array. -/
theorem ld_row {R C o : ℕ} {e : EltTy} (x : (⟨2, ![R, C]⟩ : Shape).Idx → Elt Ideal e)
    (inb : ∀ a, (![o, 0] : Fin 2 → ℕ) a + (![1, C] : Fin 2 → ℕ) a ≤ (![R, C] : Fin 2 → ℕ) a) (j : Fin C) (i : Fin R) (hi : i.val = o) :
    View.ld (Val := Elt Ideal) x (Rect.unit (s := (⟨2, ![R, C]⟩ : Shape)) ![o, 0] ![1, C] inb) (ix2 0 j) = x (ix2 i j) := by
  refine congrArg x (funext fun a => Fin.ext ?_)
  fin_cases a
  · show o + 1 * 0 = i.val
    omega
  · show 0 + 1 * j.val = j.val
    omega

/-- Some columns of an array of one row. -/
theorem ld_cols {C k o : ℕ} {e : EltTy} (x : (⟨2, ![1, C]⟩ : Shape).Idx → Elt Ideal e)
    (inb : ∀ a, (![0, o] : Fin 2 → ℕ) a + (![1, k] : Fin 2 → ℕ) a ≤ (![1, C] : Fin 2 → ℕ) a) (j : Fin k) (i : Fin C) (hi : i.val = o + j.val) :
    View.ld (Val := Elt Ideal) x (Rect.unit (s := (⟨2, ![1, C]⟩ : Shape)) ![0, o] ![1, k] inb) (ix2 0 j) = x (ix2 0 i) := by
  refine congrArg x (funext fun a => Fin.ext ?_)
  fin_cases a
  · rfl
  · show o + 1 * j.val = i.val
    omega

/-- Some rows of an array. -/
theorem ld_rows {R C k o : ℕ} {e : EltTy} (x : (⟨2, ![R, C]⟩ : Shape).Idx → Elt Ideal e)
    (inb : ∀ a, (![o, 0] : Fin 2 → ℕ) a + (![k, C] : Fin 2 → ℕ) a ≤ (![R, C] : Fin 2 → ℕ) a) (r : Fin k) (j : Fin C) (i : Fin R) (hi : i.val = o + r.val) :
    View.ld (Val := Elt Ideal) x (Rect.unit (s := (⟨2, ![R, C]⟩ : Shape)) ![o, 0] ![k, C] inb) (ix2 r j) = x (ix2 i j) := by
  refine congrArg x (funext fun a => Fin.ext ?_)
  fin_cases a
  · show o + 1 * r.val = i.val
    omega
  · show 0 + 1 * j.val = j.val
    omega

variable (m : (ℓ : Loc nD τ sig) → Buf (Elt Ideal) ℓ)

/-- What a point's step reads. -/
def step (c : Dev nD) (t : Fin cfg0.N) : Step where
  entry := entry m c t
  hist k j := m ((c : Thread nD τ).loc main_arg2) (ix4 0 (⟨t.val, lt_points t⟩ : Fin 16) k j)
  w k j := m ((c : Thread nD τ).loc main_arg3) (ix3 0 k j)
  bias j := m ((c : Thread nD τ).loc main_arg4) (ix2 0 j)
  rate h := m ((c : Thread nD τ).loc main_arg5) (ix2 0 h)
  skip h := m ((c : Thread nD τ).loc main_arg6) (ix2 0 h)
  gain R := m ((c : Thread nD τ).loc main_arg7) (ix2 0 R)
  start R j := m ((c : Thread nD τ).loc main_arg1)
    (ix5 0 (⟨t.val, lt_points t⟩ : Fin 16) (⟨R.val / 64, by omega⟩ : Fin 8) (⟨R.val % 64, by omega⟩ : Fin 64) j)

/-- A window of a point's rows. -/
theorem window_step (c : Dev nD) (t : Fin cfg0.N) {k' o : ℕ}
    (inb : ∀ a, (![o, 0] : Fin 2 → ℕ) a + (![k', 1024] : Fin 2 → ℕ) a ≤ (![40, 1024] : Fin 2 → ℕ) a) (h : 5 ≤ o) (r : Fin k') (j : Fin 1024)
    (i : Fin 35) (hi : o + r.val = 5 + i.val) :
    (View.whole cc0_scratch0).readCov (Val := Elt Ideal)
        [⟨Rect.unit (s := S40x1024) ![8, 0] ![32, 1024] inb_S40x1024_S32x1024_8_0, k0_pay4 (X0_1 m c t)⟩,
          ⟨Rect.unit (s := S40x1024) ![5, 0] ![3, 1024] inb_S40x1024_S3x1024_5_0, k0_pay2 (iblk m c 3 t)⟩]
        (Rect.unit (s := S40x1024) ![o, 0] ![k', 1024] inb).toLoadRect (ix2 r j)
      = SsdMath.rows (fun k => (step m c t).hist k j) (fun r => (step m c t).entry r ⟨j.val, by omega⟩) i := by
  refine (window_apply (X0_1 m c t) (iblk m c 3 t) inb h r j i hi).trans ?_
  simp only [read_hist, read_x]
  rfl

/-- A point's channels after the convolution and the gate. -/
theorem act_step (c : Dev nD) (t : Fin cfg0.N) (x0 x1 x2 x3 : Vec Ideal S32x1024 .f32) (w0 w1 w2 w3 : Vec Ideal S1x1024 .f32)
    (h0 : ∀ r j, x0 (ix2 r j) = SsdMath.rows (fun k => (step m c t).hist k j) (fun r => (step m c t).entry r ⟨j.val, by omega⟩) ⟨r.val, by omega⟩)
    (h1 : ∀ r j, x1 (ix2 r j) = SsdMath.rows (fun k => (step m c t).hist k j) (fun r => (step m c t).entry r ⟨j.val, by omega⟩) ⟨r.val + 1, by omega⟩)
    (h2 : ∀ r j, x2 (ix2 r j) = SsdMath.rows (fun k => (step m c t).hist k j) (fun r => (step m c t).entry r ⟨j.val, by omega⟩) ⟨r.val + 2, by omega⟩)
    (h3 : ∀ r j, x3 (ix2 r j) = SsdMath.rows (fun k => (step m c t).hist k j) (fun r => (step m c t).entry r ⟨j.val, by omega⟩) ⟨r.val + 3, by omega⟩)
    (g0 : ∀ j, w0 (ix2 0 j) = (step m c t).w 0 j) (g1 : ∀ j, w1 (ix2 0 j) = (step m c t).w 1 j)
    (g2 : ∀ j, w2 (ix2 0 j) = (step m c t).w 2 j) (g3 : ∀ j, w3 (ix2 0 j) = (step m c t).w 3 j) (r : Fin 32) (j : Fin 1024) :
    k0_pay9 (k0_pay5 (iblk m c 6 t) x0 w0 x1 w1 x2 w2) x3 (k0_pay6 w3) (ix2 r j) = (step m c t).act r j := by
  rw [pay9_apply, pay5_apply, pay6_apply, h0, h1, h2, h3, g0, g1, g2, g3, read_b]
  rfl

/-- The rows of the weights. -/
theorem row_w (c : Dev nD) (t : Fin cfg0.N) (o : Fin 4) (inb : ∀ a, (![o.val, 0] : Fin 2 → ℕ) a + (![1, 1024] : Fin 2 → ℕ) a ≤ (![4, 1024] : Fin 2 → ℕ) a)
    (j : Fin 1024) :
    View.ld (Val := Elt Ideal) (iblk m c 5 t) (Rect.unit (s := S4x1024) ![o.val, 0] ![1, 1024] inb) (ix2 0 j) = (step m c t).w o j :=
  (ld_row (iblk m c 5 t) inb j o rfl).trans (read_w m c t o j)

/-- The rows kept for the next step. -/
theorem block12 (c : Dev nD) (t : Fin cfg0.N) (k : Fin 3) (j : Fin 1024) :
    (outsAt0 m c t).2.2 (ix3 0 k j) = (step m c t).last k j := by
  simp only [outsAt0]
  frame_out
  have e : ∀ x : Vec Ideal S3x1024 .f32, k0_pay7 x (ix3 0 k j) = x (ix2 k j) := fun x => by
    unfold k0_pay7
    pointwise
  refine (e _).trans ((window_step m c t inb_S40x1024_S3x1024_37_0 (by omega) k j ⟨32 + k.val, by omega⟩ (by simp only; omega)).trans ?_)
  unfold SsdMath.rows SsdMath.Step.last
  rw [dif_neg (by simp only; omega)]
  exact congrArg ((step m c t).entry · _) (Fin.ext (by simp only; omega))

/-- What the kernel's intermediate arrays hold of a step. -/
structure Holds (S : Step) (xs : FVec Ideal S32x512 .f32) (bm cm : FVec Ideal S32x256 .bf16) (dt : Vec Ideal S32x128 .f32)
    (acs : FVec Ideal S32x128 .f32) (acst : FVec Ideal S128x32 .f32) : Prop where
  xs : ∀ r j, xs (ix2 r j) = S.act r ⟨j.val, by omega⟩
  bm : ∀ r j, bm (ix2 r j) = S.act r ⟨512 + j.val, by omega⟩
  cm : ∀ r j, cm (ix2 r j) = S.act r ⟨768 + j.val, by omega⟩
  dt : ∀ k (h : Fin 8) (h' : Fin 128), h'.val = h.val → dt (ix2 k h') = S.size h k
  acs : ∀ k (h : Fin 8) (h' : Fin 128), h'.val = h.val → acs (ix2 k h') = S.decay h k
  acst : ∀ k (h : Fin 8) (h' : Fin 128), h'.val = h.val → acst (ix2 h' k) = S.decay h k

variable {S : Step} {xs : FVec Ideal S32x512 .f32} {bm cm : FVec Ideal S32x256 .bf16} {dt : Vec Ideal S32x128 .f32}
    {acs : FVec Ideal S32x128 .f32} {acst : FVec Ideal S128x32 .f32}

/-- Pair 0: whose decays a column uses. -/
theorem pair0 (H : Holds S xs bm cm dt acs acst) (r : Fin 128) :
    (if r.val < 64 then fun k => acs (ix2 k 0) else fun k => acs (ix2 k 1)) = S.decay (SsdMath.head ⟨r.val, by omega⟩) := by
  funext k
  by_cases h : r.val < 64
  · rw [if_pos h]
    exact H.acs k _ _ (by show 0 = r.val / 64; omega)
  · rw [if_neg h]
    exact H.acs k _ _ (by show 1 = r.val / 64; omega)

theorem scaled0 (H : Holds S xs bm cm dt acs acst) (k : Fin 32) (r : Fin 128) :
    k0_pay29 xs dt k0_pay19 (ix2 k r) = S.scaled ⟨r.val, by omega⟩ k := by
  rw [(scaled_apply xs dt k r).1, H.xs]
  refine congrArg (S.act k _ * ·) ?_
  by_cases h : r.val < 64
  · rw [if_pos h]
    exact H.dt k _ _ (by show 0 = r.val / 64; omega)
  · rw [if_neg h]
    exact H.dt k _ _ (by show 1 = r.val / 64; omega)

theorem state_step0 (H : Holds S xs bm cm dt acs acst) (st : Vec Ideal S128x128 .f32)
    (hst : ∀ r j, st (ix2 r j) = S.start ⟨r.val, by omega⟩ j) (r j : Fin 128) :
    k0_pay35 (k0_pay34 k0_pay17 k0_pay19 k0_pay20 (k0_pay25 bm) (k0_pay27 acs) (k0_pay28 acs) (k0_pay29 xs dt k0_pay19) st) (ix2 r j) = S.state ⟨r.val, by omega⟩ j := by
  refine (state0 bm acs (k0_pay29 xs dt k0_pay19) st r j).trans ?_
  refine SsdMath.kept_congr (pair0 H r) (fun k => scaled0 H k r) (fun k => (H.bm _ _).trans ?_) (hst r j)
  exact congrArg (S.act k) (Fin.ext (by simp only [SsdMath.chan]; omega))

theorem row_step0 (H : Holds S xs bm cm dt acs acst) (st : Vec Ideal S128x128 .f32)
    (hst : ∀ r j, st (ix2 r j) = S.start ⟨r.val, by omega⟩ j) (d : Vec Ideal S1x128 .f32)
    (hd : ∀ r, d (ix2 0 r) = S.skip (SsdMath.head ⟨r.val, by omega⟩)) (t : Fin 32) (r : Fin 128) :
    k0_pay36 (k0_pay26 xs) (k0_pay33 k0_pay19 (k0_pay24 cm) (k0_pay27 acs) (k0_pay28 acs) (k0_pay29 xs dt k0_pay19)
      (k0_pay30 k0_pay19) (k0_pay31 xs bm dt k0_pay15 acs acst k0_pay19 (k0_pay21 cm))
      (k0_pay32 bm k0_pay15 acs acst (k0_pay21 cm)) st) d (ix2 t r) = S.row t ⟨r.val, by omega⟩ := by
  refine (row0 xs bm cm dt acs acst st d t r (fun s => (H.acst s 0 _ rfl).trans (H.acs s 0 _ rfl).symm)
    (fun s => (H.acst s 1 _ rfl).trans (H.acs s 1 _ rfl).symm)).trans ?_
  refine SsdMath.mixed_congr (pair0 H r) (fun k => scaled0 H k r) (fun k => ?_) ?_ (hd r) ((H.xs _ _).trans ?_)
  · refine Finset.sum_congr rfl fun n _ => ?_
    rw [H.cm, H.bm]
    exact congrArg₂ (· * ·) (congrArg (S.act t) (Fin.ext (by simp only [SsdMath.chan]; omega)))
      (congrArg (S.act k) (Fin.ext (by simp only [SsdMath.chan]; omega)))
  · refine Finset.sum_congr rfl fun n _ => ?_
    rw [H.cm, hst]
    exact congrArg (· * _) (congrArg (S.act t) (Fin.ext (by simp only [SsdMath.chan]; omega)))
  · rfl

/-- Pair 1: whose decays a column uses. -/
theorem pair1 (H : Holds S xs bm cm dt acs acst) (r : Fin 128) :
    (if r.val < 64 then fun k => acs (ix2 k 2) else fun k => acs (ix2 k 3)) = S.decay (SsdMath.head ⟨128 + r.val, by omega⟩) := by
  funext k
  by_cases h : r.val < 64
  · rw [if_pos h]
    exact H.acs k _ _ (by show 2 = (128 + r.val) / 64; omega)
  · rw [if_neg h]
    exact H.acs k _ _ (by show 3 = (128 + r.val) / 64; omega)

theorem scaled1 (H : Holds S xs bm cm dt acs acst) (k : Fin 32) (r : Fin 128) :
    k0_pay42 xs dt k0_pay19 (ix2 k r) = S.scaled ⟨128 + r.val, by omega⟩ k := by
  rw [(scaled_apply xs dt k r).2.1, H.xs]
  refine congrArg (S.act k _ * ·) ?_
  by_cases h : r.val < 64
  · rw [if_pos h]
    exact H.dt k _ _ (by show 2 = (128 + r.val) / 64; omega)
  · rw [if_neg h]
    exact H.dt k _ _ (by show 3 = (128 + r.val) / 64; omega)

theorem state_step1 (H : Holds S xs bm cm dt acs acst) (st : Vec Ideal S128x128 .f32)
    (hst : ∀ r j, st (ix2 r j) = S.start ⟨128 + r.val, by omega⟩ j) (r j : Fin 128) :
    k0_pay52 k0_pay20 (k0_pay38 bm) st (k0_pay49 k0_pay17 k0_pay19 (k0_pay40 acs) (k0_pay41 acs) (k0_pay42 xs dt k0_pay19)) (k0_pay50 (k0_pay40 acs)) (k0_pay51 (k0_pay41 acs)) (ix2 r j) = S.state ⟨128 + r.val, by omega⟩ j := by
  refine (state1 bm acs (k0_pay42 xs dt k0_pay19) st r j).trans ?_
  refine SsdMath.kept_congr (pair1 H r) (fun k => scaled1 H k r) (fun k => (H.bm _ _).trans ?_) (hst r j)
  exact congrArg (S.act k) (Fin.ext (by simp only [SsdMath.chan]; omega))

theorem row_step1 (H : Holds S xs bm cm dt acs acst) (st : Vec Ideal S128x128 .f32)
    (hst : ∀ r j, st (ix2 r j) = S.start ⟨128 + r.val, by omega⟩ j) (d : Vec Ideal S1x128 .f32)
    (hd : ∀ r, d (ix2 0 r) = S.skip (SsdMath.head ⟨128 + r.val, by omega⟩)) (t : Fin 32) (r : Fin 128) :
    k0_pay53 (k0_pay39 xs) (k0_pay46 k0_pay15 k0_pay19 (k0_pay22 bm (k0_pay21 cm)) (k0_pay37 cm) (k0_pay40 acs) (k0_pay41 acs)
      (k0_pay42 xs dt k0_pay19) (k0_pay43 k0_pay19) (k0_pay44 xs dt k0_pay15 acs acst k0_pay19 (k0_pay22 bm (k0_pay21 cm)))
      (k0_pay45 acst) st) d (ix2 t r) = S.row t ⟨128 + r.val, by omega⟩ := by
  refine (row1 xs bm cm dt acs acst st d t r (fun s => (H.acst s 2 _ rfl).trans (H.acs s 2 _ rfl).symm)
    (fun s => (H.acst s 3 _ rfl).trans (H.acs s 3 _ rfl).symm)).trans ?_
  refine SsdMath.mixed_congr (pair1 H r) (fun k => scaled1 H k r) (fun k => ?_) ?_ (hd r) ((H.xs _ _).trans ?_)
  · refine Finset.sum_congr rfl fun n _ => ?_
    rw [H.cm, H.bm]
    exact congrArg₂ (· * ·) (congrArg (S.act t) (Fin.ext (by simp only [SsdMath.chan]; omega)))
      (congrArg (S.act k) (Fin.ext (by simp only [SsdMath.chan]; omega)))
  · refine Finset.sum_congr rfl fun n _ => ?_
    rw [H.cm, hst]
    exact congrArg (· * _) (congrArg (S.act t) (Fin.ext (by simp only [SsdMath.chan]; omega)))
  · rfl

/-- Pair 2: whose decays a column uses. -/
theorem pair2 (H : Holds S xs bm cm dt acs acst) (r : Fin 128) :
    (if r.val < 64 then fun k => acs (ix2 k 4) else fun k => acs (ix2 k 5)) = S.decay (SsdMath.head ⟨256 + r.val, by omega⟩) := by
  funext k
  by_cases h : r.val < 64
  · rw [if_pos h]
    exact H.acs k _ _ (by show 4 = (256 + r.val) / 64; omega)
  · rw [if_neg h]
    exact H.acs k _ _ (by show 5 = (256 + r.val) / 64; omega)

theorem scaled2 (H : Holds S xs bm cm dt acs acst) (k : Fin 32) (r : Fin 128) :
    k0_pay59 xs dt k0_pay19 (ix2 k r) = S.scaled ⟨256 + r.val, by omega⟩ k := by
  rw [(scaled_apply xs dt k r).2.2.1, H.xs]
  refine congrArg (S.act k _ * ·) ?_
  by_cases h : r.val < 64
  · rw [if_pos h]
    exact H.dt k _ _ (by show 4 = (256 + r.val) / 64; omega)
  · rw [if_neg h]
    exact H.dt k _ _ (by show 5 = (256 + r.val) / 64; omega)

theorem state_step2 (H : Holds S xs bm cm dt acs acst) (st : Vec Ideal S128x128 .f32)
    (hst : ∀ r j, st (ix2 r j) = S.start ⟨256 + r.val, by omega⟩ j) (r j : Fin 128) :
    k0_pay69 k0_pay17 k0_pay20 (k0_pay55 bm) (k0_pay59 xs dt k0_pay19) st (k0_pay64 (k0_pay57 acs)) (k0_pay65 (k0_pay58 acs)) (k0_pay66 (k0_pay58 acs))
      (k0_pay67 k0_pay19) (k0_pay68 (k0_pay57 acs)) (ix2 r j) = S.state ⟨256 + r.val, by omega⟩ j := by
  refine (state2 bm acs (k0_pay59 xs dt k0_pay19) st r j).trans ?_
  refine SsdMath.kept_congr (pair2 H r) (fun k => scaled2 H k r) (fun k => (H.bm _ _).trans ?_) (hst r j)
  exact congrArg (S.act k) (Fin.ext (by simp only [SsdMath.chan]; omega))

theorem row_step2 (H : Holds S xs bm cm dt acs acst) (st : Vec Ideal S128x128 .f32)
    (hst : ∀ r j, st (ix2 r j) = S.start ⟨256 + r.val, by omega⟩ j) (d : Vec Ideal S1x128 .f32)
    (hd : ∀ r, d (ix2 0 r) = S.skip (SsdMath.head ⟨256 + r.val, by omega⟩)) (t : Fin 32) (r : Fin 128) :
    k0_pay70 (k0_pay56 xs) (k0_pay63 k0_pay15 acst k0_pay19 (k0_pay23 bm cm) (k0_pay54 cm) (k0_pay57 acs) (k0_pay58 acs)
      (k0_pay59 xs dt k0_pay19) k0_pay60 (k0_pay61 k0_pay19) (k0_pay62 k0_pay15 acs acst (k0_pay23 bm cm)) st) d (ix2 t r) = S.row t ⟨256 + r.val, by omega⟩ := by
  refine (row2 xs bm cm dt acs acst st d t r (fun s => (H.acst s 4 _ rfl).trans (H.acs s 4 _ rfl).symm)
    (fun s => (H.acst s 5 _ rfl).trans (H.acs s 5 _ rfl).symm)).trans ?_
  refine SsdMath.mixed_congr (pair2 H r) (fun k => scaled2 H k r) (fun k => ?_) ?_ (hd r) ((H.xs _ _).trans ?_)
  · refine Finset.sum_congr rfl fun n _ => ?_
    rw [H.cm, H.bm]
    exact congrArg₂ (· * ·) (congrArg (S.act t) (Fin.ext (by simp only [SsdMath.chan]; omega)))
      (congrArg (S.act k) (Fin.ext (by simp only [SsdMath.chan]; omega)))
  · refine Finset.sum_congr rfl fun n _ => ?_
    rw [H.cm, hst]
    exact congrArg (· * _) (congrArg (S.act t) (Fin.ext (by simp only [SsdMath.chan]; omega)))
  · rfl

/-- Pair 3: whose decays a column uses. -/
theorem pair3 (H : Holds S xs bm cm dt acs acst) (r : Fin 128) :
    (if r.val < 64 then fun k => acs (ix2 k 6) else fun k => acs (ix2 k 7)) = S.decay (SsdMath.head ⟨384 + r.val, by omega⟩) := by
  funext k
  by_cases h : r.val < 64
  · rw [if_pos h]
    exact H.acs k _ _ (by show 6 = (384 + r.val) / 64; omega)
  · rw [if_neg h]
    exact H.acs k _ _ (by show 7 = (384 + r.val) / 64; omega)

theorem scaled3 (H : Holds S xs bm cm dt acs acst) (k : Fin 32) (r : Fin 128) :
    k0_pay76 xs dt k0_pay19 (ix2 k r) = S.scaled ⟨384 + r.val, by omega⟩ k := by
  rw [(scaled_apply xs dt k r).2.2.2, H.xs]
  refine congrArg (S.act k _ * ·) ?_
  by_cases h : r.val < 64
  · rw [if_pos h]
    exact H.dt k _ _ (by show 6 = (384 + r.val) / 64; omega)
  · rw [if_neg h]
    exact H.dt k _ _ (by show 7 = (384 + r.val) / 64; omega)

theorem state_step3 (H : Holds S xs bm cm dt acs acst) (st : Vec Ideal S128x128 .f32)
    (hst : ∀ r j, st (ix2 r j) = S.start ⟨384 + r.val, by omega⟩ j) (r j : Fin 128) :
    k0_pay81 k0_pay17 k0_pay19 k0_pay20 (k0_pay72 bm) (k0_pay74 acs) (k0_pay75 acs) (k0_pay76 xs dt k0_pay19) st (ix2 r j) = S.state ⟨384 + r.val, by omega⟩ j := by
  refine (state3 bm acs (k0_pay76 xs dt k0_pay19) st r j).trans ?_
  refine SsdMath.kept_congr (pair3 H r) (fun k => scaled3 H k r) (fun k => (H.bm _ _).trans ?_) (hst r j)
  exact congrArg (S.act k) (Fin.ext (by simp only [SsdMath.chan]; omega))

theorem row_step3 (H : Holds S xs bm cm dt acs acst) (st : Vec Ideal S128x128 .f32)
    (hst : ∀ r j, st (ix2 r j) = S.start ⟨384 + r.val, by omega⟩ j) (d : Vec Ideal S1x128 .f32)
    (hd : ∀ r, d (ix2 0 r) = S.skip (SsdMath.head ⟨384 + r.val, by omega⟩)) (t : Fin 32) (r : Fin 128) :
    k0_pay82 (k0_pay73 xs) (k0_pay80 k0_pay15 acst k0_pay19 (k0_pay23 bm cm) (k0_pay71 cm) (k0_pay74 acs) (k0_pay75 acs)
      (k0_pay76 xs dt k0_pay19) k0_pay77 (k0_pay78 k0_pay19) (k0_pay79 acst) st) d (ix2 t r) = S.row t ⟨384 + r.val, by omega⟩ := by
  refine (row3 xs bm cm dt acs acst st d t r (fun s => (H.acst s 6 _ rfl).trans (H.acs s 6 _ rfl).symm)
    (fun s => (H.acst s 7 _ rfl).trans (H.acs s 7 _ rfl).symm)).trans ?_
  refine SsdMath.mixed_congr (pair3 H r) (fun k => scaled3 H k r) (fun k => ?_) ?_ (hd r) ((H.xs _ _).trans ?_)
  · refine Finset.sum_congr rfl fun n _ => ?_
    rw [H.cm, H.bm]
    exact congrArg₂ (· * ·) (congrArg (S.act t) (Fin.ext (by simp only [SsdMath.chan]; omega)))
      (congrArg (S.act k) (Fin.ext (by simp only [SsdMath.chan]; omega)))
  · refine Finset.sum_congr rfl fun n _ => ?_
    rw [H.cm, hst]
    exact congrArg (· * _) (congrArg (S.act t) (Fin.ext (by simp only [SsdMath.chan]; omega)))
  · rfl

/-- What the kernel's intermediate arrays hold, from what the convolution's channels hold. -/
theorem holds_step (c : Dev nD) (t : Fin cfg0.N) (q : BitVec 32) (hq : q = 0#32) (hd : ∀ h k, (step m c t).expo h k ≠ ⊤)
    (x : FVec Ideal S32x1024 .f32) (y : Vec Ideal S32x1024 .f32) (z : FVec Ideal S32x1024 .f32)
    (h : ∀ r j, k0_pay9 x y z (ix2 r j) = (step m c t).act r j) :
    Holds (step m c t) (k0_pay10 x y z) (k0_pay11 x y z) (k0_pay12 x y z) (k0_pay13 q (iblk m c 2 t))
      (k0_pay16 (k0_pay14 q (iblk m c 2 t) (iblk m c 7 t)) k0_pay15) (k0_pay18 (k0_pay14 q (iblk m c 2 t) (iblk m c 7 t)) k0_pay15) := by
  subst hq
  have d : ∀ k (h : Fin 8) (h' : Fin 128), h'.val = h.val → k0_pay13 0#32 (iblk m c 2 t) (ix2 k h') = (step m c t).size h k := by
    intro k h h' e
    rw [pay13_apply, read_dt]
    exact congrArg (entry m c t k) (Fin.ext (by simp only; omega))
  have a : ∀ (h : Fin 8) (h' : Fin 128), h'.val = h.val →
      (fun k => k0_pay14 0#32 (iblk m c 2 t) (iblk m c 7 t) (ix2 k h')) = (step m c t).expo h := by
    intro h h' e
    funext k
    rw [(Fin.ext e : h' = (⟨h.val, by omega⟩ : Fin 128)), pay14_apply, d k h _ rfl, read_rate, zero_sub]
    rfl
  have n : ∀ (h : Fin 8) (h' : Fin 128), h'.val = h.val →
      ∀ k, k0_pay14 0#32 (iblk m c 2 t) (iblk m c 7 t) (ix2 k h') ≠ (⊤ : EReal) := by
    intro h h' e k
    rw [congrFun (a h h' e) k]
    exact hd h k
  refine ⟨fun r j => (pay10_apply x y z r j).trans (h _ _), fun r j => (pay11_apply x y z r j).trans (h _ _),
    fun r j => (pay12_apply x y z r j).trans (h _ _), d, fun k h h' e => ?_, fun k h h' e => ?_⟩
  · rw [pay16_apply _ k h' (n h h' e), a h h' e]
    rfl
  · rw [pay18_apply _ k h' (n h h' e), a h h' e]
    rfl

/-- What the kernel's intermediate arrays hold at a point. -/
theorem holds (c : Dev nD) (t : Fin cfg0.N) (q : BitVec 32) (hq : q = 0#32) (hd : ∀ h k, (step m c t).expo h k ≠ ⊤) :
    Holds (step m c t)
      (k0_pay10 (k0_pay5 (iblk m c 6 t) ((View.whole cc0_scratch0).readCov (Val := Elt Ideal)
        [⟨Rect.unit (s := S40x1024) ![8, 0] ![32, 1024] inb_S40x1024_S32x1024_8_0, k0_pay4 (X0_1 m c t)⟩,
          ⟨Rect.unit (s := S40x1024) ![5, 0] ![3, 1024] inb_S40x1024_S3x1024_5_0, k0_pay2 (iblk m c 3 t)⟩]
        (Rect.unit (s := S40x1024) ![5, 0] ![32, 1024] inb_S40x1024_S32x1024_5_0).toLoadRect) (View.ld (Val := Elt Ideal) (iblk m c 5 t) (Rect.unit (s := S4x1024) ![0, 0] ![1, 1024] inb_S4x1024_S1x1024_0_0))
        ((View.whole cc0_scratch0).readCov (Val := Elt Ideal)
        [⟨Rect.unit (s := S40x1024) ![8, 0] ![32, 1024] inb_S40x1024_S32x1024_8_0, k0_pay4 (X0_1 m c t)⟩,
          ⟨Rect.unit (s := S40x1024) ![5, 0] ![3, 1024] inb_S40x1024_S3x1024_5_0, k0_pay2 (iblk m c 3 t)⟩]
        (Rect.unit (s := S40x1024) ![6, 0] ![32, 1024] inb_S40x1024_S32x1024_6_0).toLoadRect) (View.ld (Val := Elt Ideal) (iblk m c 5 t) (Rect.unit (s := S4x1024) ![1, 0] ![1, 1024] inb_S4x1024_S1x1024_1_0)) ((View.whole cc0_scratch0).readCov (Val := Elt Ideal)
        [⟨Rect.unit (s := S40x1024) ![8, 0] ![32, 1024] inb_S40x1024_S32x1024_8_0, k0_pay4 (X0_1 m c t)⟩,
          ⟨Rect.unit (s := S40x1024) ![5, 0] ![3, 1024] inb_S40x1024_S3x1024_5_0, k0_pay2 (iblk m c 3 t)⟩]
        (Rect.unit (s := S40x1024) ![7, 0] ![32, 1024] inb_S40x1024_S32x1024_7_0).toLoadRect) (View.ld (Val := Elt Ideal) (iblk m c 5 t) (Rect.unit (s := S4x1024) ![2, 0] ![1, 1024] inb_S4x1024_S1x1024_2_0)))
        ((View.whole cc0_scratch0).readCov (Val := Elt Ideal)
        [⟨Rect.unit (s := S40x1024) ![8, 0] ![32, 1024] inb_S40x1024_S32x1024_8_0, k0_pay4 (X0_1 m c t)⟩,
          ⟨Rect.unit (s := S40x1024) ![5, 0] ![3, 1024] inb_S40x1024_S3x1024_5_0, k0_pay2 (iblk m c 3 t)⟩]
        (Rect.unit (s := S40x1024) ![8, 0] ![32, 1024] inb_S40x1024_S32x1024_8_0).toLoadRect) (k0_pay6 (View.ld (Val := Elt Ideal) (iblk m c 5 t) (Rect.unit (s := S4x1024) ![3, 0] ![1, 1024] inb_S4x1024_S1x1024_3_0))))
      (k0_pay11 (k0_pay5 (iblk m c 6 t) ((View.whole cc0_scratch0).readCov (Val := Elt Ideal)
        [⟨Rect.unit (s := S40x1024) ![8, 0] ![32, 1024] inb_S40x1024_S32x1024_8_0, k0_pay4 (X0_1 m c t)⟩,
          ⟨Rect.unit (s := S40x1024) ![5, 0] ![3, 1024] inb_S40x1024_S3x1024_5_0, k0_pay2 (iblk m c 3 t)⟩]
        (Rect.unit (s := S40x1024) ![5, 0] ![32, 1024] inb_S40x1024_S32x1024_5_0).toLoadRect) (View.ld (Val := Elt Ideal) (iblk m c 5 t) (Rect.unit (s := S4x1024) ![0, 0] ![1, 1024] inb_S4x1024_S1x1024_0_0))
        ((View.whole cc0_scratch0).readCov (Val := Elt Ideal)
        [⟨Rect.unit (s := S40x1024) ![8, 0] ![32, 1024] inb_S40x1024_S32x1024_8_0, k0_pay4 (X0_1 m c t)⟩,
          ⟨Rect.unit (s := S40x1024) ![5, 0] ![3, 1024] inb_S40x1024_S3x1024_5_0, k0_pay2 (iblk m c 3 t)⟩]
        (Rect.unit (s := S40x1024) ![6, 0] ![32, 1024] inb_S40x1024_S32x1024_6_0).toLoadRect) (View.ld (Val := Elt Ideal) (iblk m c 5 t) (Rect.unit (s := S4x1024) ![1, 0] ![1, 1024] inb_S4x1024_S1x1024_1_0)) ((View.whole cc0_scratch0).readCov (Val := Elt Ideal)
        [⟨Rect.unit (s := S40x1024) ![8, 0] ![32, 1024] inb_S40x1024_S32x1024_8_0, k0_pay4 (X0_1 m c t)⟩,
          ⟨Rect.unit (s := S40x1024) ![5, 0] ![3, 1024] inb_S40x1024_S3x1024_5_0, k0_pay2 (iblk m c 3 t)⟩]
        (Rect.unit (s := S40x1024) ![7, 0] ![32, 1024] inb_S40x1024_S32x1024_7_0).toLoadRect) (View.ld (Val := Elt Ideal) (iblk m c 5 t) (Rect.unit (s := S4x1024) ![2, 0] ![1, 1024] inb_S4x1024_S1x1024_2_0)))
        ((View.whole cc0_scratch0).readCov (Val := Elt Ideal)
        [⟨Rect.unit (s := S40x1024) ![8, 0] ![32, 1024] inb_S40x1024_S32x1024_8_0, k0_pay4 (X0_1 m c t)⟩,
          ⟨Rect.unit (s := S40x1024) ![5, 0] ![3, 1024] inb_S40x1024_S3x1024_5_0, k0_pay2 (iblk m c 3 t)⟩]
        (Rect.unit (s := S40x1024) ![8, 0] ![32, 1024] inb_S40x1024_S32x1024_8_0).toLoadRect) (k0_pay6 (View.ld (Val := Elt Ideal) (iblk m c 5 t) (Rect.unit (s := S4x1024) ![3, 0] ![1, 1024] inb_S4x1024_S1x1024_3_0))))
      (k0_pay12 (k0_pay5 (iblk m c 6 t) ((View.whole cc0_scratch0).readCov (Val := Elt Ideal)
        [⟨Rect.unit (s := S40x1024) ![8, 0] ![32, 1024] inb_S40x1024_S32x1024_8_0, k0_pay4 (X0_1 m c t)⟩,
          ⟨Rect.unit (s := S40x1024) ![5, 0] ![3, 1024] inb_S40x1024_S3x1024_5_0, k0_pay2 (iblk m c 3 t)⟩]
        (Rect.unit (s := S40x1024) ![5, 0] ![32, 1024] inb_S40x1024_S32x1024_5_0).toLoadRect) (View.ld (Val := Elt Ideal) (iblk m c 5 t) (Rect.unit (s := S4x1024) ![0, 0] ![1, 1024] inb_S4x1024_S1x1024_0_0))
        ((View.whole cc0_scratch0).readCov (Val := Elt Ideal)
        [⟨Rect.unit (s := S40x1024) ![8, 0] ![32, 1024] inb_S40x1024_S32x1024_8_0, k0_pay4 (X0_1 m c t)⟩,
          ⟨Rect.unit (s := S40x1024) ![5, 0] ![3, 1024] inb_S40x1024_S3x1024_5_0, k0_pay2 (iblk m c 3 t)⟩]
        (Rect.unit (s := S40x1024) ![6, 0] ![32, 1024] inb_S40x1024_S32x1024_6_0).toLoadRect) (View.ld (Val := Elt Ideal) (iblk m c 5 t) (Rect.unit (s := S4x1024) ![1, 0] ![1, 1024] inb_S4x1024_S1x1024_1_0)) ((View.whole cc0_scratch0).readCov (Val := Elt Ideal)
        [⟨Rect.unit (s := S40x1024) ![8, 0] ![32, 1024] inb_S40x1024_S32x1024_8_0, k0_pay4 (X0_1 m c t)⟩,
          ⟨Rect.unit (s := S40x1024) ![5, 0] ![3, 1024] inb_S40x1024_S3x1024_5_0, k0_pay2 (iblk m c 3 t)⟩]
        (Rect.unit (s := S40x1024) ![7, 0] ![32, 1024] inb_S40x1024_S32x1024_7_0).toLoadRect) (View.ld (Val := Elt Ideal) (iblk m c 5 t) (Rect.unit (s := S4x1024) ![2, 0] ![1, 1024] inb_S4x1024_S1x1024_2_0)))
        ((View.whole cc0_scratch0).readCov (Val := Elt Ideal)
        [⟨Rect.unit (s := S40x1024) ![8, 0] ![32, 1024] inb_S40x1024_S32x1024_8_0, k0_pay4 (X0_1 m c t)⟩,
          ⟨Rect.unit (s := S40x1024) ![5, 0] ![3, 1024] inb_S40x1024_S3x1024_5_0, k0_pay2 (iblk m c 3 t)⟩]
        (Rect.unit (s := S40x1024) ![8, 0] ![32, 1024] inb_S40x1024_S32x1024_8_0).toLoadRect) (k0_pay6 (View.ld (Val := Elt Ideal) (iblk m c 5 t) (Rect.unit (s := S4x1024) ![3, 0] ![1, 1024] inb_S4x1024_S1x1024_3_0))))
      (k0_pay13 q (iblk m c 2 t))
      (k0_pay16 (k0_pay14 q (iblk m c 2 t) (iblk m c 7 t)) k0_pay15) (k0_pay18 (k0_pay14 q (iblk m c 2 t) (iblk m c 7 t)) k0_pay15) := by
  refine holds_step m c t q hq hd _ _ _ (act_step m c t _ _ _ _ _ _ _ _
    (fun r j => window_step m c t inb_S40x1024_S32x1024_5_0 (by omega) r j _ (by simp only))
    (fun r j => window_step m c t inb_S40x1024_S32x1024_6_0 (by omega) r j _ (by simp only; omega))
    (fun r j => window_step m c t inb_S40x1024_S32x1024_7_0 (by omega) r j _ (by simp only; omega))
    (fun r j => window_step m c t inb_S40x1024_S32x1024_8_0 (by omega) r j _ (by simp only; omega))
    (fun j => row_w m c t 0 inb_S4x1024_S1x1024_0_0 j) (fun j => row_w m c t 1 inb_S4x1024_S1x1024_1_0 j)
    (fun j => row_w m c t 2 inb_S4x1024_S1x1024_2_0 j) (fun j => row_w m c t 3 inb_S4x1024_S1x1024_3_0 j))

/-- The grid has one point along its second axis. -/
theorem coord (t : Fin cfg0.N) : BitVec.ofNat 32 (grid0.coords t 1).val = 0#32 := by
  have h : (grid0.coords t 1).val < 1 := (grid0.coords t 1).isLt
  rw [Nat.lt_one_iff.mp h]

/-- The state a point begins with. -/
theorem start_apply (c : Dev nD) (t : Fin cfg0.N) (R : Fin 512) (j : Fin 128) :
    k0_pay3 (iblk m c 4 t) (ix2 R j) = (step m c t).start R j := by
  refine Eq.trans ?_ (read_state m c t R j)
  unfold k0_pay3
  pointwise

/-- A pair's state before the step. -/
theorem start_pair (c : Dev nD) (t : Fin cfg0.N) {o : ℕ} (inb : ∀ a, (![o, 0] : Fin 2 → ℕ) a + (![128, 128] : Fin 2 → ℕ) a ≤ (![512, 128] : Fin 2 → ℕ) a)
    (r j : Fin 128) (i : Fin 512) (hi : i.val = o + r.val) :
    (View.ld (Val := Elt Ideal) (k0_pay3 (iblk m c 4 t)) (Rect.unit (s := S512x128) ![o, 0] ![128, 128] inb) : Vec Ideal S128x128 .f32) (ix2 r j) = (step m c t).start i j :=
  (ld_rows (e := .f32) (k0_pay3 (iblk m c 4 t)) inb r j i hi).trans (start_apply m c t i j)

/-- The state a point leaves. -/
theorem block11 (c : Dev nD) (t : Fin cfg0.N) (hd : ∀ h k, (step m c t).expo h k ≠ ⊤) (R : Fin 512) (j : Fin 128) :
    (outsAt0 m c t).2.1 (ix3 0 R j) = (step m c t).state R j := by
  simp only [outsAt0]
  frame_out
  have e : ∀ x : Vec Ideal S512x128 .f32, k0_pay1 x (ix3 0 R j) = x (ix2 R j) := fun x => by
    unfold k0_pay1
    pointwise
  simp (disch := decide) only [↓View.readCov_skip, ↓View.readCov_fill]
  have H := holds m c t _ (coord t) hd
  refine (e _).trans (stack_apply _ _ _ _ _ (step m c t).state (fun r j => ?_) (fun r j => ?_) (fun r j => ?_) (fun r j => ?_) R j)
  · exact state_step0 H _ (fun r j => start_pair m c t _ r j _ (by simp only; omega)) r j
  · exact state_step1 H _ (fun r j => start_pair m c t _ r j _ rfl) r j
  · exact state_step2 H _ (fun r j => start_pair m c t _ r j _ rfl) r j
  · exact state_step3 H _ (fun r j => start_pair m c t _ r j _ rfl) r j

/-- The rows a point puts out. -/
theorem block10 (c : Dev nD) (t : Fin cfg0.N) (hd : ∀ h k, (step m c t).expo h k ≠ ⊤) (r : Fin 32) (R : Fin 512) :
    (outsAt0 m c t).1 (ix2 r R) = (step m c t).out r R := by
  simp only [outsAt0]
  frame_out
  simp (disch := decide) only [↓View.readCov_skip, ↓View.readCov_fill]
  have H := holds m c t _ (coord t) hd
  have y : ∀ Y : Vec Ideal S32x512 .f32, (∀ r R, Y (ix2 r R) = (step m c t).row r R) → ∀ r R,
      k0_pay84 (X0_0 m c t) Y (k0_pay83 (X0_0 m c t)) (ix2 r R) = (step m c t).gated r R := by
    intro Y hY r R
    rw [pay84_apply, hY, read_z]
    rfl
  have y85 : ∀ Y : Vec Ideal S32x512 .f32, (∀ r R, Y (ix2 r R) = (step m c t).row r R) → ∀ (R : Fin 512) (j : Fin 256), R.val = j.val →
      k0_pay85 (X0_0 m c t) Y (k0_pay83 (X0_0 m c t)) (View.ld (Val := Elt Ideal) (iblk m c 9 t) (Rect.unit (s := S1x512) ![0, 0] ![1, 256] inb_S1x512_S1x256_0_0)) (ix2 r j)
        = (step m c t).out r R := by
    intro Y hY R j h
    rw [pay85_apply]
    refine SsdMath.norm_congr (fun k => (y Y hY _ _).trans (congrArg _ (Fin.ext ?_))) (fun k => ?_) (Fin.ext ?_)
    · simp only
      omega
    · exact (ld_cols (iblk m c 9 t) inb_S1x512_S1x256_0_0 k ⟨R.val / 256 * 256 + k.val, by omega⟩ (by simp only; omega)).trans (read_gain m c t _)
    · simp only
      omega
  have y86 : ∀ Y : Vec Ideal S32x512 .f32, (∀ r R, Y (ix2 r R) = (step m c t).row r R) → ∀ (R : Fin 512) (j : Fin 256), R.val = 256 + j.val →
      k0_pay86 (X0_0 m c t) Y (k0_pay83 (X0_0 m c t)) (View.ld (Val := Elt Ideal) (iblk m c 9 t) (Rect.unit (s := S1x512) ![0, 256] ![1, 256] inb_S1x512_S1x256_0_256)) (ix2 r j)
        = (step m c t).out r R := by
    intro Y hY R j h
    rw [pay86_apply]
    refine SsdMath.norm_congr (fun k => (y Y hY _ _).trans (congrArg _ (Fin.ext ?_))) (fun k => ?_) (Fin.ext ?_)
    · simp only
      omega
    · exact (ld_cols (iblk m c 9 t) inb_S1x512_S1x256_0_256 k ⟨R.val / 256 * 256 + k.val, by omega⟩ (by simp only; omega)).trans (read_gain m c t _)
    · simp only
      omega
  have rows :=
    beside_apply _ _ _ _ (step m c t).row
      (row_step0 H _ (fun r j => start_pair m c t inb_S512x128_S128x128_0_0 r j _ (by simp only; omega)) _
        (fun r => (ld_cols (iblk m c 8 t) inb_S1x512_S1x128_0_0 r _ (by simp only; omega)).trans (read_skip m c t _)))
      (row_step1 H _ (fun r j => start_pair m c t inb_S512x128_S128x128_128_0 r j _ rfl) _
        (fun r => (ld_cols (iblk m c 8 t) inb_S1x512_S1x128_0_128 r _ rfl).trans (read_skip m c t _)))
      (row_step2 H _ (fun r j => start_pair m c t inb_S512x128_S128x128_256_0 r j _ rfl) _
        (fun r => (ld_cols (iblk m c 8 t) inb_S1x512_S1x128_0_256 r _ rfl).trans (read_skip m c t _)))
      (row_step3 H _ (fun r j => start_pair m c t inb_S512x128_S128x128_384_0 r j _ rfl) _
        (fun r => (ld_cols (iblk m c 8 t) inb_S1x512_S1x128_0_384 r _ rfl).trans (read_skip m c t _)))
  by_cases h : 256 ≤ R.val
  · have e : ix2 r R = (Rect.unit (s := S32x512) ![0, 256] ![32, 256] inb_S32x512_S32x256_0_256).emb (ix2 r (⟨R.val - 256, by omega⟩ : Fin 256)) := by blk_ext
    refine (congrArg _ e).trans ((View.canon_cons_emb _ _ _ _).trans (y86 _ rows R _ ?_))
    simp only
    omega
  · rw [View.canon_cons_of_not_mem _ _ (by intro z; have z1 := ((Rect.mem_set_unit (inb := inb_S32x512_S32x256_0_256)).mp z 1).1; simp at z1; omega)]
    have e : ix2 r R = (Rect.unit (s := S32x512) ![0, 0] ![32, 256] inb_S32x512_S32x256_0_0).emb (ix2 r (⟨R.val, by omega⟩ : Fin 256)) := by blk_ext
    exact (congrArg _ e).trans ((View.canon_cons_emb _ _ _ _).trans (y85 _ rows R _ rfl))

end Cert.SsdIdeal.Att

end
-- ==== Proof.SsdRef.lean ====
/- The state-space mixer's reference read at one element of its results. -/
module

public import proofs.«01_k».proof.Proof.Gen.SsdRefIdeal.Read
public import proofs.«01_k».proof.Proof.SsdStep
public import Idealize.ShloMosaic.Lib.Pipeline.ValueKit
public import Idealize.ShloMosaic.Lib.Pointwise

@[expose] public section

set_option maxRecDepth 16384

noncomputable section

namespace Cert.SsdRefIdeal.Att

open Idealize.ShloMosaic Idealize.ShloMosaic.TcCoe Idealize.SL.Sem
open Cert.SsdRefIdeal Cert.SsdRefIdeal.Read Cert.SsdRefIdeal.Gen
open SsdMath (Step)

/-- The kept rows before the new ones. -/
theorem gen6 (H : FVec Ideal S16x3x1024 .f32) (X : FVec Ideal S16x32x1024 .f32) (b : Fin 16) (i : Fin 35) (j : Fin 1024) :
    concatenate S16x35x1024 1 [⟨S16x3x1024, H⟩, ⟨S16x32x1024, X⟩] concatenates_S16x3x1024_S16x32x1024_S16x35x1024_d1 (ix3 b i j)
      = SsdMath.rows (fun k => H (ix3 b k j)) (fun r => X (ix3 b r j)) i := by
  unfold SsdMath.rows
  by_cases h : i.val < 3
  · rw [dif_pos h]
    pointwise
    rw [dif_pos h]
  · rw [dif_neg h]
    pointwise
    rw [dif_neg h]

/-- The convolution over four rows. -/
theorem gen37 (C : FVec Ideal S16x35x1024 .f32) (W : FVec Ideal S1x4x1024 .f32) (B : FVec Ideal S1x1024 .f32) (b : Fin 16) (r : Fin 32) (j : Fin 1024) :
    addf (addf (addf (addf (val_main_v15 (F := Ideal) B)
      (mulf (extractStridedSlice S16x32x1024 ![0, 0, 0] C slices_S16x35x1024_S16x32x1024_0_0_0) (val_main_v12 (F := Ideal) W)))
      (mulf (extractStridedSlice S16x32x1024 ![0, 1, 0] C slices_S16x35x1024_S16x32x1024_0_1_0) (val_main_v21 (F := Ideal) W)))
      (mulf (extractStridedSlice S16x32x1024 ![0, 2, 0] C slices_S16x35x1024_S16x32x1024_0_2_0) (val_main_v28 (F := Ideal) W)))
      (mulf (extractStridedSlice S16x32x1024 ![0, 3, 0] C slices_S16x35x1024_S16x32x1024_0_3_0) (val_main_v35 (F := Ideal) W)) (ix3 b r j)
      = B (ix2 0 j) + C (ix3 b (⟨r.val, by omega⟩ : Fin 35) j) * W (ix3 0 0 j) + C (ix3 b (⟨1 + r.val, by omega⟩ : Fin 35) j) * W (ix3 0 1 j)
        + C (ix3 b (⟨2 + r.val, by omega⟩ : Fin 35) j) * W (ix3 0 2 j) + C (ix3 b (⟨3 + r.val, by omega⟩ : Fin 35) j) * W (ix3 0 3 j) := by
  pointwise [val_main_v15, val_main_v14, val_main_v7, val_main_v12, val_main_v11, val_main_v10, val_main_v9,
    val_main_v21, val_main_v20, val_main_v19, val_main_v18, val_main_v28, val_main_v27, val_main_v26, val_main_v25,
    val_main_v35, val_main_v34, val_main_v33, val_main_v32]

/-- The gate's function on the channels. -/
theorem gen39 (C : FVec Ideal S16x32x1024 .f32) (b : Fin 16) (r : Fin 32) (j : Fin 1024) :
    mulf C (Host.divf (val_main_call0_v4 (F := Ideal)) (addf (val_main_call0_v2 (F := Ideal)) (Host.exp (Host.negf C)))) (ix3 b r j)
      = SsdMath.silu (C (ix3 b r j)) := by
  pointwise [val_main_call0_v4, val_main_call0_v2, val_main_call0_cst, val_main_call0_cst_0]
  rw [← zero_sub]
  rfl

/-- The same on the gates. -/
theorem gen106 (C : FVec Ideal S16x32x512 .f32) (b : Fin 16) (r : Fin 32) (j : Fin 512) :
    mulf C (Host.divf (val_main_call5_v4 (F := Ideal)) (addf (val_main_call5_v2 (F := Ideal)) (Host.exp (Host.negf C)))) (ix3 b r j)
      = SsdMath.silu (C (ix3 b r j)) := by
  pointwise [val_main_call5_v4, val_main_call5_v2, val_main_call5_cst, val_main_call5_cst_0]
  rw [← zero_sub]
  rfl

/-- The channels of a head. -/
theorem gen41 (A : FVec Ideal S16x32x1024 .f32) (b : Fin 16) (r : Fin 32) (h : Fin 8) (p : Fin 64) :
    shapeCast S16x32x8x64 (extractStridedSlice S16x32x512 ![0, 0, 0] A slices_S16x32x1024_S16x32x512_0_0_0) shapeCasts_S16x32x512_S16x32x8x64 (ix4 b r h p)
      = A (ix3 b r (⟨h.val * 64 + p.val, by omega⟩ : Fin 1024)) := by
  pointwise

/-- The channels every head of a group shares. -/
theorem gen51 (A : FVec Ideal S16x32x1024 .f32) (b : Fin 16) (r : Fin 32) (h : Fin 8) (n : Fin 128) :
    shapeCast S16x32x8x128 (broadcastInDim S16x32x2x4x128 ![0, 1, 2, 4] bcast_S16x32x2x128_S16x32x2x4x128_0_1_2_4
      (shapeCast S16x32x2x128 (extractStridedSlice S16x32x256 ![0, 0, 512] A slices_S16x32x1024_S16x32x256_0_0_512) shapeCasts_S16x32x256_S16x32x2x128))
      shapeCasts_S16x32x2x4x128_S16x32x8x128 (ix4 b r h n)
      = A (ix3 b r (⟨512 + (h.val / 4 * 128 + n.val), by omega⟩ : Fin 1024)) := by
  pointwise

theorem gen53 (A : FVec Ideal S16x32x1024 .f32) (b : Fin 16) (r : Fin 32) (h : Fin 8) (n : Fin 128) :
    shapeCast S16x32x8x128 (broadcastInDim S16x32x2x4x128 ![0, 1, 2, 4] bcast_S16x32x2x128_S16x32x2x4x128_0_1_2_4
      (shapeCast S16x32x2x128 (extractStridedSlice S16x32x256 ![0, 0, 768] A slices_S16x32x1024_S16x32x256_0_0_768) shapeCasts_S16x32x256_S16x32x2x128))
      shapeCasts_S16x32x2x4x128_S16x32x8x128 (ix4 b r h n)
      = A (ix3 b r (⟨768 + (h.val / 4 * 128 + n.val), by omega⟩ : Fin 1024)) := by
  pointwise

/-- Which rows come no later than a row. -/
theorem tri (t s : Fin 32) (p q : EReal) : Scalar.select (val_main_v68 (F := Ideal) (ix3 t s 0)) p q = if s.val ≤ t.val then p else q := by
  pointwise [val_main_v68, val_main_v67, val_main_v66, val_main_call2_v4, val_main_call2_v3, val_main_call2_v2, val_main_call2_v1, val_main_call2_v0, val_main_call2_v5]
  have e : ∀ t s : Fin 32, Scalar.select (IntOp.cmpi .sge (IntOp.addi (BitVec.ofNat 32 t.val) (0#32)) (BitVec.ofNat 32 s.val)) (1#1) (0#1)
      = if s.val ≤ t.val then 1#1 else 0#1 := by decide +kernel
  refine (congrArg (Scalar.select · p q) (e t s)).trans ?_
  split
  · rfl
  · rfl

/-- The decays between two rows. -/
theorem gen71 (A : FVec Ideal S16x32x8 .f32) (b : Fin 16) (t s : Fin 32) (h : Fin 8) :
    select (val_main_call4_v1 (F := Ideal)) (Host.exp (select (val_main_call3_v1 (F := Ideal))
      (subf (broadcastInDim S16x32x32x8 ![0, 1, 2, 3] bcast_S16x32x1x8_S16x32x32x8_0_1_2_3 (broadcastInDim S16x32x1x8 ![0, 1, 3] bcast_S16x32x8_S16x32x1x8_0_1_3 A))
        (broadcastInDim S16x32x32x8 ![0, 1, 2, 3] bcast_S16x1x32x8_S16x32x32x8_0_1_2_3 (broadcastInDim S16x1x32x8 ![0, 2, 3] bcast_S16x32x8_S16x1x32x8_0_2_3 A)))
      (val_main_call3_v2 (F := Ideal)))) (val_main_call4_v2 (F := Ideal)) (ix4 b t s h)
      = if s.val ≤ t.val then Ideal.exp (A (ix3 b t h) - A (ix3 b s h)) else 0 := by
  pointwise [val_main_call4_v1, val_main_call3_v1, val_main_call3_v2, val_main_call4_v2]
  rw [tri, tri]
  split
  · rfl
  · exact Ideal.ofBits_zero_f32

/-- Where the window's position `n` is. -/
theorem position : ∀ n : Fin (⟨3, ![1, 32, 1]⟩ : Shape).numel, ((⟨3, ![1, 32, 1]⟩ : Shape).rowMajor.symm n 0).val = 0
    ∧ ((⟨3, ![1, 32, 1]⟩ : Shape).rowMajor.symm n 1).val = n.val ∧ ((⟨3, ![1, 32, 1]⟩ : Shape).rowMajor.symm n 2).val = 0 := by
  decide +kernel

/-- A fold of sums is the sum. -/
theorem fold_add {n : ℕ} (f : Fin n → EReal) : (List.finRange n).foldl (fun r k => r + f k) 0 = ∑ k, f k := by
  rw [← List.sum_ofFn, List.ofFn_eq_map, List.sum_eq_foldl, List.foldl_map]

/-- The running sums. -/
theorem gen60 (A : FVec Ideal S16x32x8 .f32) (b : Fin 16) (t : Fin 32) (h : Fin 8) :
    Host.reduceWindowAdd ![1, 32, 1] ![1, 1, 1] ![0, 31, 0] ![0, 0, 0] A (val_main_call1_call0_v0 (F := Ideal))
      reduceWindows_S16x32x8_S16x32x8_w1s1p0_0_w32s1p31_0_w1s1p0_0 h_S_ (ix3 b t h) = SsdMath.upTo (fun k => A (ix3 b k h)) t := by
  have z : val_main_call1_call0_v0 (F := Ideal) (Shape.Idx.first h_S_) = (0 : EReal) := Ideal.ofBits_zero_f32
  unfold Host.reduceWindowAdd
  rw [z]
  refine (fold_add _).trans ?_
  unfold SsdMath.upTo
  refine Eq.trans ?_ (Equiv.sum_comp (Equiv.addRight (t + 1)) fun k : Fin 32 => if k.val ≤ t.val then A (ix3 b k h) else (0 : EReal))
  refine Fintype.sum_equiv (finCongr (by decide)) _ _ fun n => ?_
  obtain ⟨p0, p1, p2⟩ := position n
  have hn : n.val < 32 := n.isLt
  have e : ((Equiv.addRight (t + 1)) ((finCongr (by decide : (⟨3, ![1, 32, 1]⟩ : Shape).numel = 32)) n)).val = (n.val + (t.val + 1) % 32) % 32 := rfl
  split
  · next hin =>
    have h1 : 31 ≤ t.val * 1 + ((⟨3, ![1, 32, 1]⟩ : Shape).rowMajor.symm n 1).val := (hin 1).1
    rw [p1] at h1
    refine Eq.trans ?_ (if_pos (lt_of_eq_of_lt e (by omega : _ < t.val + 1) |> Nat.lt_succ_iff.mp)).symm
    refine congrArg A (funext fun a => Fin.ext ?_)
    match a with
    | ⟨0, _⟩ =>
      show b.val * 1 + ((⟨3, ![1, 32, 1]⟩ : Shape).rowMajor.symm n 0).val - 0 = b.val
      rw [p0]
      omega
    | ⟨1, _⟩ =>
      refine Eq.trans ?_ e.symm
      show t.val * 1 + ((⟨3, ![1, 32, 1]⟩ : Shape).rowMajor.symm n 1).val - 31 = _
      rw [p1]
      omega
    | ⟨2, _⟩ =>
      show h.val * 1 + ((⟨3, ![1, 32, 1]⟩ : Shape).rowMajor.symm n 2).val - 0 = h.val
      rw [p2]
      omega
  · next hin =>
    refine Eq.trans ?_ (if_neg fun q => hin fun a => ?_).symm
    · rfl
    · have q' : (n.val + (t.val + 1) % 32) % 32 ≤ t.val := le_of_eq_of_le e.symm q
      match a with
      | ⟨0, _⟩ =>
        show 0 ≤ b.val * 1 + ((⟨3, ![1, 32, 1]⟩ : Shape).rowMajor.symm n 0).val ∧ b.val * 1 + ((⟨3, ![1, 32, 1]⟩ : Shape).rowMajor.symm n 0).val - 0 < 16
        rw [p0]
        omega
      | ⟨1, _⟩ =>
        show 31 ≤ t.val * 1 + ((⟨3, ![1, 32, 1]⟩ : Shape).rowMajor.symm n 1).val ∧ t.val * 1 + ((⟨3, ![1, 32, 1]⟩ : Shape).rowMajor.symm n 1).val - 31 < 32
        rw [p1]
        omega
      | ⟨2, _⟩ =>
        show 0 ≤ h.val * 1 + ((⟨3, ![1, 32, 1]⟩ : Shape).rowMajor.symm n 2).val ∧ h.val * 1 + ((⟨3, ![1, 32, 1]⟩ : Shape).rowMajor.symm n 2).val - 0 < 8
        rw [p2]
        omega

/-- The rows' products with the states' rows. -/
theorem gen73 (P Q : FVec Ideal S16x32x8x128 .f32) (b : Fin 16) (t s : Fin 32) (h : Fin 8) :
    transpose S16x32x32x8 [0, 3, 2, 1] (Host.dotGeneral (F := Ideal) (φ₁ := .f32) (φ₂ := .f32) dot_S16x32x8x128_S16x32x8x128_S16x8x32x32_3_3_1_1_02_02 none P Q)
      transposes_S16x8x32x32_S16x32x32x8_0_3_2_1 (ix4 b t s h) = ∑ n : Fin 128, P (ix4 b s h n) * Q (ix4 b t h n) := by
  pointwise

theorem gen76 (P : FVec Ideal S16x32x8x64 .f32) (Q : FVec Ideal S16x32x32x8 .f32) (b : Fin 16) (t : Fin 32) (h : Fin 8) (p : Fin 64) :
    transpose S16x32x8x64 [0, 3, 1, 2] (Host.dotGeneral (F := Ideal) (φ₁ := .f32) (φ₂ := .f32) dot_S16x32x8x64_S16x32x32x8_S16x8x64x32_1_2_3_1_02_03 none P Q)
      transposes_S16x8x64x32_S16x32x8x64_0_3_1_2 (ix4 b t h p) = ∑ s : Fin 32, P (ix4 b s h p) * Q (ix4 b t s h) := by
  pointwise

theorem gen93 (P : FVec Ideal S16x8x64x128 .f32) (Q : FVec Ideal S16x32x8x128 .f32) (b : Fin 16) (t : Fin 32) (h : Fin 8) (p : Fin 64) :
    transpose S16x32x8x64 [0, 3, 1, 2] (Host.dotGeneral (F := Ideal) (φ₁ := .f32) (φ₂ := .f32) dot_S16x8x64x128_S16x32x8x128_S16x8x64x32_3_3_2_1_01_02 none P Q)
      transposes_S16x8x64x32_S16x32x8x64_0_3_1_2 (ix4 b t h p) = ∑ n : Fin 128, P (ix4 b h p n) * Q (ix4 b t h n) := by
  pointwise

/-- The state's new part. -/
theorem gen84 (P : FVec Ideal S16x32x8x64 .f32) (A : FVec Ideal S16x32x8 .f32) (Q : FVec Ideal S16x32x8x128 .f32) (b : Fin 16) (h : Fin 8) (p : Fin 64) (n : Fin 128) :
    Host.dotGeneral (F := Ideal) (φ₁ := .f32) (φ₂ := .f32) dot_S16x32x8x64_S16x32x8x128_S16x8x64x128_1_1_3_3_02_02 none
      (mulf P (broadcastInDim S16x32x8x64 ![0, 1, 2, 3] bcast_S16x32x8x1_S16x32x8x64_0_1_2_3 (broadcastInDim S16x32x8x1 ![0, 1, 2] bcast_S16x32x8_S16x32x8x1_0_1_2
        (Host.exp (subf (broadcastInDim S16x32x8 ![0, 1, 2] bcast_S16x1x8_S16x32x8_0_1_2 (extractStridedSlice S16x1x8 ![0, 31, 0] A slices_S16x32x8_S16x1x8_0_31_0)) A))))) Q (ix4 b h p n)
      = ∑ k : Fin 32, P (ix4 b k h p) * Ideal.exp (A (ix3 b 31 h) - A (ix3 b k h)) * Q (ix4 b k h n) := by
  pointwise

/-- The state's old part. -/
theorem gen90 (P : FVec Ideal S16x8x64x128 .f32) (A : FVec Ideal S16x32x8 .f32) (b : Fin 16) (h : Fin 8) (p : Fin 64) (n : Fin 128) :
    mulf P (broadcastInDim S16x8x64x128 ![0, 1, 2, 3] bcast_S16x8x1x1_S16x8x64x128_0_1_2_3 (broadcastInDim S16x8x1x1 ![0, 1] bcast_S16x8_S16x8x1x1_0_1
      (Host.exp (shapeCast S16x8 (extractStridedSlice S16x1x8 ![0, 31, 0] A slices_S16x32x8_S16x1x8_0_31_0) shapeCasts_S16x1x8_S16x8)))) (ix4 b h p n)
      = P (ix4 b h p n) * Ideal.exp (A (ix3 b 31 h)) := by
  pointwise

/-- The rows' three parts. -/
theorem gen104 (P Q X : FVec Ideal S16x32x8x64 .f32) (A : FVec Ideal S16x32x8 .f32) (D : FVec Ideal S1x8 .f32) (b : Fin 16) (t : Fin 32) (h : Fin 8) (p : Fin 64) :
    addf (addf P (mulf Q (broadcastInDim S16x32x8x64 ![0, 1, 2, 3] bcast_S16x32x8x1_S16x32x8x64_0_1_2_3 (broadcastInDim S16x32x8x1 ![0, 1, 2] bcast_S16x32x8_S16x32x8x1_0_1_2 (Host.exp A)))))
      (mulf (val_main_v102 (F := Ideal) D) X) (ix4 b t h p)
      = P (ix4 b t h p) + Q (ix4 b t h p) * Ideal.exp (A (ix3 b t h)) + D (ix2 0 h) * X (ix4 b t h p) := by
  pointwise [val_main_v102, val_main_v101, val_main_v100, val_main_v99]

/-- The step sizes and the decay exponents. -/
theorem gen59 (A : FVec Ideal S16x32x8 .f32) (R : FVec Ideal S1x8 .f32) (b : Fin 16) (k : Fin 32) (h : Fin 8) :
    mulf A (val_main_v58 (F := Ideal) R) (ix3 b k h) = A (ix3 b k h) * -Ideal.exp (R (ix2 0 h)) := by
  pointwise [val_main_v58, val_main_v57, val_main_v48, val_main_v47, val_main_v46]

theorem gen56 (P : FVec Ideal S16x32x8x64 .f32) (A : FVec Ideal S16x32x8 .f32) (b : Fin 16) (k : Fin 32) (h : Fin 8) (p : Fin 64) :
    mulf P (broadcastInDim S16x32x8x64 ![0, 1, 2, 3] bcast_S16x32x8x1_S16x32x8x64_0_1_2_3 (broadcastInDim S16x32x8x1 ![0, 1, 2] bcast_S16x32x8_S16x32x8x1_0_1_2 A)) (ix4 b k h p)
      = P (ix4 b k h p) * A (ix3 b k h) := by
  pointwise

/-- The gated rows by groups. -/
theorem gen108 (Y : FVec Ideal S16x32x8x64 .f32) (Z : FVec Ideal S16x32x512 .f32) (b : Fin 16) (t : Fin 32) (g : Fin 2) (k : Fin 256) :
    shapeCast S16x32x2x256 (mulf (shapeCast S16x32x512 Y shapeCasts_S16x32x8x64_S16x32x512) Z) shapeCasts_S16x32x512_S16x32x2x256 (ix4 b t g k)
      = Y (ix4 b t (⟨(g.val * 256 + k.val) / 64, by omega⟩ : Fin 8) (⟨(g.val * 256 + k.val) % 64, by omega⟩ : Fin 64))
        * Z (ix3 b t (⟨g.val * 256 + k.val, by omega⟩ : Fin 512)) := by
  pointwise

/-- The norm of a group, and the result's layout. -/
theorem gen125 (X : FVec Ideal S16x32x2x256 .f32) (G : FVec Ideal S1x512 .f32) (Q R : Fin 512) :
    truncf (F := Ideal) .bf16 (shapeCast S512x512 (mulf (shapeCast S16x32x512 (mulf X (broadcastInDim S16x32x2x256 ![0, 1, 2, 3] bcast_S16x32x2x1_S16x32x2x256_0_1_2_3
      (Host.rsqrt (addf (Host.divf (broadcastInDim S16x32x2x1 ![0, 1, 2] bcast_S16x32x2_S16x32x2x1_0_1_2
        (Host.reduceAdd (mulf X X) (val_main_cst_1 (F := Ideal)) reducesTo_S16x32x2x256_S16x32x2_d3 h_S_)) (val_main_v112 (F := Ideal))) (val_main_v114 (F := Ideal))))))
      shapeCasts_S16x32x2x256_S16x32x512) (val_main_v122 (F := Ideal) G)) shapeCasts_S16x32x512_S512x512) bitsLt_bf16_f32 (ix2 Q R)
      = SsdMath.norm (fun k => X (ix4 (⟨Q.val / 32, by omega⟩ : Fin 16) (⟨Q.val % 32, by omega⟩ : Fin 32) (⟨R.val / 256, by omega⟩ : Fin 2) k))
          (fun k => G (ix2 0 (⟨R.val / 256 * 256 + k.val, by omega⟩ : Fin 512))) (⟨R.val % 256, by omega⟩ : Fin 256) := by
  pointwise [val_main_cst_1, val_main_v112, val_main_cst_2, val_main_v114, val_main_cst_3, val_main_v122, val_main_v121, val_main_v120]
  unfold SsdMath.norm
  refine congrArg (_ * G ·) (congrArg (ix2 0) (Fin.ext ?_))
  simp only
  omega

section

variable (x0 : FVec Ideal S17408x3328 .f32) (x1 : FVec Ideal S1x16x8x64x128 .f32) (x2 : FVec Ideal S1x16x3x1024 .f32)
  (x3 : FVec Ideal S1x4x1024 .f32) (x4 : FVec Ideal S1x1024 .f32) (x5 x6 : FVec Ideal S1x8 .f32) (x7 : FVec Ideal S1x512 .f32)

/-- What one sequence's step reads of the arguments. -/
def step (b : Fin 16) : Step where
  entry r j := x0 (ix2 (⟨16896 + (b.val * 32 + r.val), by omega⟩ : Fin 17408) j)
  hist k j := x2 (ix4 0 b k j)
  w k j := x3 (ix3 0 k j)
  bias j := x4 (ix2 0 j)
  rate h := x5 (ix2 0 h)
  skip h := x6 (ix2 0 h)
  gain R := x7 (ix2 0 R)
  start R n := x1 (ix5 0 b (⟨R.val / 64, by omega⟩ : Fin 8) (⟨R.val % 64, by omega⟩ : Fin 64) n)

/-- The new rows' channels, gates and step sizes, and the kept rows and the states. -/
theorem xbc_apply (b : Fin 16) (r : Fin 32) (j : Fin 1024) :
    val_main_v2 (F := Ideal) x0 (ix3 b r j) = x0 (ix2 (⟨16896 + (b.val * 32 + r.val), by omega⟩ : Fin 17408) (⟨j.val, by omega⟩ : Fin 3328)) := by
  pointwise [val_main_v2, val_main_v1, val_main_v0]

theorem z_apply (b : Fin 16) (r : Fin 32) (j : Fin 512) :
    val_main_v3 (F := Ideal) x0 (ix3 b r j) = x0 (ix2 (⟨16896 + (b.val * 32 + r.val), by omega⟩ : Fin 17408) (⟨1024 + j.val, by omega⟩ : Fin 3328)) := by
  pointwise [val_main_v3, val_main_v1, val_main_v0]

theorem dt_apply (b : Fin 16) (r : Fin 32) (h : Fin 8) :
    val_main_v4 (F := Ideal) x0 (ix3 b r h) = x0 (ix2 (⟨16896 + (b.val * 32 + r.val), by omega⟩ : Fin 17408) (⟨3072 + h.val, by omega⟩ : Fin 3328)) := by
  pointwise [val_main_v4, val_main_v1, val_main_v0]

theorem hist_apply (b : Fin 16) (k : Fin 3) (j : Fin 1024) : val_main_v5 (F := Ideal) x2 (ix3 b k j) = x2 (ix4 0 b k j) := by
  pointwise [val_main_v5]

theorem h0_apply (b : Fin 16) (h : Fin 8) (p : Fin 64) (n : Fin 128) : val_main_v49 (F := Ideal) x1 (ix4 b h p n) = x1 (ix5 0 b h p n) := by
  pointwise [val_main_v49]

/-- The rows with the kept ones before them. -/
theorem rows_apply (b : Fin 16) (i : Fin 35) (j : Fin 1024) :
    val_main_v6 (F := Ideal) x0 x2 (ix3 b i j)
      = SsdMath.rows (fun k => x2 (ix4 0 b k j)) (fun r => x0 (ix2 (⟨16896 + (b.val * 32 + r.val), by omega⟩ : Fin 17408) (⟨j.val, by omega⟩ : Fin 3328))) i := by
  refine (gen6 (val_main_v5 (F := Ideal) x2) (val_main_v2 (F := Ideal) x0) b i j).trans ?_
  simp only [hist_apply, xbc_apply]

/-- The channels after the convolution and the gate. -/
theorem act_apply (b : Fin 16) (r : Fin 32) (j : Fin 1024) :
    val_main_v39 (F := Ideal) x0 x2 x3 x4 (ix3 b r j) = (step x0 x1 x2 x3 x4 x5 x6 x7 b).act r j := by
  refine (gen39 (val_main_v37 (F := Ideal) x0 x2 x3 x4) b r j).trans (congrArg SsdMath.silu ?_)
  refine (gen37 (val_main_v6 (F := Ideal) x0 x2) x3 x4 b r j).trans ?_
  simp only [rows_apply, SsdMath.conv, Nat.add_comm 1 r.val, Nat.add_comm 2 r.val, Nat.add_comm 3 r.val]
  rfl

/-- The column of a head and its lane. -/
def col (h : Fin 8) (p : Fin 64) : Fin 512 := ⟨h.val * 64 + p.val, by omega⟩

theorem head_col (h : Fin 8) (p : Fin 64) : SsdMath.head (col h p) = h := Fin.ext (by show (h.val * 64 + p.val) / 64 = h.val; omega)

theorem xs_apply (b : Fin 16) (r : Fin 32) (h : Fin 8) (p : Fin 64) :
    val_main_v41 (F := Ideal) x0 x2 x3 x4 (ix4 b r h p) = (step x0 x1 x2 x3 x4 x5 x6 x7 b).act r (⟨(col h p).val, by omega⟩ : Fin 1024) :=
  (gen41 (val_main_v39 (F := Ideal) x0 x2 x3 x4) b r h p).trans (act_apply x0 x1 x2 x3 x4 x5 x6 x7 b r _)

theorem bm_apply (b : Fin 16) (r : Fin 32) (h : Fin 8) (p : Fin 64) (n : Fin 128) :
    val_main_v51 (F := Ideal) x0 x2 x3 x4 (ix4 b r h n) = (step x0 x1 x2 x3 x4 x5 x6 x7 b).act r (SsdMath.chan 512 (col h p) n) :=
  (gen51 (val_main_v39 (F := Ideal) x0 x2 x3 x4) b r h n).trans ((act_apply x0 x1 x2 x3 x4 x5 x6 x7 b r _).trans
    (congrArg ((step x0 x1 x2 x3 x4 x5 x6 x7 b).act r) (Fin.ext (by simp only [SsdMath.chan, col]; omega))))

theorem cm_apply (b : Fin 16) (r : Fin 32) (h : Fin 8) (p : Fin 64) (n : Fin 128) :
    val_main_v53 (F := Ideal) x0 x2 x3 x4 (ix4 b r h n) = (step x0 x1 x2 x3 x4 x5 x6 x7 b).act r (SsdMath.chan 768 (col h p) n) :=
  (gen53 (val_main_v39 (F := Ideal) x0 x2 x3 x4) b r h n).trans ((act_apply x0 x1 x2 x3 x4 x5 x6 x7 b r _).trans
    (congrArg ((step x0 x1 x2 x3 x4 x5 x6 x7 b).act r) (Fin.ext (by simp only [SsdMath.chan, col]; omega))))

/-- The column scaled by the step size. -/
theorem scaled_apply (b : Fin 16) (k : Fin 32) (h : Fin 8) (p : Fin 64) :
    val_main_v56 (F := Ideal) x0 x2 x3 x4 (ix4 b k h p) = (step x0 x1 x2 x3 x4 x5 x6 x7 b).scaled (col h p) k := by
  refine (gen56 (val_main_v41 (F := Ideal) x0 x2 x3 x4) (val_main_v4 (F := Ideal) x0) b k h p).trans ?_
  rw [xs_apply x0 x1 x2 x3 x4 x5 x6 x7, dt_apply, Step.scaled, head_col]
  rfl

/-- The decay exponents up to a row. -/
theorem decay_apply (b : Fin 16) (k : Fin 32) (h : Fin 8) :
    val_main_v60 (F := Ideal) x0 x5 (ix3 b k h) = (step x0 x1 x2 x3 x4 x5 x6 x7 b).decay h k := by
  refine (gen60 (val_main_v59 (F := Ideal) x0 x5) b k h).trans ?_
  unfold Step.decay
  refine congrArg (SsdMath.upTo · k) (funext fun i => ?_)
  refine (gen59 (val_main_v4 (F := Ideal) x0) x5 b i h).trans ?_
  rw [dt_apply]
  rfl

/-- The state the step leaves. -/
theorem state_apply (b : Fin 16) (h : Fin 8) (p : Fin 64) (n : Fin 128) :
    val_main_v91 (F := Ideal) x0 x1 x2 x3 x4 x5 (ix4 b h p n) = (step x0 x1 x2 x3 x4 x5 x6 x7 b).state (col h p) n := by
  have e1 : val_main_v90 (F := Ideal) x0 x1 x5 (ix4 b h p n) = _ := gen90 (val_main_v49 (F := Ideal) x1) (val_main_v60 (F := Ideal) x0 x5) b h p n
  have e2 : val_main_v84 (F := Ideal) x0 x2 x3 x4 x5 (ix4 b h p n) = _ :=
    gen84 (val_main_v56 (F := Ideal) x0 x2 x3 x4) (val_main_v60 (F := Ideal) x0 x5) (val_main_v51 (F := Ideal) x0 x2 x3 x4) b h p n
  refine (congrArg₂ (· + ·) e1 e2).trans ?_
  simp only [scaled_apply x0 x1 x2 x3 x4 x5 x6 x7, decay_apply x0 x1 x2 x3 x4 x5 x6 x7, bm_apply x0 x1 x2 x3 x4 x5 x6 x7 b _ h p, h0_apply]
  unfold Step.state SsdMath.kept
  rw [head_col, mul_comm]
  have s : (step x0 x1 x2 x3 x4 x5 x6 x7 b).start (col h p) n = x1 (ix5 0 b h p n) := by
    show x1 (ix5 0 b _ _ n) = _
    congr 2
    · exact Fin.ext (by show (h.val * 64 + p.val) / 64 = h.val; omega)
    · exact Fin.ext (by show (h.val * 64 + p.val) % 64 = p.val; omega)
  rw [s]

/-- What a row takes of another, in one head. -/
theorem weight_apply (b : Fin 16) (t s : Fin 32) (h : Fin 8) (p : Fin 64) :
    val_main_v74 (F := Ideal) x0 x2 x3 x4 x5 (ix4 b t s h)
      = (∑ n : Fin 128, (step x0 x1 x2 x3 x4 x5 x6 x7 b).act t (SsdMath.chan 768 (col h p) n) * (step x0 x1 x2 x3 x4 x5 x6 x7 b).act s (SsdMath.chan 512 (col h p) n))
        * (if s.val ≤ t.val then Ideal.exp ((step x0 x1 x2 x3 x4 x5 x6 x7 b).decay h t - (step x0 x1 x2 x3 x4 x5 x6 x7 b).decay h s) else 0) := by
  have e1 : val_main_v73 (F := Ideal) x0 x2 x3 x4 (ix4 b t s h) = _ :=
    gen73 (val_main_v51 (F := Ideal) x0 x2 x3 x4) (val_main_v53 (F := Ideal) x0 x2 x3 x4) b t s h
  have e2 : val_main_v71 (F := Ideal) x0 x5 (ix4 b t s h) = _ := gen71 (val_main_v60 (F := Ideal) x0 x5) b t s h
  refine (congrArg₂ (· * ·) e1 e2).trans ?_
  simp only [decay_apply x0 x1 x2 x3 x4 x5 x6 x7, bm_apply x0 x1 x2 x3 x4 x5 x6 x7 b _ h p, cm_apply x0 x1 x2 x3 x4 x5 x6 x7 b _ h p]
  congr 1
  exact Finset.sum_congr rfl fun n _ => mul_comm _ _

/-- The state a head starts from. -/
theorem start_col (b : Fin 16) (h : Fin 8) (p : Fin 64) (n : Fin 128) :
    (step x0 x1 x2 x3 x4 x5 x6 x7 b).start (col h p) n = x1 (ix5 0 b h p n) := by
  show x1 (ix5 0 b _ _ n) = _
  congr 2
  · exact Fin.ext (by show (h.val * 64 + p.val) / 64 = h.val; omega)
  · exact Fin.ext (by show (h.val * 64 + p.val) % 64 = p.val; omega)

/-- What a row puts out in one column. -/
theorem row_apply (b : Fin 16) (t : Fin 32) (h : Fin 8) (p : Fin 64) :
    val_main_v104 (F := Ideal) x0 x1 x2 x3 x4 x5 x6 (ix4 b t h p) = (step x0 x1 x2 x3 x4 x5 x6 x7 b).row t (col h p) := by
  have e1 : val_main_v76 (F := Ideal) x0 x2 x3 x4 x5 (ix4 b t h p) = _ :=
    gen76 (val_main_v56 (F := Ideal) x0 x2 x3 x4) (val_main_v74 (F := Ideal) x0 x2 x3 x4 x5) b t h p
  have e2 : val_main_v93 (F := Ideal) x0 x1 x2 x3 x4 (ix4 b t h p) = _ :=
    gen93 (val_main_v49 (F := Ideal) x1) (val_main_v53 (F := Ideal) x0 x2 x3 x4) b t h p
  refine (gen104 (val_main_v76 (F := Ideal) x0 x2 x3 x4 x5) (val_main_v93 (F := Ideal) x0 x1 x2 x3 x4) (val_main_v41 (F := Ideal) x0 x2 x3 x4)
    (val_main_v60 (F := Ideal) x0 x5) x6 b t h p).trans ?_
  rw [e1, e2]
  simp only [scaled_apply x0 x1 x2 x3 x4 x5 x6 x7, decay_apply x0 x1 x2 x3 x4 x5 x6 x7, cm_apply x0 x1 x2 x3 x4 x5 x6 x7 b _ h p,
    weight_apply x0 x1 x2 x3 x4 x5 x6 x7 b t _ h p, xs_apply x0 x1 x2 x3 x4 x5 x6 x7, h0_apply]
  unfold Step.row SsdMath.mixed
  simp only [head_col, start_col]
  refine congrArg₂ (· + ·) (congrArg₂ (· + ·) (Finset.sum_congr rfl fun s _ => ?_) ?_) rfl
  · split
    · exact mul_comm _ _
    · rw [mul_zero, mul_zero]
  · exact congrArg (· * _) (Finset.sum_congr rfl fun n _ => mul_comm _ _)

/-- A row's column after its gate. -/
theorem gated_apply (b : Fin 16) (t : Fin 32) (g : Fin 2) (k : Fin 256) :
    val_main_v108 (F := Ideal) x0 x1 x2 x3 x4 x5 x6 (ix4 b t g k)
      = (step x0 x1 x2 x3 x4 x5 x6 x7 b).gated t (⟨g.val * 256 + k.val, by omega⟩ : Fin 512) := by
  refine (gen108 (val_main_v104 (F := Ideal) x0 x1 x2 x3 x4 x5 x6) (val_main_v106 (F := Ideal) x0) b t g k).trans ?_
  have e1 : val_main_v106 (F := Ideal) x0 (ix3 b t (⟨g.val * 256 + k.val, by omega⟩ : Fin 512)) = _ := gen106 (val_main_v3 (F := Ideal) x0) b t _
  rw [e1, z_apply, row_apply x0 x1 x2 x3 x4 x5 x6 x7]
  have e2 : col (⟨(g.val * 256 + k.val) / 64, by omega⟩ : Fin 8) (⟨(g.val * 256 + k.val) % 64, by omega⟩ : Fin 64)
      = (⟨g.val * 256 + k.val, by omega⟩ : Fin 512) := Fin.ext (by show (g.val * 256 + k.val) / 64 * 64 + (g.val * 256 + k.val) % 64 = g.val * 256 + k.val; omega)
  rw [e2]
  rfl

/-- The rows the step puts out. -/
theorem out_apply (Q R : Fin 512) :
    val_main_v125 (F := Ideal) x0 x1 x2 x3 x4 x5 x6 x7 (ix2 Q R)
      = (step x0 x1 x2 x3 x4 x5 x6 x7 (⟨Q.val / 32, by omega⟩ : Fin 16)).out (⟨Q.val % 32, by omega⟩ : Fin 32) R := by
  refine (gen125 (val_main_v108 (F := Ideal) x0 x1 x2 x3 x4 x5 x6) x7 Q R).trans ?_
  simp only [gated_apply x0 x1 x2 x3 x4 x5 x6 x7]
  rfl

/-- The states after the step. -/
theorem states_apply (b : Fin 16) (R : Fin 512) (n : Fin 128) :
    val_main_v126 (F := Ideal) x0 x1 x2 x3 x4 x5 (ix3 b R n) = (step x0 x1 x2 x3 x4 x5 x6 x7 b).state R n := by
  have e : col (⟨R.val / 64, by omega⟩ : Fin 8) (⟨R.val % 64, by omega⟩ : Fin 64) = R :=
    Fin.ext (by show R.val / 64 * 64 + R.val % 64 = _; omega)
  have s := state_apply x0 x1 x2 x3 x4 x5 x6 x7 b (⟨R.val / 64, by omega⟩ : Fin 8) (⟨R.val % 64, by omega⟩ : Fin 64) n
  rw [e] at s
  refine Eq.trans ?_ s
  unfold val_main_v126
  generalize val_main_v91 (F := Ideal) x0 x1 x2 x3 x4 x5 = S
  pointwise

/-- The rows kept for the next step. -/
theorem last_apply (b : Fin 16) (k : Fin 3) (j : Fin 1024) :
    val_main_v38 (F := Ideal) x0 x2 (ix3 b k j) = (step x0 x1 x2 x3 x4 x5 x6 x7 b).last k j := by
  have e : val_main_v38 (F := Ideal) x0 x2 (ix3 b k j) = val_main_v6 (F := Ideal) x0 x2 (ix3 b (⟨32 + k.val, by omega⟩ : Fin 35) j) := by
    unfold val_main_v38
    generalize val_main_v6 (F := Ideal) x0 x2 = S
    pointwise
  rw [e, rows_apply, SsdMath.rows, dif_neg (by show ¬ 32 + k.val < 3; omega)]
  refine congrArg x0 (congrArg (ix2 · _) (Fin.ext ?_))
  show 16896 + (b.val * 32 + (32 + k.val - 3)) = 16896 + (b.val * 32 + (29 + k.val))
  omega

end

end Cert.SsdRefIdeal.Att

end
-- ==== Proof.SsdClaim.lean ====
/- The state-space mixer's claims, each as the generated statement has it. -/
module

public import proofs.«01_k».proof.Proof.SsdValue
public import proofs.«01_k».proof.Proof.SsdRef
public import proofs.«01_k».proof.Proof.Gen.Ssd.Frame
public import proofs.«01_k».proof.Proof.Gen.SsdRefIdeal.Run
public import proofs.«01_k».proof.Pre_decaying
public import proofs.«01_k».proof.Defs
public import Idealize.ShloMosaic.Lib.Claim
public import Idealize.ShloMosaic.Lib.Pointwise

@[expose] public section

set_option maxRecDepth 16384

noncomputable section

namespace Cert.SsdIdeal.Att

open Idealize.ShloMosaic Idealize.ShloMosaic.TcCoe Idealize.SL.Sem
open Cert.SsdIdeal Cert.SsdIdeal.Gen

variable (m : (ℓ : Loc nD τ sig) → Buf (Elt Ideal) ℓ)

/-- A grid point's step is the reference's of the same arguments. -/
theorem step_eq (c : Dev nD) (t : Fin cfg0.N) :
    step m c t = Cert.SsdRefIdeal.Att.step (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (⟨t.val, lt_points t⟩ : Fin 16) := rfl

set_option maxHeartbeats 1600000 in
/-- The rows after the run. -/
theorem final10 (c : Dev nD) (hd : ∀ t h k, (step m c t).expo h k ≠ ⊤) :
    (dats m 0 c).arrAt 10 cfg0.N
      = Cert.SsdRefIdeal.Read.val_main_v125 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 10 _ (by decide +kernel) fun t hf y => ?_
  have ht := lt_points t
  blk_simp
  rw [after0_10]
  idx_vars y
  have e : ((View.whole main_v18_0).slice (win0_10.rect t)).emb (ix2 y0 y1)
      = ix2 (⟨t.val * 32 + y0.val, by omega⟩ : Fin 512) y1 := by
    blk_ext [idx t]
  rw [e, Cert.SsdRefIdeal.Att.out_apply]
  refine (block10 m c t (hd t) y0 y1).trans ?_
  rw [step_eq]
  have e1 : (⟨(t.val * 32 + y0.val) / 32, by omega⟩ : Fin 16) = ⟨t.val, ht⟩ := Fin.ext (by simp only; omega)
  have e2 : (⟨(t.val * 32 + y0.val) % 32, by omega⟩ : Fin 32) = y0 := Fin.ext (by simp only; omega)
  simp only [e1, e2]

set_option maxHeartbeats 1600000 in
/-- The states after the run. -/
theorem final11 (c : Dev nD) (hd : ∀ t h k, (step m c t).expo h k ≠ ⊤) :
    (dats m 0 c).arrAt 11 cfg0.N
      = Cert.SsdRefIdeal.Read.val_main_v126 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 11 _ (by decide +kernel) fun t hf y => ?_
  have ht := lt_points t
  blk_simp
  rw [after0_11]
  idx_vars y
  have e : ((View.whole main_v18_1).slice (win0_11.rect t)).emb (ix3 y0 y1 y2)
      = ix3 (⟨t.val, ht⟩ : Fin 16) y1 y2 := by
    blk_ext [idx t]
  have e0 : y0 = 0 := Fin.ext (by omega)
  rw [e, e0]
  refine (block11 m c t (hd t) y1 y2).trans ?_
  rw [step_eq]
  exact (Cert.SsdRefIdeal.Att.states_apply _ _ _ _ _ _ _ _ _ _ _).symm

set_option maxHeartbeats 1600000 in
/-- The kept rows after the run. -/
theorem final12 (c : Dev nD) :
    (dats m 0 c).arrAt 12 cfg0.N
      = Cert.SsdRefIdeal.Read.val_main_v38 (F := Ideal) (m ((c : Thread nD τ).loc main_arg0)) (m ((c : Thread nD τ).loc main_arg2)) := by
  refine (dats m 0 c).arrAt_eq_of_covers 12 _ (by decide +kernel) fun t hf y => ?_
  have ht := lt_points t
  blk_simp
  rw [after0_12]
  idx_vars y
  have e : ((View.whole main_v18_2).slice (win0_12.rect t)).emb (ix3 y0 y1 y2)
      = ix3 (⟨t.val, ht⟩ : Fin 16) y1 y2 := by
    blk_ext [idx t]
  have e0 : y0 = 0 := Fin.ext (by omega)
  rw [e, e0]
  refine (block12 m c t y1 y2).trans ?_
  rw [step_eq]
  exact (Cert.SsdRefIdeal.Att.last_apply _ _ _ _ _ _ _ _ _ _ _).symm

end Cert.SsdIdeal.Att

namespace Cert.Pre_decaying

open Idealize.ShloMosaic

/-- The side conditions of the precondition's operations. -/
theorem side : Facts where
  slices_S17408x3328_S512x8_16896_3072 := by decide
  shapeCasts_S1x8_S8 := by decide
  bcast_S8_S1x8_1 := by decide
  bcast_S1x8_S512x8_0_1 := by decide
  bcast_S_S512x8 := by decide

/-- A value below the literal infinity is not infinity. -/
theorem ne_top_of_lt {x : EReal} (h : Ideal.cmp .olt x (Ideal.ofBits .f32 0x7F800000#32) = 1#1) : x ≠ ⊤ := by
  have e : Ideal.ofBits .f32 0x7F800000#32 = (⊤ : EReal) := by simp [Ideal.ofBits, Ideal.ieee]
  rw [e] at h
  rintro rfl
  simp [Ideal.cmp] at h

variable [Facts]
open Facts

/-- The predicate at one element. -/
theorem fn_apply (x0 : FVec Ideal S17408x3328 .f32) (x1 : FVec Ideal S1x16x8x64x128 .f32) (x2 : FVec Ideal S1x16x3x1024 .f32)
    (x3 : FVec Ideal S1x4x1024 .f32) (x4 : FVec Ideal S1x1024 .f32) (x5 x6 : FVec Ideal S1x8 .f32) (x7 : FVec Ideal S1x512 .f32)
    (i : Fin 512) (h : Fin 8) :
    fn x0 x1 x2 x3 x4 x5 x6 x7 (ix2 i h)
      = Ideal.cmp .olt (x0 (ix2 (⟨16896 + i.val, by omega⟩ : Fin 17408) (⟨3072 + h.val, by omega⟩ : Fin 3328)) * -Ideal.exp (x5 (ix2 0 h)))
          (Ideal.ofBits .f32 0x7F800000#32) := by
  pointwise [fn]

end Cert.Pre_decaying

namespace Cert.SsdClaim

open Idealize.ShloMosaic Idealize.ShloMosaic.StableHlo Idealize.SL.Sem

/-- The reference runs and leaves its arguments. -/
theorem reference_frame : @Cert.quiescent_SsdRefIdeal Cert.SsdRefIdeal.Gen.facts := by
  intro m g _
  exact (θ_run _ _ _).mono (fun r h => ⟨fun c => (h c).2.2.2, sem_eq_zero_of_no_sems rfl r.2⟩) (Cert.SsdRefIdeal.Value.run m g)

/-- The same under the precondition, which it does not need. -/
theorem reference_frame_pre : @Cert.quiescent_SsdRefIdeal_pre_decaying Cert.SsdRefIdeal.Gen.facts
    Cert.Pre_decaying.side :=
  fun m g _ => reference_frame m g trivial

section

open Cert.SsdRefIdeal

/-- Equal arguments, equal results. -/
theorem agree_rows {x0 y0 : FVec Ideal S17408x3328 .f32} {x1 y1 : FVec Ideal S1x16x8x64x128 .f32} {x2 y2 : FVec Ideal S1x16x3x1024 .f32} {x3 y3 : FVec Ideal S1x4x1024 .f32} {x4 y4 : FVec Ideal S1x1024 .f32} {x5 y5 : FVec Ideal S1x8 .f32} {x6 y6 : FVec Ideal S1x8 .f32} {x7 y7 : FVec Ideal S1x512 .f32}
    (h0 : x0 = y0) (h1 : x1 = y1) (h2 : x2 = y2) (h3 : x3 = y3) (h4 : x4 = y4) (h5 : x5 = y5) (h6 : x6 = y6) (h7 : x7 = y7) :
    Read.val_main_v125 (F := Ideal) x0 x1 x2 x3 x4 x5 x6 x7 = Read.val_main_v125 (F := Ideal) y0 y1 y2 y3 y4 y5 y6 y7 := by
  rw [h0, h1, h2, h3, h4, h5, h6, h7]

/-- Equal arguments, equal results. -/
theorem agree_states {x0 y0 : FVec Ideal S17408x3328 .f32} {x1 y1 : FVec Ideal S1x16x8x64x128 .f32} {x2 y2 : FVec Ideal S1x16x3x1024 .f32} {x3 y3 : FVec Ideal S1x4x1024 .f32} {x4 y4 : FVec Ideal S1x1024 .f32} {x5 y5 : FVec Ideal S1x8 .f32}
    (h0 : x0 = y0) (h1 : x1 = y1) (h2 : x2 = y2) (h3 : x3 = y3) (h4 : x4 = y4) (h5 : x5 = y5) :
    Read.val_main_v126 (F := Ideal) x0 x1 x2 x3 x4 x5 = Read.val_main_v126 (F := Ideal) y0 y1 y2 y3 y4 y5 := by
  rw [h0, h1, h2, h3, h4, h5]

/-- Equal arguments, equal results. -/
theorem agree_kept {x0 y0 : FVec Ideal S17408x3328 .f32} {x2 y2 : FVec Ideal S1x16x3x1024 .f32}
    (h0 : x0 = y0) (h2 : x2 = y2) :
    Read.val_main_v38 (F := Ideal) x0 x2 = Read.val_main_v38 (F := Ideal) y0 y2 := by
  rw [h0, h2]

end

set_option maxHeartbeats 1600000 in
/-- The idealized kernel and the reference leave the same arrays, where no decay exponent is infinity. -/
theorem algebraic : @Cert.algebraic_SsdIdeal_SsdRefIdeal_pre_decaying Cert.SsdIdeal.Gen.facts
    Cert.SsdRefIdeal.Gen.facts Cert.Pre_decaying.side := by
  intro m g m' g' hpre hagree
  have hd : ∀ c t h k, (Cert.SsdIdeal.Att.step m c t).expo h k ≠ ⊤ := fun c t h k => by
    have p := congrFun (hpre c) (ix2 (⟨t.val * 32 + k.val, by have := Cert.SsdIdeal.Att.lt_points t; omega⟩ : Fin 512) h)
    exact Cert.Pre_decaying.ne_top_of_lt ((@Cert.Pre_decaying.fn_apply Cert.Pre_decaying.side _ _ _ _ _ _ _ _ _ _).symm.trans p)
  refine ⟨fun c => (Cert.SsdIdeal.Gen.dats m 0 c).arrAt 10 Cert.SsdIdeal.cfg0.N,
    fun c => (Cert.SsdIdeal.Gen.dats m 0 c).arrAt 11 Cert.SsdIdeal.cfg0.N,
    fun c => (Cert.SsdIdeal.Gen.dats m 0 c).arrAt 12 Cert.SsdIdeal.cfg0.N, ?_, ?_⟩
  · run_from Cert.SsdIdeal.Value.run_blocks m g
  · run_from Cert.SsdRefIdeal.Value.run m' g'
    · obtain ⟨a0, a1, a2, a3, a4, a5, a6, a7⟩ := hagree c
      rw [← a7]
      exact (Cert.SsdRefIdeal.Read.val_main_v125_eq (launchContents m' c)).trans
        ((agree_rows a0 a1 a2 a3 a4 a5 a6 a7).trans (Cert.SsdIdeal.Att.final10 m c (hd c)).symm)
    · obtain ⟨a0, a1, a2, a3, a4, a5, a6, a7⟩ := hagree c
      exact (Cert.SsdRefIdeal.Read.val_main_v126_eq (launchContents m' c)).trans
        ((agree_states a0 a1 a2 a3 a4 a5).trans (Cert.SsdIdeal.Att.final11 m c (hd c)).symm)
    · obtain ⟨a0, a1, a2, a3, a4, a5, a6, a7⟩ := hagree c
      exact (Cert.SsdRefIdeal.Read.val_main_v38_eq (launchContents m' c)).trans
        ((agree_kept a0 a2).trans (Cert.SsdIdeal.Att.final12 m c).symm)

end Cert.SsdClaim

end
-- ==== Proof.MixMath.lean ====
/- The mathematics of the output projections both programs are read as. -/
module

public import proofs.«01_k».proof.Proof.FfnMath
public import Idealize.ShloMosaic.Lib.Pipeline.ValueKit
public import Idealize.ShloMosaic.Lib.Pointwise

@[expose] public section

set_option maxRecDepth 16384

noncomputable section

namespace Cert.MixMath

open Idealize.ShloMosaic

/-- A row of the prompt streams' array followed by the sample streams' array. -/
def rows (p : Fin 16896 → Fin 512 → EReal) (s : Fin 512 → Fin 512 → EReal) (r : Fin 17408) (j : Fin 512) : EReal :=
  if h : r.val < 16896 then p ⟨r.val, h⟩ j else s ⟨r.val - 16896, by omega⟩ j

/-- The product of two half rows, side by side, with the weights. -/
def product (a b : Fin 512 → EReal) (w : Fin 1024 → Fin 1024 → EReal) (k : Fin 1024) : EReal :=
  (∑ j : Fin 512, a j * w ⟨j.val, by omega⟩ k) + ∑ j : Fin 512, b j * w ⟨512 + j.val, by omega⟩ k

/-- The row plus its update. -/
def update (a b : Fin 512 → EReal) (w : Fin 1024 → Fin 1024 → EReal) (x g : Fin 1024 → EReal) (k : Fin 1024) : EReal :=
  x k + FfnMath.norm (product a b w) g k

/-- A sum over a row is the sum over its two halves. -/
theorem split (f : Fin 1024 → EReal) :
    ∑ k, f k = (∑ j : Fin 512, f ⟨j.val, by omega⟩) + ∑ j : Fin 512, f ⟨512 + j.val, by omega⟩ :=
  Fin.sum_univ_add (a := 512) (b := 512) f

/-- The smooth gate of a value. -/
def gelu (y : EReal) : EReal :=
  y * (Ideal.ofBits .f32 0x3F000000#32 * (1 + Ideal.tanh (Ideal.ofBits .f32 0x3F4C422A#32 * (y + Ideal.ofBits .f32 0x3D372713#32 * (y * y * y)))))

/-- A gated half row: each gate times the logistic of the gates' product with the weights. -/
def glu (y : Fin 512 → EReal) (w : Fin 512 → Fin 512 → EReal) (b : Fin 512 → EReal) (j : Fin 512) : EReal :=
  gelu (y j) * Ideal.div 1 (1 + Ideal.exp (-((∑ k : Fin 512, gelu (y k) * w k j) + b j)))

/-- The state space's row with its skip. -/
def skip (y u d : Fin 512 → EReal) (j : Fin 512) : EReal := y j + d j * u j

end Cert.MixMath

end
-- ==== Proof.McdKernel.lean ====
/- What the second layer's output projection computes at one grid point, read at one element. -/
module

public import proofs.«01_k».proof.Proof.Gen.McdIdeal.Frame
public import proofs.«01_k».proof.Proof.MixMath
public import Idealize.ShloMosaic.Lib.Pipeline.ValueKit
public import Idealize.ShloMosaic.Lib.Pointwise
public import Idealize.ShloMosaic.Lib.Claim

@[expose] public section

set_option maxRecDepth 16384

noncomputable section

namespace Cert.McdIdeal.Att

open Idealize.ShloMosaic Idealize.ShloMosaic.TcCoe Idealize.SL.Sem
open Cert.McdIdeal Cert.McdIdeal.Gen

/-- The choice between the two streams' blocks. -/
theorem pick {α : Type} (n : Nat) (h : n < 34) (a b : α) :
    Scalar.select (Scalar.cmpi .slt (BitVec.ofNat 32 n) 33#32) a b = if n < 33 then a else b := by
  have e : ∀ n : Fin 34, Scalar.cmpi .slt (BitVec.ofNat 32 n.val) 33#32 = if n.val < 33 then 1#1 else 0#1 := by decide +kernel
  rw [e ⟨n, h⟩]
  by_cases l : n < 33
  · simp only [if_pos l]
    rfl
  · simp only [if_neg l]
    rfl

/-- The block a point writes. -/
theorem pay1_apply (i : grid0.Coords) (a a' b b' : Vec Ideal S512x512 .bf16) (v w : Vec Ideal S512x1024 .bf16) (x : Vec Ideal S512x1024 .f32)
    (g : Vec Ideal S1x1x1024 .f32) (W : Fin 1024 → Fin 1024 → EReal) (hv : ∀ (j : Fin 512) k, v (ix2 j k) = W ⟨j.val, by omega⟩ k)
    (hw : ∀ (j : Fin 512) k, w (ix2 j k) = W ⟨512 + j.val, by omega⟩ k) (r : Fin 512) (k : Fin 1024) :
    k0_pay1 i a a' v b b' w x g (ix2 r k)
      = MixMath.update (fun j => (if (i 0).val < 33 then a else a') (ix2 r j)) (fun j => (if (i 0).val < 33 then b else b') (ix2 r j)) W
          (fun k => x (ix2 r k)) (fun k => g (ix3 0 0 k)) k := by
  have hi : (i 0).val < 34 := (i 0).isLt
  unfold k0_pay1
  simp only [pick _ hi]
  generalize (if (i 0).val < 33 then a else a') = A
  generalize (if (i 0).val < 33 then b else b') = B
  pointwise
  simp only [hv, hw]
  rfl

variable (m : (ℓ : Loc nD τ sig) → Buf (Elt Ideal) ℓ)

/-- Which block of its array each window holds at a point. -/
theorem idx : ∀ t : Fin cfg0.N,
    win0_0.index t = ![min t.val 32, 0] ∧ win0_1.index t = ![0, 0] ∧
    win0_2.index t = ![min t.val 32, 0] ∧ win0_3.index t = ![0, 0] ∧
    win0_4.index t = ![0, 0] ∧ win0_5.index t = ![t.val, 0] ∧ win0_6.index t = ![1, 0, 0] ∧ win0_7.index t = ![t.val, 0] :=
  (by decide +kernel : ∀ t : Fin grid0.N, _)

/-- There are 34 points. -/
theorem lt_points (t : Fin cfg0.N) : t.val < 34 := t.isLt

/-- A point's coordinate is its number. -/
theorem coord : ∀ t : Fin cfg0.N, (grid0.coords t 0).val = t.val :=
  (by decide +kernel : ∀ t : Fin grid0.N, (grid0.coords t 0).val = t.val)

/-- The weights the run begins with. -/
theorem weights_eq (c : Dev nD) (j k : Fin 1024) :
    (V m c main_v2 : FVec Ideal S1024x1024 .bf16) (ix2 j k) = m ((c : Thread nD τ).loc main_arg4) (ix3 0 j k) := by
  simp only [V, hostOps0]
  entry_read
  pointwise

/-- The gain the run begins with. -/
theorem gain_eq (c : Dev nD) (i : Fin 2) (k : Fin 1024) :
    (V m c main_v0 : FVec Ideal S2x1x1024 .f32) (ix3 i 0 k) = m ((c : Thread nD τ).loc main_arg6) (ix2 i k) := by
  simp only [V, hostOps0]
  entry_read
  pointwise

/-- The first half rows of a prompt point. -/
theorem read_a (c : Dev nD) (t : Fin cfg0.N) (h : t.val < 33) (r j : Fin 512) :
    iblk m c 0 t (ix2 r j) = m ((c : Thread nD τ).loc main_arg0) (ix2 (⟨t.val * 512 + r.val, by omega⟩ : Fin 16896) j) := by
  have e : min t.val 32 = t.val := by omega
  refine Eq.trans ?_ (congrFun (V_main_arg0 m c) _)
  blk_ext [iblk, idx t, e]

/-- The first half rows of the sample point. -/
theorem read_a' (c : Dev nD) (t : Fin cfg0.N) (r j : Fin 512) :
    iblk m c 1 t (ix2 r j) = m ((c : Thread nD τ).loc main_arg1) (ix2 r j) := by
  refine Eq.trans ?_ (congrFun (V_main_arg1 m c) _)
  blk_ext [iblk, idx t]

/-- The last half rows of a prompt point. -/
theorem read_b (c : Dev nD) (t : Fin cfg0.N) (h : t.val < 33) (r j : Fin 512) :
    iblk m c 2 t (ix2 r j) = m ((c : Thread nD τ).loc main_arg2) (ix2 (⟨t.val * 512 + r.val, by omega⟩ : Fin 16896) j) := by
  have e : min t.val 32 = t.val := by omega
  refine Eq.trans ?_ (congrFun (V_main_arg2 m c) _)
  blk_ext [iblk, idx t, e]

/-- The last half rows of the sample point. -/
theorem read_b' (c : Dev nD) (t : Fin cfg0.N) (r j : Fin 512) :
    iblk m c 3 t (ix2 r j) = m ((c : Thread nD τ).loc main_arg3) (ix2 r j) := by
  refine Eq.trans ?_ (congrFun (V_main_arg3 m c) _)
  blk_ext [iblk, idx t]

/-- The weights of a point. -/
theorem read_w (c : Dev nD) (t : Fin cfg0.N) (j k : Fin 1024) :
    iblk m c 4 t (ix2 j k) = m ((c : Thread nD τ).loc main_arg4) (ix3 0 j k) := by
  refine Eq.trans ?_ (weights_eq m c j k)
  blk_ext [iblk, idx t]

/-- The rows a point adds to. -/
theorem read_x (c : Dev nD) (t : Fin cfg0.N) (r : Fin 512) (k : Fin 1024) :
    iblk m c 5 t (ix2 r k) = m ((c : Thread nD τ).loc main_arg5)
      (ix2 (⟨t.val * 512 + r.val, by have := lt_points t; omega⟩ : Fin 17408) k) := by
  have := lt_points t
  refine Eq.trans ?_ (congrFun (V_main_arg5 m c) _)
  blk_ext [iblk, idx t]

/-- The gain of a point. -/
theorem read_g (c : Dev nD) (t : Fin cfg0.N) (k : Fin 1024) :
    iblk m c 6 t (ix3 0 0 k) = m ((c : Thread nD τ).loc main_arg6) (ix2 1 k) := by
  refine Eq.trans ?_ (gain_eq m c 1 k)
  blk_ext [iblk, idx t]

end Cert.McdIdeal.Att

end
-- ==== Proof.McdRef.lean ====
/- The second layer's output projection, the reference read at one element of its result. -/
module

public import proofs.«01_k».proof.Proof.Gen.McdRefIdeal.Read
public import proofs.«01_k».proof.Proof.MixMath
public import Idealize.ShloMosaic.Lib.Pipeline.ValueKit
public import Idealize.ShloMosaic.Lib.Pointwise

@[expose] public section

set_option maxRecDepth 16384

noncomputable section

namespace Cert.McdRefIdeal.Att

open Idealize.ShloMosaic Idealize.ShloMosaic.TcCoe Idealize.SL.Sem
open Cert.McdRefIdeal Cert.McdRefIdeal.Read Cert.McdRefIdeal.Gen

/-- The update normalised. -/
theorem gen21 (X : FVec Ideal S17408x1024 .f32) (G : FVec Ideal S1024 .f32) (r : Fin 17408) (k : Fin 1024) :
    mulf (mulf X (broadcastInDim S17408x1024 ![0, 1] bcast_S17408x1_S17408x1024_0_1 (Host.rsqrt (addf (Host.divf
      (broadcastInDim S17408x1 ![0] bcast_S17408_S17408x1_0 (Host.reduceAdd (mulf X X) (val_main_cst (F := Ideal))
        reducesTo_S17408x1024_S17408_d1 h_S_)) (val_main_v12 (F := Ideal))) (val_main_v14 (F := Ideal))))))
      (broadcastInDim S17408x1024 ![0, 1] bcast_S1x1024_S17408x1024_0_1 (broadcastInDim S1x1024 ![1] bcast_S1024_S1x1024_1 G))
      (ix2 r k) = FfnMath.norm (fun k => X (ix2 r k)) (fun k => G (ix1 k)) k := by
  pointwise [val_main_cst, val_main_v12, val_main_v14, val_main_cst_0, val_main_cst_1]
  rfl

/-- The gain is the second row of its array. -/
theorem gen8 (G : FVec Ideal S2x1024 .f32) (k : Fin 1024) :
    val_main_v8 (F := Ideal) G (ix1 k) = G (ix2 1 k) := by
  pointwise [val_main_v8, val_main_v7]

/-- The two streams' rows one after the other. -/
theorem gen1 (A : FVec Ideal S16896x512 .bf16) (B : FVec Ideal S512x512 .bf16) (r : Fin 17408) (j : Fin 512) :
    val_main_v1 (F := Ideal) A B (ix2 r j) = MixMath.rows (fun i j => A (ix2 i j)) (fun i j => B (ix2 i j)) r j := by
  unfold MixMath.rows
  by_cases h : r.val < 16896
  · rw [dif_pos h]
    pointwise [val_main_v1, val_main_v0]
    rw [dif_pos h]
  · rw [dif_neg h]
    pointwise [val_main_v1, val_main_v0]
    rw [dif_neg h]

/-- The two half rows side by side. -/
theorem gen4 (A B : FVec Ideal S17408x512 .f32) (r : Fin 17408) (j : Fin 1024) :
    concatenate S17408x1024 1 [⟨S17408x512, A⟩, ⟨S17408x512, B⟩] concatenates_S17408x512_S17408x512_S17408x1024_d1 (ix2 r j)
      = if h : j.val < 512 then A (ix2 r (⟨j.val, h⟩ : Fin 512)) else B (ix2 r (⟨j.val - 512, by omega⟩ : Fin 512)) := by
  by_cases h : j.val < 512
  · rw [dif_pos h]
    pointwise
    rw [dif_pos h]
  · rw [dif_neg h]
    pointwise
    rw [dif_neg h]

/-- The product with the weights. -/
theorem gen6 (X : FVec Ideal S17408x1024 .f32) (W : FVec Ideal S1x1024x1024 .f32) (r : Fin 17408) (k : Fin 1024) :
    Host.dotGeneral (F := Ideal) (φ₁ := .f32) (φ₂ := .f32) dot_S17408x1024_S1024x1024_S17408x1024_1_0_0_1_n_n none X (val_main_v5 (F := Ideal) W) (ix2 r k)
      = ∑ j : Fin 1024, X (ix2 r j) * W (ix3 0 j k) := by
  pointwise [val_main_v5]

/-- The product of the half rows. -/
theorem gen46 (A B : FVec Ideal S17408x512 .f32) (W : FVec Ideal S1x1024x1024 .f32) (r : Fin 17408) (k : Fin 1024) :
    Host.dotGeneral (F := Ideal) (φ₁ := .f32) (φ₂ := .f32) dot_S17408x1024_S1024x1024_S17408x1024_1_0_0_1_n_n none
      (concatenate S17408x1024 1 [⟨S17408x512, A⟩, ⟨S17408x512, B⟩] concatenates_S17408x512_S17408x512_S17408x1024_d1 : FVec Ideal S17408x1024 .f32)
      (val_main_v5 (F := Ideal) W) (ix2 r k)
      = MixMath.product (fun j => A (ix2 r j)) (fun j => B (ix2 r j)) (fun j k => W (ix3 0 j k)) k := by
  rw [gen6, MixMath.split]
  unfold MixMath.product
  refine congrArg₂ (· + ·) (Finset.sum_congr rfl fun j _ => ?_) (Finset.sum_congr rfl fun j _ => ?_)
  · rw [gen4, dif_pos (show j.val < 512 from j.isLt)]
  · rw [gen4, dif_neg (show ¬512 + j.val < 512 by omega)]
    have e : (⟨512 + j.val - 512, by omega⟩ : Fin 512) = j := Fin.ext (by simp only; omega)
    rw [e]

variable (x0 : FVec Ideal S16896x512 .bf16) (x1 : FVec Ideal S512x512 .bf16) (x2 : FVec Ideal S16896x512 .bf16)
  (x3 : FVec Ideal S512x512 .bf16) (x4 : FVec Ideal S1x1024x1024 .f32) (x5 : FVec Ideal S17408x1024 .f32) (x6 : FVec Ideal S2x1024 .f32)

/-- One element of the product. -/
theorem product_apply (r : Fin 17408) (k : Fin 1024) :
    val_main_v6 (F := Ideal) x0 x1 x2 x3 x4 (ix2 r k)
      = MixMath.product (MixMath.rows (fun i j => x0 (ix2 i j)) (fun i j => x1 (ix2 i j)) r)
          (MixMath.rows (fun i j => x2 (ix2 i j)) (fun i j => x3 (ix2 i j)) r) (fun j k => x4 (ix3 0 j k)) k := by
  refine (gen46 (val_main_v1 (F := Ideal) x0 x1) (val_main_v3 (F := Ideal) x2 x3) x4 r k).trans ?_
  have e3 : val_main_v3 (F := Ideal) x2 x3 = val_main_v1 (F := Ideal) x2 x3 := rfl
  rw [e3]
  simp only [gen1]

/-- One element of the result. -/
theorem result_apply (r : Fin 17408) (k : Fin 1024) :
    val_main_v22 (F := Ideal) x0 x1 x2 x3 x4 x5 x6 (ix2 r k)
      = MixMath.update (MixMath.rows (fun i j => x0 (ix2 i j)) (fun i j => x1 (ix2 i j)) r)
          (MixMath.rows (fun i j => x2 (ix2 i j)) (fun i j => x3 (ix2 i j)) r) (fun j k => x4 (ix3 0 j k))
          (fun k => x5 (ix2 r k)) (fun k => x6 (ix2 1 k)) k := by
  have h := gen21 (val_main_v6 (F := Ideal) x0 x1 x2 x3 x4) (val_main_v8 (F := Ideal) x6) r k
  simp only [gen8, product_apply] at h
  unfold MixMath.update
  exact congrArg (fun z => x5 (ix2 r k) + z) h

end Cert.McdRefIdeal.Att

end
-- ==== Proof.McdValue.lean ====
/- The second layer's output projection: the blocks it writes, and the array it leaves. -/
module

public import proofs.«01_k».proof.Proof.Gen.McdIdeal.Value
public import proofs.«01_k».proof.Proof.McdKernel
public import proofs.«01_k».proof.Proof.McdRef
public import Idealize.ShloMosaic.Lib.Pipeline.ReadBack

@[expose] public section

set_option maxRecDepth 16384

noncomputable section

namespace Cert.McdIdeal.Att

open Idealize.ShloMosaic Idealize.ShloMosaic.TcCoe Idealize.SL.Sem
open Cert.McdIdeal Cert.McdIdeal.Gen

variable (m : (ℓ : Loc nD τ sig) → Buf (Elt Ideal) ℓ)

/-- The row of the result that row `r` of a point's block is. -/
def row (t : Fin cfg0.N) (r : Fin 512) : Fin 17408 := ⟨t.val * 512 + r.val, by have := lt_points t; omega⟩

/-- The first half rows of a point. -/
theorem half_a (c : Dev nD) (t : Fin cfg0.N) (r j : Fin 512) :
    (if t.val < 33 then iblk m c 0 t else iblk m c 1 t : Vec Ideal S512x512 .bf16) (ix2 r j)
      = MixMath.rows (fun i j => m ((c : Thread nD τ).loc main_arg0) (ix2 i j)) (fun i j => m ((c : Thread nD τ).loc main_arg1) (ix2 i j)) (row t r) j := by
  have := lt_points t
  unfold MixMath.rows
  by_cases h : t.val < 33
  · rw [if_pos h, dif_pos (show (row t r).val < 16896 by simp only [row]; omega)]
    exact read_a m c t h r j
  · have e : (⟨(row t r).val - 16896, by omega⟩ : Fin 512) = r := Fin.ext (by simp only [row]; omega)
    rw [if_neg h, dif_neg (show ¬(row t r).val < 16896 by simp only [row]; omega), e]
    exact read_a' m c t r j

/-- The last half rows of a point. -/
theorem half_b (c : Dev nD) (t : Fin cfg0.N) (r j : Fin 512) :
    (if t.val < 33 then iblk m c 2 t else iblk m c 3 t : Vec Ideal S512x512 .bf16) (ix2 r j)
      = MixMath.rows (fun i j => m ((c : Thread nD τ).loc main_arg2) (ix2 i j)) (fun i j => m ((c : Thread nD τ).loc main_arg3) (ix2 i j)) (row t r) j := by
  have := lt_points t
  unfold MixMath.rows
  by_cases h : t.val < 33
  · rw [if_pos h, dif_pos (show (row t r).val < 16896 by simp only [row]; omega)]
    exact read_b m c t h r j
  · have e : (⟨(row t r).val - 16896, by omega⟩ : Fin 512) = r := Fin.ext (by simp only [row]; omega)
    rw [if_neg h, dif_neg (show ¬(row t r).val < 16896 by simp only [row]; omega), e]
    exact read_b' m c t r j

/-- Some rows of the weights. -/
theorem ld_rows {R C k o : ℕ} {e : EltTy} (x : (⟨2, ![R, C]⟩ : Shape).Idx → Elt Ideal e)
    (inb : ∀ a, (![o, 0] : Fin 2 → ℕ) a + (![k, C] : Fin 2 → ℕ) a ≤ (![R, C] : Fin 2 → ℕ) a) (r : Fin k) (j : Fin C) (i : Fin R) (hi : i.val = o + r.val) :
    View.ld (Val := Elt Ideal) x (Rect.unit (s := (⟨2, ![R, C]⟩ : Shape)) ![o, 0] ![k, C] inb) (ix2 r j) = x (ix2 i j) := by
  refine congrArg x (funext fun a => Fin.ext ?_)
  fin_cases a
  · show o + 1 * r.val = i.val
    omega
  · show 0 + 1 * j.val = j.val
    omega

/-- A block read whole is the block. -/
theorem whole2 {a b : ℕ} {e : EltTy} (x : (⟨2, ![a, b]⟩ : Shape).Idx → Elt Ideal e) (inb) :
    View.ld (Val := Elt Ideal) x (Rect.unit (s := (⟨2, ![a, b]⟩ : Shape)) ![0, 0] ![a, b] inb) = x := by
  funext y
  refine congrArg x (funext fun i => Fin.ext ?_)
  fin_cases i
  · show 0 + 1 * (y 0).val = (y 0).val
    omega
  · show 0 + 1 * (y 1).val = (y 1).val
    omega

/-- A block read whole is the block. -/
theorem whole3 {a b d : ℕ} {e : EltTy} (x : (⟨3, ![a, b, d]⟩ : Shape).Idx → Elt Ideal e) (inb) :
    View.ld (Val := Elt Ideal) x (Rect.unit (s := (⟨3, ![a, b, d]⟩ : Shape)) ![0, 0, 0] ![a, b, d] inb) = x := by
  funext y
  refine congrArg x (funext fun i => Fin.ext ?_)
  fin_cases i
  · show 0 + 1 * (y 0).val = (y 0).val
    omega
  · show 0 + 1 * (y 1).val = (y 1).val
    omega
  · show 0 + 1 * (y 2).val = (y 2).val
    omega

/-- The upper half of the weights. -/
theorem upper (c : Dev nD) (t : Fin cfg0.N) (j : Fin 512) (k : Fin 1024) :
    View.ld (Val := Elt Ideal) (iblk m c 4 t) r0_1 (ix2 j k) = m ((c : Thread nD τ).loc main_arg4) (ix3 0 ⟨j.val, by omega⟩ k) :=
  (ld_rows (o := 0) (iblk m c 4 t) inb_S1024x1024_S512x1024_0_0 j k (⟨j.val, by omega⟩ : Fin 1024) (Nat.zero_add j.val).symm).trans (read_w m c t _ k)

/-- The lower half of the weights. -/
theorem lower (c : Dev nD) (t : Fin cfg0.N) (j : Fin 512) (k : Fin 1024) :
    View.ld (Val := Elt Ideal) (iblk m c 4 t) r0_2 (ix2 j k) = m ((c : Thread nD τ).loc main_arg4) (ix3 0 ⟨512 + j.val, by omega⟩ k) :=
  (ld_rows _ _ j k ⟨512 + j.val, by omega⟩ rfl).trans (read_w m c t _ k)

/-- The block a point writes. -/
theorem block_apply (c : Dev nD) (t : Fin cfg0.N) (r : Fin 512) (k : Fin 1024) :
    out0_7 (grid0.coords t) (iblk m c 0 t) (iblk m c 1 t) (iblk m c 2 t) (iblk m c 3 t) (iblk m c 4 t) (iblk m c 5 t) (iblk m c 6 t) (ix2 r k)
      = Cert.McdRefIdeal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t r) k) := by
  refine Eq.trans ?_ (McdRefIdeal.Att.result_apply _ _ _ _ _ _ _ _ _).symm
  unfold out0_7
  refine (congrFun (View.canon_cons_unit_lit _ _ _ (by decide)) (ix2 r k)).trans ?_
  refine (pay1_apply _ _ _ _ _ _ _ _ _ (fun j k => m ((c : Thread nD τ).loc main_arg4) (ix3 0 j k)) (fun j k => upper m c t j k)
    (fun j k => lower m c t j k) r k).trans ?_
  rw [coord t]
  have e0 := whole2 (iblk m c 0 t : Vec Ideal S512x512 .bf16) inb_S512x512_S512x512_0_0
  have e1 := whole2 (iblk m c 1 t : Vec Ideal S512x512 .bf16) inb_S512x512_S512x512_0_0
  have e2 := whole2 (iblk m c 2 t : Vec Ideal S512x512 .bf16) inb_S512x512_S512x512_0_0
  have e3 := whole2 (iblk m c 3 t : Vec Ideal S512x512 .bf16) inb_S512x512_S512x512_0_0
  have e5 := whole2 (iblk m c 5 t : Vec Ideal S512x1024 .f32) inb_S512x1024_S512x1024_0_0
  have e6 := whole3 (iblk m c 6 t : Vec Ideal S1x1x1024 .f32) inb_S1x1x1024_S1x1x1024_0_0_0
  erw [e0, e1, e2, e3, e5, e6]
  simp only [half_a, half_b, read_x, read_g]
  rfl

set_option maxHeartbeats 1600000 in
/-- The result after the run. -/
theorem final (c : Dev nD) :
    (dats m 0 c).arrAt 7 cfg0.N = Cert.McdRefIdeal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  have ht := lt_points t
  blk_simp
  rw [after0_7]
  idx_vars y
  have e : ((View.whole main_v3).slice (win0_7.rect t)).emb (ix2 y0 y1) = ix2 (row t y0) y1 := by
    blk_ext [idx t, row]
  rw [e]
  exact block_apply m c t y0 y1

end Cert.McdIdeal.Att

end
-- ==== Proof.McdClaim.lean ====
/- The second output projection's claims, each as the generated statement has it. -/
module

public import proofs.«01_k».proof.Defs
public import proofs.«01_k».proof.Proof.McdValue
public import proofs.«01_k».proof.Proof.Gen.McdRefIdeal.Run
public import proofs.«01_k».proof.Proof.Gen.Mcd.Frame
public import Idealize.ShloMosaic.Lib.Claim

@[expose] public section

set_option maxRecDepth 16384

noncomputable section

namespace Cert.McdClaim

open Idealize.ShloMosaic Idealize.SL.Sem

/-- The reference runs and leaves its arguments. -/
theorem reference_frame : @Cert.quiescent_McdRefIdeal Cert.McdRefIdeal.Gen.facts := by
  intro m g _
  exact (θ_run _ _ _).mono (fun r h => ⟨fun c => (h c).2, sem_eq_zero_of_no_sems rfl r.2⟩) (Cert.McdRefIdeal.Value.run m g)

set_option maxHeartbeats 1600000 in
/-- The idealized kernel and the reference leave the same array. -/
theorem algebraic : @Cert.algebraic_McdIdeal_McdRefIdeal Cert.McdIdeal.Gen.facts Cert.McdRefIdeal.Gen.facts := by
  intro m g m' g' _ hagree
  refine ⟨fun c => (Cert.McdIdeal.Gen.dats m 0 c).arrAt 7 Cert.McdIdeal.cfg0.N, ?_, ?_⟩
  · run_from Cert.McdIdeal.Value.run_blocks m g
  · run_from Cert.McdRefIdeal.Value.run m' g'
    refine (Cert.McdRefIdeal.Read.val_main_v22_eq _ _ _ _ _ _ _).trans ?_
    exact (Cert.McdIdeal.Att.final m c).symm

end Cert.McdClaim

end
-- ==== Proof.MabKernel.lean ====
/- What the first layer's output projection computes at one grid point, read at one element. -/
module

public import proofs.«01_k».proof.Proof.Gen.MabIdeal.Frame
public import proofs.«01_k».proof.Proof.MixMath
public import Idealize.ShloMosaic.Lib.Pipeline.ValueKit
public import Idealize.ShloMosaic.Lib.Pointwise
public import Idealize.ShloMosaic.Lib.Claim

@[expose] public section

set_option maxRecDepth 16384

noncomputable section

namespace Cert.MabIdeal.Att

open Idealize.ShloMosaic Idealize.ShloMosaic.TcCoe Idealize.SL.Sem
open Cert.MabIdeal Cert.MabIdeal.Gen

/-- The choice between the two streams' blocks. -/
theorem pick {α : Type} (n : Nat) (h : n < 34) (a b : α) :
    Scalar.select (Scalar.cmpi .slt (BitVec.ofNat 32 n) 33#32) a b = if n < 33 then a else b := by
  have e : ∀ n : Fin 34, Scalar.cmpi .slt (BitVec.ofNat 32 n.val) 33#32 = if n.val < 33 then 1#1 else 0#1 := by decide +kernel
  rw [e ⟨n, h⟩]
  by_cases l : n < 33
  · simp only [if_pos l]
    rfl
  · simp only [if_neg l]
    rfl

/-- The gates of a point. -/
theorem pay2_apply (i : grid0.Coords) (a a' : Vec Ideal S512x512 .f32) (d : Vec Ideal S1x512 .f32) (u : Vec Ideal S512x512 .f32) (r j : Fin 512) :
    k0_pay2 i a a' d u (ix2 r j)
      = MixMath.gelu (MixMath.skip (fun j => (if (i 0).val < 33 then a else a') (ix2 r j)) (fun j => u (ix2 r j)) (fun j => d (ix2 0 j)) j) := by
  have hi : (i 0).val < 34 := (i 0).isLt
  unfold k0_pay2
  simp only [pick _ hi]
  generalize (if (i 0).val < 33 then a else a') = A
  pointwise
  simp only [MixMath.gelu, MixMath.skip, Ideal.ofBits_one_f32]
  generalize A (ix2 r j) + d (ix2 0 j) * u (ix2 r j) = y
  rw [mul_comm _ y, mul_assoc]

/-- The logistic of a point. -/
theorem pay3_apply (i : grid0.Coords) (a a' : Vec Ideal S512x512 .f32) (d : Vec Ideal S1x512 .f32) (u : Vec Ideal S512x512 .f32)
    (w : Vec Ideal S512x512 .bf16) (b : Vec Ideal S1x512 .f32) (r j : Fin 512) :
    k0_pay3 i a a' d u w b (ix2 r j)
      = Ideal.div 1 (1 + Ideal.exp (-((∑ k : Fin 512, k0_pay2 i a a' d u (ix2 r k) * w (ix2 k j)) + b (ix2 0 j)))) := by
  unfold k0_pay3
  generalize k0_pay2 i a a' d u = X
  pointwise
  simp only [zero_sub, Ideal.ofBits_one_f32]

/-- The gated half row of a point. -/
theorem glu_apply (i : grid0.Coords) (a a' : Vec Ideal S512x512 .f32) (d : Vec Ideal S1x512 .f32) (u : Vec Ideal S512x512 .f32)
    (w : Vec Ideal S512x512 .bf16) (b : Vec Ideal S1x512 .f32) (r j : Fin 512) :
    k0_pay2 i a a' d u (ix2 r j) * k0_pay3 i a a' d u w b (ix2 r j)
      = MixMath.glu (MixMath.skip (fun j => (if (i 0).val < 33 then a else a') (ix2 r j)) (fun j => u (ix2 r j)) (fun j => d (ix2 0 j)))
          (fun k j => w (ix2 k j)) (fun j => b (ix2 0 j)) j := by
  rw [pay3_apply]
  simp only [pay2_apply]
  rfl

/-- The block a point writes. -/
theorem pay1_apply (n : ℕ) (hn : n < 34) (X Y : FVec Ideal S512x512 .f32) (b b' : Vec Ideal S512x512 .bf16) (v w : Vec Ideal S512x1024 .bf16)
    (x : Vec Ideal S512x1024 .f32) (g : Vec Ideal S1x1x1024 .f32) (W : Fin 1024 → Fin 1024 → EReal) (hv : ∀ (j : Fin 512) k, v (ix2 j k) = W ⟨j.val, by omega⟩ k)
    (hw : ∀ (j : Fin 512) k, w (ix2 j k) = W ⟨512 + j.val, by omega⟩ k) (r : Fin 512) (k : Fin 1024) :
    k0_pay1 (Scalar.cmpi .slt (BitVec.ofNat 32 n) 33#32) X Y v b b' w x g (ix2 r k)
      = MixMath.update (fun j => X (ix2 r j) * Y (ix2 r j)) (fun j => (if n < 33 then b else b') (ix2 r j)) W
          (fun k => x (ix2 r k)) (fun k => g (ix3 0 0 k)) k := by
  unfold k0_pay1
  simp only [pick _ hn]
  generalize (if n < 33 then b else b') = B
  pointwise
  simp only [hv, hw]
  rfl

variable (m : (ℓ : Loc nD τ sig) → Buf (Elt Ideal) ℓ)

/-- Which block of its array each window holds at a point. -/
theorem idx : ∀ t : Fin cfg0.N,
    win0_0.index t = ![min t.val 32, 0] ∧ win0_1.index t = ![0, 0] ∧ win0_2.index t = ![t.val, 0] ∧
    win0_3.index t = ![0, 0] ∧ win0_4.index t = ![0, 0] ∧ win0_5.index t = ![0, 0] ∧
    win0_6.index t = ![min t.val 32, 0] ∧ win0_7.index t = ![0, 0] ∧
    win0_8.index t = ![0, 0] ∧ win0_9.index t = ![t.val, 0] ∧ win0_10.index t = ![0, 0, 0] ∧ win0_11.index t = ![t.val, 0] :=
  (by decide +kernel : ∀ t : Fin grid0.N, _)

/-- There are 34 points. -/
theorem lt_points (t : Fin cfg0.N) : t.val < 34 := t.isLt

/-- A point's coordinate is its number. -/
theorem coord : ∀ t : Fin cfg0.N, (grid0.coords t 0).val = t.val :=
  (by decide +kernel : ∀ t : Fin grid0.N, (grid0.coords t 0).val = t.val)

/-- The weights the run begins with. -/
theorem weights_eq (c : Dev nD) (j k : Fin 1024) :
    (V m c main_v2 : FVec Ideal S1024x1024 .bf16) (ix2 j k) = m ((c : Thread nD τ).loc main_arg8) (ix3 0 j k) := by
  simp only [V, hostOps0]
  entry_read
  pointwise

/-- The gated unit's weights the run begins with. -/
theorem glu_eq (c : Dev nD) (j k : Fin 512) :
    (V m c main_v6 : FVec Ideal S512x512 .bf16) (ix2 j k) = m ((c : Thread nD τ).loc main_arg4) (ix3 0 j k) := by
  simp only [V, hostOps0]
  entry_read
  pointwise

/-- The skip's coefficients the run begins with. -/
theorem coef_eq (c : Dev nD) (j : Fin 512) :
    (V m c main_v4 : FVec Ideal S1x512 .f32) (ix2 0 j)
      = m ((c : Thread nD τ).loc main_arg3) (ix3 0 (⟨j.val / 16, by omega⟩ : Fin 32) (⟨j.val % 16, by omega⟩ : Fin 16)) := by
  simp only [V, hostOps0]
  entry_read
  pointwise

/-- The gated unit's bias the run begins with. -/
theorem bias_eq (c : Dev nD) (j : Fin 512) :
    (V m c main_v8 : FVec Ideal S1x512 .f32) (ix2 0 j) = m ((c : Thread nD τ).loc main_arg5) (ix2 0 j) := by
  simp only [V, hostOps0]
  entry_read
  pointwise

/-- The gain the run begins with. -/
theorem gain_eq (c : Dev nD) (i : Fin 2) (k : Fin 1024) :
    (V m c main_v0 : FVec Ideal S2x1x1024 .f32) (ix3 i 0 k) = m ((c : Thread nD τ).loc main_arg10) (ix2 i k) := by
  simp only [V, hostOps0]
  entry_read
  pointwise

/-- The state space's rows of a prompt point. -/
theorem read_a (c : Dev nD) (t : Fin cfg0.N) (h : t.val < 33) (r j : Fin 512) :
    iblk m c 0 t (ix2 r j) = m ((c : Thread nD τ).loc main_arg0) (ix2 (⟨t.val * 512 + r.val, by omega⟩ : Fin 16896) j) := by
  have e : min t.val 32 = t.val := by omega
  refine Eq.trans ?_ (congrFun (V_main_arg0 m c) _)
  blk_ext [iblk, idx t, e]

/-- The state space's rows of the sample point. -/
theorem read_a' (c : Dev nD) (t : Fin cfg0.N) (r j : Fin 512) :
    iblk m c 1 t (ix2 r j) = m ((c : Thread nD τ).loc main_arg1) (ix2 r j) := by
  refine Eq.trans ?_ (congrFun (V_main_arg1 m c) _)
  blk_ext [iblk, idx t]

/-- The skip's rows of a point. -/
theorem read_u (c : Dev nD) (t : Fin cfg0.N) (r j : Fin 512) :
    X0_2 m c t (ix2 r j) = m ((c : Thread nD τ).loc main_arg2)
      (ix2 (⟨t.val * 512 + r.val, by have := lt_points t; omega⟩ : Fin 17408) (⟨j.val, by omega⟩ : Fin 2304)) := by
  have := lt_points t
  refine Eq.trans ?_ (congrFun (V_main_arg2 m c) _)
  unfold X0_2 Pipeline.Window.fill
  rw [dif_pos (moved0_2 t _)]
  blk_ext [iblk, idx t]

/-- The skip's coefficients of a point. -/
theorem read_d (c : Dev nD) (t : Fin cfg0.N) (j : Fin 512) :
    iblk m c 3 t (ix2 0 j)
      = m ((c : Thread nD τ).loc main_arg3) (ix3 0 (⟨j.val / 16, by omega⟩ : Fin 32) (⟨j.val % 16, by omega⟩ : Fin 16)) := by
  refine Eq.trans ?_ (coef_eq m c j)
  blk_ext [iblk, idx t]

/-- The gated unit's weights of a point. -/
theorem read_glu (c : Dev nD) (t : Fin cfg0.N) (j k : Fin 512) :
    iblk m c 4 t (ix2 j k) = m ((c : Thread nD τ).loc main_arg4) (ix3 0 j k) := by
  refine Eq.trans ?_ (glu_eq m c j k)
  blk_ext [iblk, idx t]

/-- The gated unit's bias of a point. -/
theorem read_bias (c : Dev nD) (t : Fin cfg0.N) (j : Fin 512) :
    iblk m c 5 t (ix2 0 j) = m ((c : Thread nD τ).loc main_arg5) (ix2 0 j) := by
  refine Eq.trans ?_ (bias_eq m c j)
  blk_ext [iblk, idx t]

/-- The last half rows of a prompt point. -/
theorem read_b (c : Dev nD) (t : Fin cfg0.N) (h : t.val < 33) (r j : Fin 512) :
    iblk m c 6 t (ix2 r j) = m ((c : Thread nD τ).loc main_arg6) (ix2 (⟨t.val * 512 + r.val, by omega⟩ : Fin 16896) j) := by
  have e : min t.val 32 = t.val := by omega
  refine Eq.trans ?_ (congrFun (V_main_arg6 m c) _)
  blk_ext [iblk, idx t, e]

/-- The last half rows of the sample point. -/
theorem read_b' (c : Dev nD) (t : Fin cfg0.N) (r j : Fin 512) :
    iblk m c 7 t (ix2 r j) = m ((c : Thread nD τ).loc main_arg7) (ix2 r j) := by
  refine Eq.trans ?_ (congrFun (V_main_arg7 m c) _)
  blk_ext [iblk, idx t]

/-- The weights of a point. -/
theorem read_w (c : Dev nD) (t : Fin cfg0.N) (j k : Fin 1024) :
    iblk m c 8 t (ix2 j k) = m ((c : Thread nD τ).loc main_arg8) (ix3 0 j k) := by
  refine Eq.trans ?_ (weights_eq m c j k)
  blk_ext [iblk, idx t]

/-- The rows a point adds to. -/
theorem read_x (c : Dev nD) (t : Fin cfg0.N) (r : Fin 512) (k : Fin 1024) :
    iblk m c 9 t (ix2 r k) = m ((c : Thread nD τ).loc main_arg9)
      (ix2 (⟨t.val * 512 + r.val, by have := lt_points t; omega⟩ : Fin 17408) k) := by
  have := lt_points t
  refine Eq.trans ?_ (congrFun (V_main_arg9 m c) _)
  blk_ext [iblk, idx t]

/-- The gain of a point. -/
theorem read_g (c : Dev nD) (t : Fin cfg0.N) (k : Fin 1024) :
    iblk m c 10 t (ix3 0 0 k) = m ((c : Thread nD τ).loc main_arg10) (ix2 0 k) := by
  refine Eq.trans ?_ (gain_eq m c 0 k)
  blk_ext [iblk, idx t]

end Cert.MabIdeal.Att

end
-- ==== Proof.MabRef.lean ====
/- The first layer's output projection, the reference read at one element of its result. -/
module

public import proofs.«01_k».proof.Proof.Gen.MabRefIdeal.Read
public import proofs.«01_k».proof.Proof.MixMath
public import Idealize.ShloMosaic.Lib.Pipeline.ValueKit
public import Idealize.ShloMosaic.Lib.Pointwise

@[expose] public section

set_option maxRecDepth 16384

noncomputable section

namespace Cert.MabRefIdeal.Att

open Idealize.ShloMosaic Idealize.ShloMosaic.TcCoe Idealize.SL.Sem
open Cert.MabRefIdeal Cert.MabRefIdeal.Read Cert.MabRefIdeal.Gen

/-- The update normalised. -/
theorem gen55 (X : FVec Ideal S17408x1024 .f32) (G : FVec Ideal S1024 .f32) (r : Fin 17408) (k : Fin 1024) :
    mulf (mulf X (broadcastInDim S17408x1024 ![0, 1] bcast_S17408x1_S17408x1024_0_1 (Host.rsqrt (addf (Host.divf
      (broadcastInDim S17408x1 ![0] bcast_S17408_S17408x1_0 (Host.reduceAdd (mulf X X) (val_main_cst_5 (F := Ideal))
        reducesTo_S17408x1024_S17408_d1 h_S_)) (val_main_v46 (F := Ideal))) (val_main_v48 (F := Ideal))))))
      (broadcastInDim S17408x1024 ![0, 1] bcast_S1x1024_S17408x1024_0_1 (broadcastInDim S1x1024 ![1] bcast_S1024_S1x1024_1 G))
      (ix2 r k) = FfnMath.norm (fun k => X (ix2 r k)) (fun k => G (ix1 k)) k := by
  pointwise [val_main_cst_5, val_main_v46, val_main_v48, val_main_cst_6, val_main_cst_7]
  rfl

/-- The gain is the first row of its array. -/
theorem gen42 (G : FVec Ideal S2x1024 .f32) (k : Fin 1024) :
    val_main_v42 (F := Ideal) G (ix1 k) = G (ix2 0 k) := by
  pointwise [val_main_v42, val_main_v41]

/-- The two streams' rows one after the other. -/
theorem gen37 (A : FVec Ideal S16896x512 .bf16) (B : FVec Ideal S512x512 .bf16) (r : Fin 17408) (j : Fin 512) :
    val_main_v37 (F := Ideal) A B (ix2 r j) = MixMath.rows (fun i j => A (ix2 i j)) (fun i j => B (ix2 i j)) r j := by
  unfold MixMath.rows
  by_cases h : r.val < 16896
  · rw [dif_pos h]
    pointwise [val_main_v37, val_main_v36]
    rw [dif_pos h]
  · rw [dif_neg h]
    pointwise [val_main_v37, val_main_v36]
    rw [dif_neg h]

/-- The two half rows side by side. -/
theorem gen38 (A B : FVec Ideal S17408x512 .f32) (r : Fin 17408) (j : Fin 1024) :
    concatenate S17408x1024 1 [⟨S17408x512, A⟩, ⟨S17408x512, B⟩] concatenates_S17408x512_S17408x512_S17408x1024_d1 (ix2 r j)
      = if h : j.val < 512 then A (ix2 r (⟨j.val, h⟩ : Fin 512)) else B (ix2 r (⟨j.val - 512, by omega⟩ : Fin 512)) := by
  by_cases h : j.val < 512
  · rw [dif_pos h]
    pointwise
    rw [dif_pos h]
  · rw [dif_neg h]
    pointwise
    rw [dif_neg h]

/-- The product with the weights. -/
theorem gen40 (X : FVec Ideal S17408x1024 .f32) (W : FVec Ideal S1x1024x1024 .f32) (r : Fin 17408) (k : Fin 1024) :
    Host.dotGeneral (F := Ideal) (φ₁ := .f32) (φ₂ := .f32) dot_S17408x1024_S1024x1024_S17408x1024_1_0_0_1_n_n none X (val_main_v39 (F := Ideal) W) (ix2 r k)
      = ∑ j : Fin 1024, X (ix2 r j) * W (ix3 0 j k) := by
  pointwise [val_main_v39]

/-- The product of the half rows. -/
theorem gen3840 (A B : FVec Ideal S17408x512 .f32) (W : FVec Ideal S1x1024x1024 .f32) (r : Fin 17408) (k : Fin 1024) :
    Host.dotGeneral (F := Ideal) (φ₁ := .f32) (φ₂ := .f32) dot_S17408x1024_S1024x1024_S17408x1024_1_0_0_1_n_n none
      (concatenate S17408x1024 1 [⟨S17408x512, A⟩, ⟨S17408x512, B⟩] concatenates_S17408x512_S17408x512_S17408x1024_d1 : FVec Ideal S17408x1024 .f32)
      (val_main_v39 (F := Ideal) W) (ix2 r k)
      = MixMath.product (fun j => A (ix2 r j)) (fun j => B (ix2 r j)) (fun j k => W (ix3 0 j k)) k := by
  rw [gen40, MixMath.split]
  unfold MixMath.product
  refine congrArg₂ (· + ·) (Finset.sum_congr rfl fun j _ => ?_) (Finset.sum_congr rfl fun j _ => ?_)
  · rw [gen38, dif_pos (show j.val < 512 from j.isLt)]
  · rw [gen38, dif_neg (show ¬512 + j.val < 512 by omega)]
    have e : (⟨512 + j.val - 512, by omega⟩ : Fin 512) = j := Fin.ext (by simp only; omega)
    rw [e]

/-- The state space's two streams' rows one after the other. -/
theorem gen2 (A : FVec Ideal S16896x512 .f32) (B : FVec Ideal S512x512 .f32) (r : Fin 17408) (j : Fin 512) :
    val_main_v2 (F := Ideal) A B (ix2 r j) = MixMath.rows (fun i j => A (ix2 i j)) (fun i j => B (ix2 i j)) r j := by
  unfold MixMath.rows
  by_cases h : r.val < 16896
  · rw [dif_pos h]
    pointwise [val_main_v2]
    rw [dif_pos h]
  · rw [dif_neg h]
    pointwise [val_main_v2]
    rw [dif_neg h]

/-- The skip's input and coefficient, read at one element. -/
theorem gen7 (U : FVec Ideal S17408x2304 .f32) (D : FVec Ideal S1x32x16 .f32) (r : Fin 17408) (g : Fin 32) (l : Fin 16) :
    val_main_v7 (F := Ideal) U D (ix3 r g l) = D (ix3 0 g l) * U (ix2 r (⟨g.val * 16 + l.val, by omega⟩ : Fin 2304)) := by
  pointwise [val_main_v7, val_main_v6, val_main_v5, val_main_v4, val_main_v1, val_main_v0]

/-- The state space's row with its skip. -/
theorem gen9 (Y : FVec Ideal S17408x512 .f32) (X : FVec Ideal S17408x32x16 .f32) (r : Fin 17408) (j : Fin 512) :
    shapeCast S17408x512 (addf (shapeCast S17408x32x16 Y shapeCasts_S17408x512_S17408x32x16) X) shapeCasts_S17408x32x16_S17408x512 (ix2 r j)
      = Y (ix2 r j) + X (ix3 r (⟨j.val / 16, by omega⟩ : Fin 32) (⟨j.val % 16, by omega⟩ : Fin 16)) := by
  pointwise

/-- The gate. -/
theorem gen22 (Y : FVec Ideal S17408x512 .f32) (r : Fin 17408) (j : Fin 512) :
    mulf Y (mulf (val_main_v20 (F := Ideal)) (addf (val_main_v18 (F := Ideal)) (Host.tanh (mulf (val_main_v15 (F := Ideal))
      (addf Y (mulf (val_main_v12 (F := Ideal)) (mulf (mulf Y Y) Y))))))) (ix2 r j) = MixMath.gelu (Y (ix2 r j)) := by
  pointwise [val_main_v20, val_main_v18, val_main_v15, val_main_v12, val_main_cst, val_main_cst_0, val_main_cst_1, val_main_cst_2]
  simp only [MixMath.gelu, Ideal.ofBits_one_f32]

/-- The product of the gates with the weights. -/
theorem gen24 (X : FVec Ideal S17408x512 .f32) (W : FVec Ideal S1x512x512 .f32) (r : Fin 17408) (j : Fin 512) :
    Host.dotGeneral (F := Ideal) (φ₁ := .f32) (φ₂ := .f32) dot_S17408x512_S512x512_S17408x512_1_0_0_1_n_n none X (val_main_v23 (F := Ideal) W) (ix2 r j)
      = ∑ k : Fin 512, X (ix2 r k) * W (ix3 0 k j) := by
  pointwise [val_main_v23]

/-- The gated half row. -/
theorem gen35 (G Z : FVec Ideal S17408x512 .f32) (B : FVec Ideal S1x512 .f32) (r : Fin 17408) (j : Fin 512) :
    mulf G (Host.divf (val_main_v33 (F := Ideal)) (addf (val_main_v31 (F := Ideal)) (Host.exp (Host.negf (addf Z (val_main_v27 (F := Ideal) B)))))) (ix2 r j)
      = G (ix2 r j) * Ideal.div 1 (1 + Ideal.exp (-(Z (ix2 r j) + B (ix2 0 j)))) := by
  pointwise [val_main_v33, val_main_v31, val_main_v27, val_main_v26, val_main_v25, val_main_cst_3, val_main_cst_4]

variable (x0 : FVec Ideal S16896x512 .f32) (x1 : FVec Ideal S512x512 .f32) (x2 : FVec Ideal S17408x2304 .f32) (x3 : FVec Ideal S1x32x16 .f32)
  (x4 : FVec Ideal S1x512x512 .f32) (x5 : FVec Ideal S1x512 .f32) (x6 : FVec Ideal S16896x512 .bf16) (x7 : FVec Ideal S512x512 .bf16)
  (x8 : FVec Ideal S1x1024x1024 .f32) (x9 : FVec Ideal S17408x1024 .f32) (x10 : FVec Ideal S2x1024 .f32)

/-- The skip's coefficient of a column. -/
def coef (j : Fin 512) : EReal := x3 (ix3 0 (⟨j.val / 16, by omega⟩ : Fin 32) (⟨j.val % 16, by omega⟩ : Fin 16))

/-- One element of the row with its skip. -/
theorem skip_apply (r : Fin 17408) (j : Fin 512) :
    val_main_v9 (F := Ideal) x0 x1 x2 x3 (ix2 r j)
      = MixMath.skip (MixMath.rows (fun i j => x0 (ix2 i j)) (fun i j => x1 (ix2 i j)) r)
          (fun j => x2 (ix2 r (⟨j.val, by omega⟩ : Fin 2304))) (coef x3) j := by
  refine (gen9 (val_main_v2 (F := Ideal) x0 x1) (val_main_v7 (F := Ideal) x2 x3) r j).trans ?_
  have e : (⟨j.val / 16 * 16 + j.val % 16, by omega⟩ : Fin 2304) = ⟨j.val, by omega⟩ := Fin.ext (by simp only; omega)
  rw [gen2, gen7]
  simp only [e]
  rfl

/-- One gate. -/
theorem gelu_apply (r : Fin 17408) (j : Fin 512) :
    val_main_v22 (F := Ideal) x0 x1 x2 x3 (ix2 r j)
      = MixMath.gelu (MixMath.skip (MixMath.rows (fun i j => x0 (ix2 i j)) (fun i j => x1 (ix2 i j)) r)
          (fun j => x2 (ix2 r (⟨j.val, by omega⟩ : Fin 2304))) (coef x3) j) := by
  refine (gen22 (val_main_v9 (F := Ideal) x0 x1 x2 x3) r j).trans ?_
  rw [skip_apply]

/-- One element of the gated half row. -/
theorem glu_apply (r : Fin 17408) (j : Fin 512) :
    val_main_v35 (F := Ideal) x0 x1 x2 x3 x4 x5 (ix2 r j)
      = MixMath.glu (MixMath.skip (MixMath.rows (fun i j => x0 (ix2 i j)) (fun i j => x1 (ix2 i j)) r)
          (fun j => x2 (ix2 r (⟨j.val, by omega⟩ : Fin 2304))) (coef x3)) (fun k j => x4 (ix3 0 k j)) (fun j => x5 (ix2 0 j)) j := by
  refine (gen35 (val_main_v22 (F := Ideal) x0 x1 x2 x3) (val_main_v24 (F := Ideal) x0 x1 x2 x3 x4) x5 r j).trans ?_
  have h := gen24 (val_main_v22 (F := Ideal) x0 x1 x2 x3) x4 r j
  simp only [gelu_apply] at h ⊢
  unfold MixMath.glu
  exact congrArg (fun z => _ * Ideal.div 1 (1 + Ideal.exp (-(z + x5 (ix2 0 j))))) h

/-- One element of the product. -/
theorem product_apply (r : Fin 17408) (k : Fin 1024) :
    val_main_v40 (F := Ideal) x0 x1 x2 x3 x4 x5 x6 x7 x8 (ix2 r k)
      = MixMath.product (MixMath.glu (MixMath.skip (MixMath.rows (fun i j => x0 (ix2 i j)) (fun i j => x1 (ix2 i j)) r)
          (fun j => x2 (ix2 r (⟨j.val, by omega⟩ : Fin 2304))) (coef x3)) (fun k j => x4 (ix3 0 k j)) (fun j => x5 (ix2 0 j)))
          (MixMath.rows (fun i j => x6 (ix2 i j)) (fun i j => x7 (ix2 i j)) r) (fun j k => x8 (ix3 0 j k)) k := by
  refine (gen3840 (val_main_v35 (F := Ideal) x0 x1 x2 x3 x4 x5) (val_main_v37 (F := Ideal) x6 x7) x8 r k).trans ?_
  simp only [gen37, glu_apply]

/-- One element of the result. -/
theorem result_apply (r : Fin 17408) (k : Fin 1024) :
    val_main_v56 (F := Ideal) x0 x1 x2 x3 x4 x5 x6 x7 x8 x9 x10 (ix2 r k)
      = MixMath.update (MixMath.glu (MixMath.skip (MixMath.rows (fun i j => x0 (ix2 i j)) (fun i j => x1 (ix2 i j)) r)
          (fun j => x2 (ix2 r (⟨j.val, by omega⟩ : Fin 2304))) (coef x3)) (fun k j => x4 (ix3 0 k j)) (fun j => x5 (ix2 0 j)))
          (MixMath.rows (fun i j => x6 (ix2 i j)) (fun i j => x7 (ix2 i j)) r) (fun j k => x8 (ix3 0 j k))
          (fun k => x9 (ix2 r k)) (fun k => x10 (ix2 0 k)) k := by
  have h := gen55 (val_main_v40 (F := Ideal) x0 x1 x2 x3 x4 x5 x6 x7 x8) (val_main_v42 (F := Ideal) x10) r k
  simp only [gen42, product_apply] at h
  unfold MixMath.update
  exact congrArg (fun z => x9 (ix2 r k) + z) h

end Cert.MabRefIdeal.Att

end
-- ==== Proof.MabValue.lean ====
/- The first layer's output projection: the blocks it writes, and the array it leaves. -/
module

public import proofs.«01_k».proof.Proof.Gen.MabIdeal.Value
public import proofs.«01_k».proof.Proof.MabKernel
public import proofs.«01_k».proof.Proof.MabRef
public import Idealize.ShloMosaic.Lib.Pipeline.ReadBack

@[expose] public section

set_option maxRecDepth 16384

noncomputable section

namespace Cert.MabIdeal.Att

open Idealize.ShloMosaic Idealize.ShloMosaic.TcCoe Idealize.SL.Sem
open Cert.MabIdeal Cert.MabIdeal.Gen

variable (m : (ℓ : Loc nD τ sig) → Buf (Elt Ideal) ℓ)

/-- The row of the result that row `r` of a point's block is. -/
def row (t : Fin cfg0.N) (r : Fin 512) : Fin 17408 := ⟨t.val * 512 + r.val, by have := lt_points t; omega⟩

/-- The state space's rows of a point. -/
theorem half_a (c : Dev nD) (t : Fin cfg0.N) (r j : Fin 512) :
    (if t.val < 33 then iblk m c 0 t else iblk m c 1 t : Vec Ideal S512x512 .f32) (ix2 r j)
      = MixMath.rows (fun i j => m ((c : Thread nD τ).loc main_arg0) (ix2 i j)) (fun i j => m ((c : Thread nD τ).loc main_arg1) (ix2 i j)) (row t r) j := by
  have := lt_points t
  unfold MixMath.rows
  by_cases h : t.val < 33
  · rw [if_pos h, dif_pos (show (row t r).val < 16896 by simp only [row]; omega)]
    exact read_a m c t h r j
  · have e : (⟨(row t r).val - 16896, by omega⟩ : Fin 512) = r := Fin.ext (by simp only [row]; omega)
    rw [if_neg h, dif_neg (show ¬(row t r).val < 16896 by simp only [row]; omega), e]
    exact read_a' m c t r j

/-- The last half rows of a point. -/
theorem half_b (c : Dev nD) (t : Fin cfg0.N) (r j : Fin 512) :
    (if t.val < 33 then iblk m c 6 t else iblk m c 7 t : Vec Ideal S512x512 .bf16) (ix2 r j)
      = MixMath.rows (fun i j => m ((c : Thread nD τ).loc main_arg6) (ix2 i j)) (fun i j => m ((c : Thread nD τ).loc main_arg7) (ix2 i j)) (row t r) j := by
  have := lt_points t
  unfold MixMath.rows
  by_cases h : t.val < 33
  · rw [if_pos h, dif_pos (show (row t r).val < 16896 by simp only [row]; omega)]
    exact read_b m c t h r j
  · have e : (⟨(row t r).val - 16896, by omega⟩ : Fin 512) = r := Fin.ext (by simp only [row]; omega)
    rw [if_neg h, dif_neg (show ¬(row t r).val < 16896 by simp only [row]; omega), e]
    exact read_b' m c t r j

/-- Some rows of the weights. -/
theorem ld_rows {R C k o : ℕ} {e : EltTy} (x : (⟨2, ![R, C]⟩ : Shape).Idx → Elt Ideal e)
    (inb : ∀ a, (![o, 0] : Fin 2 → ℕ) a + (![k, C] : Fin 2 → ℕ) a ≤ (![R, C] : Fin 2 → ℕ) a) (r : Fin k) (j : Fin C) (i : Fin R) (hi : i.val = o + r.val) :
    View.ld (Val := Elt Ideal) x (Rect.unit (s := (⟨2, ![R, C]⟩ : Shape)) ![o, 0] ![k, C] inb) (ix2 r j) = x (ix2 i j) := by
  refine congrArg x (funext fun a => Fin.ext ?_)
  fin_cases a
  · show o + 1 * r.val = i.val
    omega
  · show 0 + 1 * j.val = j.val
    omega

/-- A block read whole is the block. -/
theorem whole2 {a b : ℕ} {e : EltTy} (x : (⟨2, ![a, b]⟩ : Shape).Idx → Elt Ideal e) (inb) :
    View.ld (Val := Elt Ideal) x (Rect.unit (s := (⟨2, ![a, b]⟩ : Shape)) ![0, 0] ![a, b] inb) = x := by
  funext y
  refine congrArg x (funext fun i => Fin.ext ?_)
  fin_cases i
  · show 0 + 1 * (y 0).val = (y 0).val
    omega
  · show 0 + 1 * (y 1).val = (y 1).val
    omega

/-- A block read whole is the block. -/
theorem whole3 {a b d : ℕ} {e : EltTy} (x : (⟨3, ![a, b, d]⟩ : Shape).Idx → Elt Ideal e) (inb) :
    View.ld (Val := Elt Ideal) x (Rect.unit (s := (⟨3, ![a, b, d]⟩ : Shape)) ![0, 0, 0] ![a, b, d] inb) = x := by
  funext y
  refine congrArg x (funext fun i => Fin.ext ?_)
  fin_cases i
  · show 0 + 1 * (y 0).val = (y 0).val
    omega
  · show 0 + 1 * (y 1).val = (y 1).val
    omega
  · show 0 + 1 * (y 2).val = (y 2).val
    omega

/-- The upper half of the weights. -/
theorem upper (c : Dev nD) (t : Fin cfg0.N) (j : Fin 512) (k : Fin 1024) :
    View.ld (Val := Elt Ideal) (iblk m c 8 t) (Rect.unit ![0, 0] ![512, 1024] inb_S1024x1024_S512x1024_0_0) (ix2 j k) = m ((c : Thread nD τ).loc main_arg8) (ix3 0 ⟨j.val, by omega⟩ k) :=
  (ld_rows (o := 0) (iblk m c 8 t) inb_S1024x1024_S512x1024_0_0 j k (⟨j.val, by omega⟩ : Fin 1024) (Nat.zero_add j.val).symm).trans (read_w m c t _ k)

/-- The lower half of the weights. -/
theorem lower (c : Dev nD) (t : Fin cfg0.N) (j : Fin 512) (k : Fin 1024) :
    View.ld (Val := Elt Ideal) (iblk m c 8 t) (Rect.unit ![512, 0] ![512, 1024] inb_S1024x1024_S512x1024_512_0) (ix2 j k) = m ((c : Thread nD τ).loc main_arg8) (ix3 0 ⟨512 + j.val, by omega⟩ k) :=
  (ld_rows (o := 512) (iblk m c 8 t) inb_S1024x1024_S512x1024_512_0 j k (⟨512 + j.val, by omega⟩ : Fin 1024) rfl).trans (read_w m c t _ k)

/-- The block a point writes. -/
theorem block_apply (c : Dev nD) (t : Fin cfg0.N) (r : Fin 512) (k : Fin 1024) :
    outsAt0 m c t (ix2 r k)
      = Cert.MabRefIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row t r) k) := by
  refine Eq.trans ?_ (MabRefIdeal.Att.result_apply _ _ _ _ _ _ _ _ _ _ _ _ _).symm
  unfold outsAt0
  frame_out
  refine (pay1_apply _ (grid0.coords t 0).isLt _ _ _ _ _ _ _ _ (fun j k => m ((c : Thread nD τ).loc main_arg8) (ix3 0 j k)) (fun j k => upper m c t j k)
    (fun j k => lower m c t j k) r k).trans ?_
  simp only [glu_apply, coord t, half_a, half_b, read_u, read_d, read_glu, read_bias, read_x, read_g]
  rfl

set_option maxHeartbeats 1600000 in
/-- The result after the run. -/
theorem final (c : Dev nD) :
    (dats m 0 c).arrAt 11 cfg0.N = Cert.MabRefIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t hf y => ?_
  have ht := lt_points t
  blk_simp
  rw [after0_11]
  idx_vars y
  have e : ((View.whole main_v9).slice (win0_11.rect t)).emb (ix2 y0 y1) = ix2 (row t y0) y1 := by
    blk_ext [idx t, row]
  rw [e]
  exact block_apply m c t y0 y1

end Cert.MabIdeal.Att

end
-- ==== Proof.MabClaim.lean ====
/- The first output projection's claims, each as the generated statement has it. -/
module

public import proofs.«01_k».proof.Defs
public import proofs.«01_k».proof.Proof.MabValue
public import proofs.«01_k».proof.Proof.Gen.MabRefIdeal.Run
public import proofs.«01_k».proof.Proof.Gen.Mab.Frame
public import Idealize.ShloMosaic.Lib.Claim

@[expose] public section

set_option maxRecDepth 16384

noncomputable section

namespace Cert.MabClaim

open Idealize.ShloMosaic Idealize.SL.Sem

/-- The reference runs and leaves its arguments. -/
theorem reference_frame : @Cert.quiescent_MabRefIdeal Cert.MabRefIdeal.Gen.facts := by
  intro m g _
  exact (θ_run _ _ _).mono (fun r h => ⟨fun c => (h c).2, sem_eq_zero_of_no_sems rfl r.2⟩) (Cert.MabRefIdeal.Value.run m g)

set_option maxHeartbeats 1600000 in
/-- The idealized kernel and the reference leave the same array. -/
theorem algebraic : @Cert.algebraic_MabIdeal_MabRefIdeal Cert.MabIdeal.Gen.facts Cert.MabRefIdeal.Gen.facts := by
  intro m g m' g' _ hagree
  refine ⟨fun c => (Cert.MabIdeal.Gen.dats m 0 c).arrAt 11 Cert.MabIdeal.cfg0.N, ?_, ?_⟩
  · run_from Cert.MabIdeal.Value.run_blocks m g
  · run_from Cert.MabRefIdeal.Value.run m' g'
    obtain ⟨a0, a1, a2, a3, a4, a5, a6, a7, a8, a9, a10⟩ := hagree c
    refine (Cert.MabRefIdeal.Read.val_main_v56_eq m' c).trans ?_
    rw [a0, a1, a2, a3, a4, a5, a6, a7, a8, a9, a10]
    exact (Cert.MabIdeal.Att.final m c).symm

end Cert.MabClaim

end
-- ==== Proof.lean ====
/- The claim: its conjuncts in the order of the generated statement. -/
module

public import proofs.«01_k».proof.Defs
public import proofs.«01_k».proof.Proof.FoxClaim
public import proofs.«01_k».proof.Proof.FfnClaim
public import proofs.«01_k».proof.Proof.PabClaim
public import proofs.«01_k».proof.Proof.PcdClaim
public import proofs.«01_k».proof.Proof.SsdClaim
public import proofs.«01_k».proof.Proof.McdClaim
public import proofs.«01_k».proof.Proof.MabClaim
public import proofs.«01_k».proof.Proof.Gen.McdIdeal.Frame
public import proofs.«01_k».proof.Proof.Gen.MabIdeal.Frame

@[expose] public section

namespace Cert.Proof

open Idealize.ShloMosaic Idealize.SL.Sem

theorem claim : Cert.Claim :=
  ⟨Cert.Fox.Gen.facts, Cert.FoxIdeal.Gen.facts, Cert.FoxRefIdeal.Gen.facts,
    Cert.Ffn.Gen.facts, Cert.FfnIdeal.Gen.facts, Cert.FfnRefIdeal.Gen.facts,
    Cert.Pab.Gen.facts, Cert.PabIdeal.Gen.facts, Cert.PabRefIdeal.Gen.facts,
    Cert.Pcd.Gen.facts, Cert.PcdIdeal.Gen.facts, Cert.PcdRefIdeal.Gen.facts,
    Cert.Ssd.Gen.facts, Cert.SsdIdeal.Gen.facts, Cert.SsdRefIdeal.Gen.facts,
    Cert.Mcd.Gen.facts, Cert.McdIdeal.Gen.facts, Cert.McdRefIdeal.Gen.facts,
    Cert.Mab.Gen.facts, Cert.MabIdeal.Gen.facts, Cert.MabRefIdeal.Gen.facts,
    Cert.Pre_finite_scores.side, Cert.Pre_decaying.side,
    fun m ρ _ => Cert.Fox.Gen.frame m ρ, fun m ρ _ => Cert.FoxIdeal.Gen.frame m ρ,
    fun m ρ _ => Cert.FoxIdeal.Gen.frame m ρ, Cert.FoxClaim.reference_frame,
    Cert.FoxClaim.reference_frame_pre,
    fun m ρ _ => Cert.Ffn.Gen.frame m ρ, fun m ρ _ => Cert.FfnIdeal.Gen.frame m ρ,
    Cert.FfnClaim.reference_frame,
    fun m ρ _ => Cert.Pab.Gen.frame m ρ, fun m ρ _ => Cert.PabIdeal.Gen.frame m ρ,
    Cert.PabClaim.reference_frame,
    fun m ρ _ => Cert.Pcd.Gen.frame m ρ, fun m ρ _ => Cert.PcdIdeal.Gen.frame m ρ,
    Cert.PcdClaim.reference_frame,
    fun m ρ _ => Cert.Ssd.Gen.frame m ρ, fun m ρ _ => Cert.SsdIdeal.Gen.frame m ρ,
    fun m ρ _ => Cert.SsdIdeal.Gen.frame m ρ, Cert.SsdClaim.reference_frame,
    Cert.SsdClaim.reference_frame_pre,
    fun m ρ _ => Cert.Mcd.Gen.frame m ρ, fun m ρ _ => Cert.McdIdeal.Gen.frame m ρ,
    Cert.McdClaim.reference_frame,
    fun m ρ _ => Cert.Mab.Gen.frame m ρ, fun m ρ _ => Cert.MabIdeal.Gen.frame m ρ,
    Cert.MabClaim.reference_frame,
    trivial, Cert.FoxClaim.algebraic, trivial, Cert.FfnClaim.algebraic,
    trivial, Cert.PabClaim.algebraic, trivial, Cert.PcdClaim.algebraic,
    trivial, Cert.SsdClaim.algebraic, trivial, Cert.McdClaim.algebraic,
    trivial, Cert.MabClaim.algebraic⟩

end Cert.Proof
